-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_tame [hPre_tame : Cert.Pre_tame.Facts] (m : (ℓ : Loc Cert.FrontIdeal.nD Cert.FrontIdeal.τ Cert.FrontIdeal.sig) → Buf (Elt Ideal) ℓ) : Prop :=
  ∀ c : Dev Cert.FrontIdeal.nD,
    (Cert.Pre_tame.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8))) = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_tame [hPre_tame : Cert.Pre_tame.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_tame.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3)) (m ((c.tc : Thread Cert.FrontRefIdeal.nD Cert.FrontRefIdeal.τ).loc Cert.FrontRefIdeal.main_arg4)) (m ((c.tc : Thread Cert.FrontRefIdeal.nD Cert.FrontRefIdeal.τ).loc Cert.FrontRefIdeal.main_arg5)) (m ((c.tc : Thread Cert.FrontRefIdeal.nD Cert.FrontRefIdeal.τ).loc Cert.FrontRefIdeal.main_arg6)) (m ((c.tc : Thread Cert.FrontRefIdeal.nD Cert.FrontRefIdeal.τ).loc Cert.FrontRefIdeal.main_arg7)) (m ((c.tc : Thread Cert.FrontRefIdeal.nD Cert.FrontRefIdeal.τ).loc Cert.FrontRefIdeal.main_arg8))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ r.2.sem = fun _ => 0)

def quiescent_FrontIdeal_pre_tame [hFrontIdeal : Cert.FrontIdeal.Facts] [hPre_tame : Cert.Pre_tame.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_tame m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8))
      ∧ r.2.sem = fun _ => 0)

def quiescent_FrontRefIdeal_pre_tame [hFrontRefIdeal : Cert.FrontRefIdeal.Facts] [hPre_tame : Cert.Pre_tame.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_tame m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4)
      ∧ r.2.mem ((c.tc : Thread Cert.FrontRefIdeal.nD Cert.FrontRefIdeal.τ).loc Cert.FrontRefIdeal.main_arg5) = m ((c.tc : Thread Cert.FrontRefIdeal.nD Cert.FrontRefIdeal.τ).loc Cert.FrontRefIdeal.main_arg5)
      ∧ r.2.mem ((c.tc : Thread Cert.FrontRefIdeal.nD Cert.FrontRefIdeal.τ).loc Cert.FrontRefIdeal.main_arg6) = m ((c.tc : Thread Cert.FrontRefIdeal.nD Cert.FrontRefIdeal.τ).loc Cert.FrontRefIdeal.main_arg6)
      ∧ r.2.mem ((c.tc : Thread Cert.FrontRefIdeal.nD Cert.FrontRefIdeal.τ).loc Cert.FrontRefIdeal.main_arg7) = m ((c.tc : Thread Cert.FrontRefIdeal.nD Cert.FrontRefIdeal.τ).loc Cert.FrontRefIdeal.main_arg7)
      ∧ r.2.mem ((c.tc : Thread Cert.FrontRefIdeal.nD Cert.FrontRefIdeal.τ).loc Cert.FrontRefIdeal.main_arg8) = m ((c.tc : Thread Cert.FrontRefIdeal.nD Cert.FrontRefIdeal.τ).loc Cert.FrontRefIdeal.main_arg8))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9)
      ∧ r.2.mem ((c.tc : Thread Cert.FinishRefIdeal.nD Cert.FinishRefIdeal.τ).loc Cert.FinishRefIdeal.main_arg10) = m ((c.tc : Thread Cert.FinishRefIdeal.nD Cert.FinishRefIdeal.τ).loc Cert.FinishRefIdeal.main_arg10))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def preserves_Front_FrontIdeal : Prop :=
  True

def algebraic_FrontIdeal_FrontRefIdeal_pre_tame [hFrontIdeal : Cert.FrontIdeal.Facts] [hFrontRefIdeal : Cert.FrontRefIdeal.Facts] [hPre_tame : Cert.Pre_tame.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_tame m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)
      ∧ m' ((c.tc : Thread Cert.FrontRefIdeal.nD Cert.FrontRefIdeal.τ).loc Cert.FrontRefIdeal.main_arg5) = m ((c.tc : Thread Cert.FrontIdeal.nD Cert.FrontIdeal.τ).loc Cert.FrontIdeal.main_arg5)
      ∧ m' ((c.tc : Thread Cert.FrontRefIdeal.nD Cert.FrontRefIdeal.τ).loc Cert.FrontRefIdeal.main_arg6) = m ((c.tc : Thread Cert.FrontIdeal.nD Cert.FrontIdeal.τ).loc Cert.FrontIdeal.main_arg6)
      ∧ m' ((c.tc : Thread Cert.FrontRefIdeal.nD Cert.FrontRefIdeal.τ).loc Cert.FrontRefIdeal.main_arg7) = m ((c.tc : Thread Cert.FrontIdeal.nD Cert.FrontIdeal.τ).loc Cert.FrontIdeal.main_arg7)
      ∧ m' ((c.tc : Thread Cert.FrontRefIdeal.nD Cert.FrontRefIdeal.τ).loc Cert.FrontRefIdeal.main_arg8) = m ((c.tc : Thread Cert.FrontIdeal.nD Cert.FrontIdeal.τ).loc Cert.FrontIdeal.main_arg8)) →
    ∃ (v0 : (c : Dev Cert.FrontIdeal.nD) → Buf (Elt Ideal) ((c.tc : Thread Cert.FrontIdeal.nD Cert.FrontIdeal.τ).loc Cert.FrontIdeal.main_v10_0)) (v1 : (c : Dev Cert.FrontIdeal.nD) → Buf (Elt Ideal) ((c.tc : Thread Cert.FrontIdeal.nD Cert.FrontIdeal.τ).loc Cert.FrontIdeal.main_v10_1)) (v2 : (c : Dev Cert.FrontIdeal.nD) → Buf (Elt Ideal) ((c.tc : Thread Cert.FrontIdeal.nD Cert.FrontIdeal.τ).loc Cert.FrontIdeal.main_v10_2)) (v3 : (c : Dev Cert.FrontIdeal.nD) → Buf (Elt Ideal) ((c.tc : Thread Cert.FrontIdeal.nD Cert.FrontIdeal.τ).loc Cert.FrontIdeal.main_v10_3)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v10_0) = v0 c
          ∧ r.2.mem ((c.tc : Thread Cert.FrontIdeal.nD Cert.FrontIdeal.τ).loc Cert.FrontIdeal.main_v10_1) = v1 c
          ∧ r.2.mem ((c.tc : Thread Cert.FrontIdeal.nD Cert.FrontIdeal.τ).loc Cert.FrontIdeal.main_v10_2) = v2 c
          ∧ r.2.mem ((c.tc : Thread Cert.FrontIdeal.nD Cert.FrontIdeal.τ).loc Cert.FrontIdeal.main_v10_3) = v3 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v179) = v0 c
          ∧ r.2.mem ((c.tc : Thread Cert.FrontRefIdeal.nD Cert.FrontRefIdeal.τ).loc Cert.FrontRefIdeal.main_v180) = v1 c
          ∧ r.2.mem ((c.tc : Thread Cert.FrontRefIdeal.nD Cert.FrontRefIdeal.τ).loc Cert.FrontRefIdeal.main_v181) = v2 c
          ∧ r.2.mem ((c.tc : Thread Cert.FrontRefIdeal.nD Cert.FrontRefIdeal.τ).loc Cert.FrontRefIdeal.main_v182) = v3 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4)
          ∧ r.2.mem ((c.tc : Thread Cert.FrontRefIdeal.nD Cert.FrontRefIdeal.τ).loc Cert.FrontRefIdeal.main_arg5) = m' ((c.tc : Thread Cert.FrontRefIdeal.nD Cert.FrontRefIdeal.τ).loc Cert.FrontRefIdeal.main_arg5)
          ∧ r.2.mem ((c.tc : Thread Cert.FrontRefIdeal.nD Cert.FrontRefIdeal.τ).loc Cert.FrontRefIdeal.main_arg6) = m' ((c.tc : Thread Cert.FrontRefIdeal.nD Cert.FrontRefIdeal.τ).loc Cert.FrontRefIdeal.main_arg6)
          ∧ r.2.mem ((c.tc : Thread Cert.FrontRefIdeal.nD Cert.FrontRefIdeal.τ).loc Cert.FrontRefIdeal.main_arg7) = m' ((c.tc : Thread Cert.FrontRefIdeal.nD Cert.FrontRefIdeal.τ).loc Cert.FrontRefIdeal.main_arg7)
          ∧ r.2.mem ((c.tc : Thread Cert.FrontRefIdeal.nD Cert.FrontRefIdeal.τ).loc Cert.FrontRefIdeal.main_arg8) = m' ((c.tc : Thread Cert.FrontRefIdeal.nD Cert.FrontRefIdeal.τ).loc Cert.FrontRefIdeal.main_arg8))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)
      ∧ m' ((c.tc : Thread Cert.FinishRefIdeal.nD Cert.FinishRefIdeal.τ).loc Cert.FinishRefIdeal.main_arg10) = m ((c.tc : Thread Cert.FinishIdeal.nD Cert.FinishIdeal.τ).loc Cert.FinishIdeal.main_arg10)) →
    ∃ (v0 : (c : Dev Cert.FinishIdeal.nD) → Buf (Elt Ideal) ((c.tc : Thread Cert.FinishIdeal.nD Cert.FinishIdeal.τ).loc Cert.FinishIdeal.main_v18)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v18) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v92) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9)
          ∧ r.2.mem ((c.tc : Thread Cert.FinishRefIdeal.nD Cert.FinishRefIdeal.τ).loc Cert.FinishRefIdeal.main_arg10) = m' ((c.tc : Thread Cert.FinishRefIdeal.nD Cert.FinishRefIdeal.τ).loc Cert.FinishRefIdeal.main_arg10))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v17)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v17) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v93) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10))

def Claim : Prop :=
  ∃ (hFront : Cert.Front.Facts) (hFrontIdeal : Cert.FrontIdeal.Facts) (hFrontRefIdeal : Cert.FrontRefIdeal.Facts) (hFinish : Cert.Finish.Facts) (hFinishIdeal : Cert.FinishIdeal.Facts) (hFinishRefIdeal : Cert.FinishRefIdeal.Facts) (hSample : Cert.Sample.Facts) (hSampleIdeal : Cert.SampleIdeal.Facts) (hSampleRefIdeal : Cert.SampleRefIdeal.Facts) (hPre_tame : Cert.Pre_tame.Facts),
    quiescent_Front (hFront := hFront)
    ∧ quiescent_FrontIdeal (hFrontIdeal := hFrontIdeal)
    ∧ quiescent_FrontIdeal_pre_tame (hFrontIdeal := hFrontIdeal) (hPre_tame := hPre_tame)
    ∧ quiescent_FrontRefIdeal (hFrontRefIdeal := hFrontRefIdeal)
    ∧ quiescent_FrontRefIdeal_pre_tame (hFrontRefIdeal := hFrontRefIdeal) (hPre_tame := hPre_tame)
    ∧ quiescent_Finish (hFinish := hFinish)
    ∧ quiescent_FinishIdeal (hFinishIdeal := hFinishIdeal)
    ∧ quiescent_FinishRefIdeal (hFinishRefIdeal := hFinishRefIdeal)
    ∧ quiescent_Sample (hSample := hSample)
    ∧ quiescent_SampleIdeal (hSampleIdeal := hSampleIdeal)
    ∧ quiescent_SampleRefIdeal (hSampleRefIdeal := hSampleRefIdeal)
    ∧ preserves_Front_FrontIdeal
    ∧ algebraic_FrontIdeal_FrontRefIdeal_pre_tame (hFrontIdeal := hFrontIdeal) (hFrontRefIdeal := hFrontRefIdeal) (hPre_tame := hPre_tame)
    ∧ preserves_Finish_FinishIdeal
    ∧ algebraic_FinishIdeal_FinishRefIdeal (hFinishIdeal := hFinishIdeal) (hFinishRefIdeal := hFinishRefIdeal)
    ∧ preserves_Sample_SampleIdeal
    ∧ algebraic_SampleIdeal_SampleRefIdeal (hSampleIdeal := hSampleIdeal) (hSampleRefIdeal := hSampleRefIdeal)
-- ==== Pre_tame.lean ====
abbrev S8x2048x1024 : Shape := ⟨3, ![8, 2048, 1024]⟩
abbrev S16x1280 : Shape := ⟨2, ![16, 1280]⟩
abbrev S2x8x128x256 : Shape := ⟨4, ![2, 8, 128, 256]⟩
abbrev S1024 : Shape := ⟨1, ![1024]⟩
abbrev S1x1024x1280 : Shape := ⟨3, ![1, 1024, 1280]⟩
abbrev S1x4x128x128 : Shape := ⟨4, ![1, 4, 128, 128]⟩
abbrev S1x512 : Shape := ⟨2, ![1, 512]⟩
abbrev S1x8 : Shape := ⟨2, ![1, 8]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S16x1280 : S_.BroadcastsInDim S16x1280 (![] : Fin 0 → Fin S16x1280.rank)
  reducesTo_S16x1280_S_d0_1 : S16x1280.ReducesTo [0, 1] S_
  bcast_S_S1024 : S_.BroadcastsInDim S1024 (![] : Fin 0 → Fin S1024.rank)
  reducesTo_S1024_S_d0 : S1024.ReducesTo [0] S_
  bcast_S_S1x1024x1280 : S_.BroadcastsInDim S1x1024x1280 (![] : Fin 0 → Fin S1x1024x1280.rank)
  reducesTo_S1x1024x1280_S_d0_1_2 : S1x1024x1280.ReducesTo [0, 1, 2] S_
  bcast_S_S1x8 : S_.BroadcastsInDim S1x8 (![] : Fin 0 → Fin S1x8.rank)
  reducesTo_S1x8_S_d0_1 : S1x8.ReducesTo [0, 1] S_
  bcast_S_S2x8x128x256 : S_.BroadcastsInDim S2x8x128x256 (![] : Fin 0 → Fin S2x8x128x256.rank)
  reducesTo_S2x8x128x256_S_d0_1_2_3 : S2x8x128x256.ReducesTo [0, 1, 2, 3] S_

variable [Facts]

def fn_part1 {F : FTy → Type} [FloatOps F] (main_arg2 : FVec F S2x8x128x256 .f32) (main_arg5 : FVec F S1x1024x1280 .f32) (main_arg8 : FVec F S1x8 .f32) (main_v3 : IVec S_ 1) (main_v7 : IVec S_ 1) (main_v11 : IVec S_ 1) (main_v15 : IVec S_ 1) : IVec S_ 1 :=
  let main_v16 : FVec F S1x1024x1280 .f32 := Host.absf main_arg5
  let main_cst_6 : FVec F S_ .f32 := constant S_ .f32 0x7F800000#32
  let main_v17 : FVec F S1x1024x1280 .f32 := broadcastInDim S1x1024x1280 ![] bcast_S_S1x1024x1280 main_cst_6
  let main_v18 : IVec S1x1024x1280 1 := cmpf .olt main_v16 main_v17
  let main_c_7 : IVec S_ 1 := constantI S_ 1 1#1
  let main_v19 : IVec S_ 1 := (fun x v => Host.reduce IntOp.andi x v reducesTo_S1x1024x1280_S_d0_1_2 h_S_) main_v18 main_c_7
  let main_v20 : FVec F S1x8 .f32 := Host.absf main_arg8
  let main_cst_8 : FVec F S_ .f32 := constant S_ .f32 0x7F800000#32
  let main_v21 : FVec F S1x8 .f32 := broadcastInDim S1x8 ![] bcast_S_S1x8 main_cst_8
  let main_v22 : IVec S1x8 1 := cmpf .olt main_v20 main_v21
  let main_c_9 : IVec S_ 1 := constantI S_ 1 1#1
  let main_v23 : IVec S_ 1 := (fun x v => Host.reduce IntOp.andi x v reducesTo_S1x8_S_d0_1 h_S_) main_v22 main_c_9
  let main_cst_10 : FVec F S_ .f32 := constant S_ .f32 0x7F800000#32
  let main_v24 : FVec F S2x8x128x256 .f32 := broadcastInDim S2x8x128x256 ![] bcast_S_S2x8x128x256 main_cst_10
  let main_v25 : IVec S2x8x128x256 1 := cmpf .olt main_arg2 main_v24
  let main_c_11 : IVec S_ 1 := constantI S_ 1 1#1
  let main_v26 : IVec S_ 1 := (fun x v => Host.reduce IntOp.andi x v reducesTo_S2x8x128x256_S_d0_1_2_3 h_S_) main_v25 main_c_11
  let main_v27 : IVec S_ 1 := andi main_v26 main_v3
  let main_v28 : IVec S_ 1 := andi main_v27 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  main_v32

def fn {F : FTy → Type} [FloatOps F] (main_arg0 : FVec F S8x2048x1024 .f32) (main_arg1 : FVec F S16x1280 .f32) (main_arg2 : FVec F S2x8x128x256 .f32) (main_arg3 : FVec F S1024 .f32) (main_arg4 : FVec F S1024 .f32) (main_arg5 : FVec F S1x1024x1280 .f32) (main_arg6 : FVec F S1x4x128x128 .f32) (main_arg7 : FVec F S1x512 .f32) (main_arg8 : FVec F S1x8 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S16x1280 .f32 := Host.absf main_arg1
  let main_cst_0 : FVec F S_ .f32 := constant S_ .f32 0x7F800000#32
  let main_v5 : FVec F S16x1280 .f32 := broadcastInDim S16x1280 ![] bcast_S_S16x1280 main_cst_0
  let main_v6 : IVec S16x1280 1 := cmpf .olt main_v4 main_v5
  let main_c_1 : IVec S_ 1 := constantI S_ 1 1#1
  let main_v7 : IVec S_ 1 := (fun x v => Host.reduce IntOp.andi x v reducesTo_S16x1280_S_d0_1 h_S_) main_v6 main_c_1
  let main_v8 : FVec F S1024 .f32 := Host.absf main_arg3
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S1024 .f32 := Host.absf main_arg4
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg2 main_arg5 main_arg8 main_v3 main_v7 main_v11 main_v15
-- ==== Front.lean ====
abbrev S8x2048x1024 : Shape := ⟨3, ![8, 2048, 1024]⟩
abbrev S16x1280 : Shape := ⟨2, ![16, 1280]⟩
abbrev S2x8x128x256 : Shape := ⟨4, ![2, 8, 128, 256]⟩
abbrev S1024 : Shape := ⟨1, ![1024]⟩
abbrev S1x1024x1280 : Shape := ⟨3, ![1, 1024, 1280]⟩
abbrev S1x4x128x128 : Shape := ⟨4, ![1, 4, 128, 128]⟩
abbrev S1x512 : Shape := ⟨2, ![1, 512]⟩
abbrev S1x8 : Shape := ⟨2, ![1, 8]⟩
abbrev S1x1024 : Shape := ⟨2, ![1, 1024]⟩
abbrev S1024x1280 : Shape := ⟨2, ![1024, 1280]⟩
abbrev S4x128x128 : Shape := ⟨3, ![4, 128, 128]⟩
abbrev S512 : Shape := ⟨1, ![512]⟩
abbrev S8 : Shape := ⟨1, ![8]⟩
abbrev S8x128x128 : Shape := ⟨3, ![8, 128, 128]⟩
abbrev S8x16x512 : Shape := ⟨3, ![8, 16, 512]⟩
abbrev S1x512x1024 : Shape := ⟨3, ![1, 512, 1024]⟩
abbrev S1x128x128 : Shape := ⟨3, ![1, 128, 128]⟩
abbrev S1x16x512 : Shape := ⟨3, ![1, 16, 512]⟩
abbrev S4x640x128 : Shape := ⟨3, ![4, 640, 128]⟩
abbrev S528x512 : Shape := ⟨2, ![528, 512]⟩
abbrev S1x128 : Shape := ⟨2, ![1, 128]⟩
abbrev S112x128 : Shape := ⟨2, ![112, 128]⟩
abbrev S16x128 : Shape := ⟨2, ![16, 128]⟩
abbrev S128x128 : Shape := ⟨2, ![128, 128]⟩
abbrev S16x512 : Shape := ⟨2, ![16, 512]⟩
abbrev S512x1024 : Shape := ⟨2, ![512, 1024]⟩
abbrev S512x1 : Shape := ⟨2, ![512, 1]⟩
abbrev S512x1280 : Shape := ⟨2, ![512, 1280]⟩
abbrev S512x512 : Shape := ⟨2, ![512, 512]⟩
abbrev S512x128 : Shape := ⟨2, ![512, 128]⟩
abbrev S1x512x512 : Shape := ⟨3, ![1, 512, 512]⟩
abbrev S1x512x128 : Shape := ⟨3, ![1, 512, 128]⟩
abbrev S256x128 : Shape := ⟨2, ![256, 128]⟩
abbrev S1x256x128 : Shape := ⟨3, ![1, 256, 128]⟩
abbrev S256x256 : Shape := ⟨2, ![256, 256]⟩
abbrev S128x256 : Shape := ⟨2, ![128, 256]⟩
abbrev S1x1x128x256 : Shape := ⟨4, ![1, 1, 128, 256]⟩
abbrev S1x1 : Shape := ⟨2, ![1, 1]⟩
abbrev S128 : Shape := ⟨1, ![128]⟩
abbrev S128x1 : Shape := ⟨2, ![128, 1]⟩

abbrev nBuf : Space → Nat
  | .hbm => 23
  | .vmem => 20
  | .smem => 1
  | _ => 0

abbrev bufTy : (tb : Table) → Fin (tcTables nBuf tb) → BufTy
  | .hbm, ⟨0, _⟩ => ⟨S8x2048x1024, .f32⟩
  | .hbm, ⟨1, _⟩ => ⟨S16x1280, .f32⟩
  | .hbm, ⟨2, _⟩ => ⟨S2x8x128x256, .f32⟩
  | .hbm, ⟨3, _⟩ => ⟨S1024, .f32⟩
  | .hbm, ⟨4, _⟩ => ⟨S1024, .f32⟩
  | .hbm, ⟨5, _⟩ => ⟨S1x1024x1280, .f32⟩
  | .hbm, ⟨6, _⟩ => ⟨S1x4x128x128, .f32⟩
  | .hbm, ⟨7, _⟩ => ⟨S1x512, .f32⟩
  | .hbm, ⟨8, _⟩ => ⟨S1x8, .f32⟩
  | .hbm, ⟨9, _⟩ => ⟨S1x1024, .f32⟩
  | .hbm, ⟨10, _⟩ => ⟨S1x1024, .f32⟩
  | .hbm, ⟨11, _⟩ => ⟨S1024x1280, .f32⟩
  | .hbm, ⟨12, _⟩ => ⟨S1024x1280, .bf16⟩
  | .hbm, ⟨13, _⟩ => ⟨S4x128x128, .f32⟩
  | .hbm, ⟨14, _⟩ => ⟨S4x128x128, .bf16⟩
  | .hbm, ⟨15, _⟩ => ⟨S512, .f32⟩
  | .hbm, ⟨16, _⟩ => ⟨S1x512, .f32⟩
  | .hbm, ⟨17, _⟩ => ⟨S8, .f32⟩
  | .hbm, ⟨18, _⟩ => ⟨S1x8, .f32⟩
  | .hbm, ⟨19, _⟩ => ⟨S8x2048x1024, .bf16⟩
  | .hbm, ⟨20, _⟩ => ⟨S8x128x128, .f32⟩
  | .hbm, ⟨21, _⟩ => ⟨S8x128x128, .f32⟩
  | .hbm, ⟨22, _⟩ => ⟨S8x16x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x1280, .bf16⟩
  | .local _ .vmem, ⟨5, _⟩ => ⟨S4x128x128, .bf16⟩
  | .local _ .vmem, ⟨6, _⟩ => ⟨S1x512, .f32⟩
  | .local _ .vmem, ⟨7, _⟩ => ⟨S2x8x128x256, .f32⟩
  | .local _ .vmem, ⟨8, _⟩ => ⟨S16x1280, .f32⟩
  | .local _ .vmem, ⟨9, _⟩ => ⟨S1x512x1024, .bf16⟩
  | .local _ .vmem, ⟨10, _⟩ => ⟨S1x512x1024, .bf16⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x16x512, .f32⟩
  | .local _ .vmem, ⟨16, _⟩ => ⟨S1x16x512, .f32⟩
  | .local _ .vmem, ⟨17, _⟩ => ⟨S4x640x128, .bf16⟩
  | .local _ .vmem, ⟨18, _⟩ => ⟨S4x640x128, .bf16⟩
  | .local _ .vmem, ⟨19, _⟩ => ⟨S528x512, .f32⟩
  | .local _ .smem, ⟨0, _⟩ => ⟨S1x8, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v215 : Index := Scalar.indexCast v204
  let c0_121 : Index := 0#32
  let c0_122 : Index := 0#32
  let c0_123 : Index := 0#32
  ![v215.toNat, 0, 0, 0]
def k0_off2 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v242 : Index := Scalar.indexCast v204
  let c1_133 : Index := 1#32
  let c0_134 : Index := 0#32
  let c0_135 : Index := 0#32
  ![v242.toNat, 1, 0, 0]
def k0_off3 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v274 : Index := Scalar.indexCast v204
  let c2_147 : Index := 2#32
  let c0_148 : Index := 0#32
  let c0_149 : Index := 0#32
  ![v274.toNat, 2, 0, 0]
def k0_off4 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v301 : Index := Scalar.indexCast v204
  let c3_159 : Index := 3#32
  let c0_160 : Index := 0#32
  let c0_161 : Index := 0#32
  ![v301.toNat, 3, 0, 0]
def k0_off5 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v342 : Index := Scalar.indexCast v204
  let c4_181 : Index := 4#32
  let c0_182 : Index := 0#32
  let c0_183 : Index := 0#32
  ![v342.toNat, 4, 0, 0]
def k0_off6 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v369 : Index := Scalar.indexCast v204
  let c5_193 : Index := 5#32
  let c0_194 : Index := 0#32
  let c0_195 : Index := 0#32
  ![v369.toNat, 5, 0, 0]
def k0_off7 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v401 : Index := Scalar.indexCast v204
  let c6_207 : Index := 6#32
  let c0_208 : Index := 0#32
  let c0_209 : Index := 0#32
  ![v401.toNat, 6, 0, 0]
def k0_off8 (i : grid0.Coords) : Fin 4 → Nat :=
  let arg1 : BitVec 32 := BitVec.ofNat 32 (i 1).val
  let c0_i32_111 : BitVec 32 := 0#32
  let v203 : BitVec 1 := Scalar.cmpi .eq arg1 c0_i32_111
  let c0_i32_112 : BitVec 32 := 0#32
  let c1_i32 : BitVec 32 := 1#32
  let v204 : BitVec 32 := Scalar.select v203 c0_i32_112 c1_i32
  let v428 : Index := Scalar.indexCast v204
  let c7_219 : Index := 7#32
  let c0_220 : Index := 0#32
  let c0_221 : Index := 0#32
  ![v428.toNat, 7, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x8x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FrontRefIdeal.lean ====
abbrev S8x2048x1024 : Shape := ⟨3, ![8, 2048, 1024]⟩
abbrev S16x1280 : Shape := ⟨2, ![16, 1280]⟩
abbrev S2x8x128x256 : Shape := ⟨4, ![2, 8, 128, 256]⟩
abbrev S1024 : Shape := ⟨1, ![1024]⟩
abbrev S1x1024x1280 : Shape := ⟨3, ![1, 1024, 1280]⟩
abbrev S1x4x128x128 : Shape := ⟨4, ![1, 4, 128, 128]⟩
abbrev S1x512 : Shape := ⟨2, ![1, 512]⟩
abbrev S1x8 : Shape := ⟨2, ![1, 8]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x16x1280 : Shape := ⟨3, ![1, 16, 1280]⟩
abbrev S8x16x1280 : Shape := ⟨3, ![8, 16, 1280]⟩
abbrev S1024x1280 : Shape := ⟨2, ![1024, 1280]⟩
abbrev S8x2048x1280 : Shape := ⟨3, ![8, 2048, 1280]⟩
abbrev S8x2064x1280 : Shape := ⟨3, ![8, 2064, 1280]⟩
abbrev S8x2064x512 : Shape := ⟨3, ![8, 2064, 512]⟩
abbrev S8x2064x128 : Shape := ⟨3, ![8, 2064, 128]⟩
abbrev S8x2048x128 : Shape := ⟨3, ![8, 2048, 128]⟩
abbrev S1x1x128x128 : Shape := ⟨4, ![1, 1, 128, 128]⟩
abbrev S128x128 : Shape := ⟨2, ![128, 128]⟩
abbrev S8x2048x512 : Shape := ⟨3, ![8, 2048, 512]⟩
abbrev S512 : Shape := ⟨1, ![512]⟩
abbrev S1x1x512 : Shape := ⟨3, ![1, 1, 512]⟩
abbrev S8x2176x512 : Shape := ⟨3, ![8, 2176, 512]⟩
abbrev S8x17x128x2x4x64 : Shape := ⟨6, ![8, 17, 128, 2, 4, 64]⟩
abbrev S8x2176x128 : Shape := ⟨3, ![8, 2176, 128]⟩
abbrev S8x17x128x2x64 : Shape := ⟨5, ![8, 17, 128, 2, 64]⟩
abbrev S8x16x128x2x64 : Shape := ⟨5, ![8, 16, 128, 2, 64]⟩
abbrev S8x16x256x2x64 : Shape := ⟨5, ![8, 16, 256, 2, 64]⟩
abbrev S8x16x128x2x4x64 : Shape := ⟨6, ![8, 16, 128, 2, 4, 64]⟩
abbrev S8x16x2x256x128x4 : Shape := ⟨6, ![8, 16, 2, 256, 128, 4]⟩
abbrev S8x16x2x4x128x256 : Shape := ⟨6, ![8, 16, 2, 4, 128, 256]⟩
abbrev S1x8x128x256 : Shape := ⟨4, ![1, 8, 128, 256]⟩
abbrev S15x8x128x256 : Shape := ⟨4, ![15, 8, 128, 256]⟩
abbrev S16x8x128x256 : Shape := ⟨4, ![16, 8, 128, 256]⟩
abbrev S16x2x4x128x256 : Shape := ⟨5, ![16, 2, 4, 128, 256]⟩
abbrev S1x16x2x4x128x256 : Shape := ⟨6, ![1, 16, 2, 4, 128, 256]⟩
abbrev S1x1x2x4x1x1 : Shape := ⟨6, ![1, 1, 2, 4, 1, 1]⟩
abbrev S8x16x2x4x128 : Shape := ⟨5, ![8, 16, 2, 4, 128]⟩
abbrev S8x16x2x4x128x1 : Shape := ⟨6, ![8, 16, 2, 4, 128, 1]⟩
abbrev S8x16x2x64x4x128 : Shape := ⟨6, ![8, 16, 2, 64, 4, 128]⟩
abbrev S8x128x128 : Shape := ⟨3, ![8, 128, 128]⟩
abbrev S8x16x512 : Shape := ⟨3, ![8, 16, 512]⟩

abbrev nBuf : Space → Nat
  | .hbm => 214
  | .vmem => 0
  | .smem => 0
  | _ => 0

abbrev hbmTy0_0 (i : Nat) : BufTy := match i % 128 with
  | 0 => ⟨S8x2048x1024, .f32⟩
  | 1 => ⟨S16x1280, .f32⟩
  | 2 => ⟨S2x8x128x256, .f32⟩
  | 3 => ⟨S1024, .f32⟩
  | 4 => ⟨S1024, .f32⟩
  | 5 => ⟨S1x1024x1280, .f32⟩
  | 6 => ⟨S1x4x128x128, .f32⟩
  | 7 => ⟨S1x512, .f32⟩
  | 8 => ⟨S1x8, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S8x2048x1024, .f32⟩
  | 16 => ⟨S8x2048x1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x1024, .f32⟩
  | 25 => ⟨S8x2048x1024, .f32⟩
  | 26 => ⟨S_, .f32⟩
  | 27 => ⟨S8x2048x1, .f32⟩
  | 28 => ⟨S8x2048x1, .f32⟩
  | 29 => ⟨S8x2048x1, .f32⟩
  | 30 => ⟨S8x2048x1024, .f32⟩
  | 31 => ⟨S8x2048x1024, .f32⟩
  | 32 => ⟨S1x1x1024, .f32⟩
  | 33 => ⟨S8x2048x1024, .f32⟩
  | 34 => ⟨S8x2048x1024, .f32⟩
  | 35 => ⟨S1x1x1024, .f32⟩
  | 36 => ⟨S8x2048x1024, .f32⟩
  | 37 => ⟨S8x2048x1024, .f32⟩
  | 38 => ⟨S1x16x1280, .f32⟩
  | 39 => ⟨S8x16x1280, .f32⟩
  | 40 => ⟨S1024x1280, .f32⟩
  | 41 => ⟨S8x2048x1280, .f32⟩
  | 42 => ⟨S8x2064x1280, .f32⟩
  | 43 => ⟨S8x2064x512, .f32⟩
  | 44 => ⟨S8x2064x512, .f32⟩
  | 45 => ⟨S8x2064x128, .f32⟩
  | 46 => ⟨S8x2064x128, .f32⟩
  | 47 => ⟨S8x2064x128, .f32⟩
  | 48 => ⟨S8x2048x128, .f32⟩
  | 49 => ⟨S_, .f32⟩
  | 50 => ⟨S8x2048x128, .f32⟩
  | 51 => ⟨S8x2048x128, .f32⟩
  | 52 => ⟨S8x2048x128, .f32⟩
  | 53 => ⟨S8x2048x128, .f32⟩
  | 54 => ⟨S_, .f32⟩
  | 55 => ⟨S8x2048x128, .f32⟩
  | 56 => ⟨S8x2048x128, .f32⟩
  | 57 => ⟨S8x2048x128, .f32⟩
  | 58 => ⟨S8x2048x128, .f32⟩
  | 59 => ⟨S1x1x128x128, .f32⟩
  | 60 => ⟨S128x128, .f32⟩
  | 61 => ⟨S8x2048x128, .f32⟩
  | 62 => ⟨S8x2064x128, .f32⟩
  | 63 => ⟨S8x2048x128, .f32⟩
  | 64 => ⟨S_, .f32⟩
  | 65 => ⟨S8x2048x128, .f32⟩
  | 66 => ⟨S8x2048x128, .f32⟩
  | 67 => ⟨S8x2048x128, .f32⟩
  | 68 => ⟨S8x2048x128, .f32⟩
  | 69 => ⟨S8x2048x128, .f32⟩
  | 70 => ⟨S8x2048x128, .f32⟩
  | 71 => ⟨S8x2048x128, .f32⟩
  | 72 => ⟨S8x2048x128, .f32⟩
  | 73 => ⟨S_, .f32⟩
  | 74 => ⟨S8x2048x128, .f32⟩
  | 75 => ⟨S8x2048x128, .f32⟩
  | 76 => ⟨S8x2048x128, .f32⟩
  | 77 => ⟨S8x2048x128, .f32⟩
  | 78 => ⟨S1x1x128x128, .f32⟩
  | 79 => ⟨S128x128, .f32⟩
  | 80 => ⟨S8x2048x128, .f32⟩
  | 81 => ⟨S8x2064x128, .f32⟩
  | 82 => ⟨S8x2048x128, .f32⟩
  | 83 => ⟨S_, .f32⟩
  | 84 => ⟨S8x2048x128, .f32⟩
  | 85 => ⟨S8x2048x128, .f32⟩
  | 86 => ⟨S8x2048x128, .f32⟩
  | 87 => ⟨S8x2048x128, .f32⟩
  | 88 => ⟨S8x2048x128, .f32⟩
  | 89 => ⟨S8x2048x128, .f32⟩
  | 90 => ⟨S8x2048x128, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .f32⟩
  | 96 => ⟨S8x2048x128, .f32⟩
  | 97 => ⟨S8x2048x128, .f32⟩
  | 98 => ⟨S8x2048x128, .f32⟩
  | 99 => ⟨S8x2048x128, .f32⟩
  | 100 => ⟨S_, .f32⟩
  | 101 => ⟨S8x2048x128, .f32⟩
  | 102 => ⟨S8x2048x128, .f32⟩
  | 103 => ⟨S8x2048x128, .f32⟩
  | 104 => ⟨S8x2048x128, .f32⟩
  | 105 => ⟨S1x1x128x128, .f32⟩
  | 106 => ⟨S128x128, .f32⟩
  | 107 => ⟨S8x2048x128, .f32⟩
  | 108 => ⟨S8x2064x128, .f32⟩
  | 109 => ⟨S8x2048x128, .f32⟩
  | 110 => ⟨S_, .f32⟩
  | 111 => ⟨S8x2048x128, .f32⟩
  | 112 => ⟨S8x2048x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S8x2048x128, .f32⟩
  | 121 => ⟨S8x2048x128, .f32⟩
  | 122 => ⟨S8x2048x128, .f32⟩
  | 123 => ⟨S8x2048x128, .f32⟩
  | 124 => ⟨S8x2048x128, .f32⟩
  | 125 => ⟨S8x2048x128, .f32⟩
  | 126 => ⟨S8x2048x128, .f32⟩
  | 127 => ⟨S8x2048x128, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2048x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S_, .f32⟩
  | 16 => ⟨S8x2048x128, .f32⟩
  | 17 => ⟨S8x2048x128, .f32⟩
  | 18 => ⟨S8x2048x128, .f32⟩
  | 19 => ⟨S8x2048x128, .f32⟩
  | 20 => ⟨S1x1x128x128, .f32⟩
  | 21 => ⟨S128x128, .f32⟩
  | 22 => ⟨S8x2048x128, .f32⟩
  | 23 => ⟨S8x2048x512, .f32⟩
  | 24 => ⟨S512, .f32⟩
  | 25 => ⟨S1x1x512, .f32⟩
  | 26 => ⟨S8x2048x512, .f32⟩
  | 27 => ⟨S8x2048x512, .f32⟩
  | 28 => ⟨S_, .i32⟩
  | 29 => ⟨S_, .f32⟩
  | 30 => ⟨S8x2176x512, .f32⟩
  | 31 => ⟨S8x17x128x2x4x64, .f32⟩
  | 32 => ⟨S_, .i32⟩
  | 33 => ⟨S_, .f32⟩
  | 34 => ⟨S8x2176x128, .f32⟩
  | 35 => ⟨S8x17x128x2x64, .f32⟩
  | 36 => ⟨S_, .i32⟩
  | 37 => ⟨S_, .f32⟩
  | 38 => ⟨S8x2176x128, .f32⟩
  | 39 => ⟨S8x17x128x2x64, .f32⟩
  | 40 => ⟨S8x16x128x2x64, .f32⟩
  | 41 => ⟨S8x16x128x2x64, .f32⟩
  | 42 => ⟨S8x16x256x2x64, .f32⟩
  | 43 => ⟨S8x16x128x2x64, .f32⟩
  | 44 => ⟨S8x16x128x2x64, .f32⟩
  | 45 => ⟨S8x16x256x2x64, .f32⟩
  | 46 => ⟨S8x16x128x2x4x64, .f32⟩
  | 47 => ⟨S8x16x2x256x128x4, .f32⟩
  | 48 => ⟨S8x16x2x4x128x256, .f32⟩
  | 49 => ⟨S_, .f32⟩
  | 50 => ⟨S8x16x2x4x128x256, .f32⟩
  | 51 => ⟨S8x16x2x4x128x256, .f32⟩
  | 52 => ⟨S1x8x128x256, .f32⟩
  | 53 => ⟨S1x8x128x256, .f32⟩
  | 54 => ⟨S15x8x128x256, .f32⟩
  | 55 => ⟨S16x8x128x256, .f32⟩
  | 56 => ⟨S16x2x4x128x256, .f32⟩
  | 57 => ⟨S1x16x2x4x128x256, .f32⟩
  | 58 => ⟨S8x16x2x4x128x256, .f32⟩
  | 59 => ⟨S8x16x2x4x128x256, .f32⟩
  | 60 => ⟨S1x1x2x4x1x1, .f32⟩
  | 61 => ⟨S_, .f32⟩
  | 62 => ⟨S8x16x2x4x128, .f32⟩
  | 63 => ⟨S8x16x2x4x128x1, .f32⟩
  | 64 => ⟨S8x16x2x4x128x1, .f32⟩
  | 65 => ⟨S8x16x2x4x128x1, .f32⟩
  | 66 => ⟨S8x16x2x4x128x256, .f32⟩
  | 67 => ⟨S8x16x2x4x128x256, .f32⟩
  | 68 => ⟨S8x16x2x4x128x256, .f32⟩
  | 69 => ⟨S_, .f32⟩
  | 70 => ⟨S8x16x2x4x128, .f32⟩
  | 71 => ⟨S8x16x2x4x128x1, .f32⟩
  | 72 => ⟨S8x16x2x4x128x1, .f32⟩
  | 73 => ⟨S8x16x2x4x128x1, .f32⟩
  | 74 => ⟨S8x16x2x4x128x1, .f32⟩
  | 75 => ⟨S8x16x2x4x128x1, .f32⟩
  | 76 => ⟨S8x16x2x4x128x256, .f32⟩
  | 77 => ⟨S8x16x2x4x128x256, .f32⟩
  | 78 => ⟨S8x16x2x64x4x128, .f32⟩
  | 79 => ⟨S8x16x128x2x4x64, .f32⟩
  | 80 => ⟨S8x2048x512, .f32⟩
  | 81 => ⟨S8x2048x1024, .f32⟩
  | 82 => ⟨S8x2048x1024, .bf16⟩
  | 83 => ⟨S8x128x128, .f32⟩
  | 84 => ⟨S8x128x128, .f32⟩
  | 85 => ⟨S8x16x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_8 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_cst_10 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_11 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_c : Ref sig .tc := ⟨.hbm, 156, rfl⟩
abbrev main_call0_v0 : Ref sig .tc := ⟨.hbm, 157, rfl⟩
abbrev main_v134 : Ref sig .tc := ⟨.hbm, 158, rfl⟩
abbrev main_v135 : Ref sig .tc := ⟨.hbm, 159, rfl⟩
abbrev main_c_12 : Ref sig .tc := ⟨.hbm, 160, rfl⟩
abbrev main_call1_v0 : Ref sig .tc := ⟨.hbm, 161, rfl⟩
abbrev main_v136 : Ref sig .tc := ⟨.hbm, 162, rfl⟩
abbrev main_v137 : Ref sig .tc := ⟨.hbm, 163, rfl⟩
abbrev main_c_13 : Ref sig .tc := ⟨.hbm, 164, rfl⟩
abbrev main_call2_v0 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_14 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_cst_15 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_16 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩

abbrev nD : Nat := 1
abbrev τ : Topo := Topo.v7x

variable {F : FTy → Type} [FloatOps F]
-- ==== Finish.lean ====
abbrev S8x2048x1024 : Shape := ⟨3, ![8, 2048, 1024]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 30
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S16384x1024, .f32⟩
  | .hbm, ⟨28, _⟩ => ⟨S16384x1024, .bf16⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FinishRefIdeal.lean ====
abbrev S8x2048x1024 : Shape := ⟨3, ![8, 2048, 1024]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1024 : Shape := ⟨2, ![1024, 1024]⟩
abbrev S1024x4096 : Shape := ⟨2, ![1024, 4096]⟩
abbrev S4096x1024 : Shape := ⟨2, ![4096, 1024]⟩
abbrev S8x2048x4096 : Shape := ⟨3, ![8, 2048, 4096]⟩
abbrev S16384x1024 : Shape := ⟨2, ![16384, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S1024x1024, .f32⟩
  | .hbm, ⟨42, _⟩ => ⟨S1024, .f32⟩
  | .hbm, ⟨43, _⟩ => ⟨S1024, .f32⟩
  | .hbm, ⟨44, _⟩ => ⟨S1024x4096, .f32⟩
  | .hbm, ⟨45, _⟩ => ⟨S4096x1024, .f32⟩
  | .hbm, ⟨46, _⟩ => ⟨S1024, .f32⟩
  | .hbm, ⟨47, _⟩ => ⟨S1024, .f32⟩
  | .hbm, ⟨48, _⟩ => ⟨S_, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1024, .f32⟩
  | .hbm, ⟨69, _⟩ => ⟨S8x2048x1024, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x2048x1, .f32⟩
  | .hbm, ⟨74, _⟩ => ⟨S8x2048x1024, .f32⟩
  | .hbm, ⟨75, _⟩ => ⟨S8x2048x1024, .f32⟩
  | .hbm, ⟨76, _⟩ => ⟨S1x1x1024, .f32⟩
  | .hbm, ⟨77, _⟩ => ⟨S8x2048x1024, .f32⟩
  | .hbm, ⟨78, _⟩ => ⟨S8x2048x1024, .f32⟩
  | .hbm, ⟨79, _⟩ => ⟨S1x1x1024, .f32⟩
  | .hbm, ⟨80, _⟩ => ⟨S8x2048x1024, .f32⟩
  | .hbm, ⟨81, _⟩ => ⟨S8x2048x1024, .f32⟩
  | .hbm, ⟨82, _⟩ => ⟨S8x2048x4096, .f32⟩
  | .hbm, ⟨83, _⟩ => ⟨S_, .f32⟩
  | .hbm, ⟨84, _⟩ => ⟨S8x2048x4096, .f32⟩
  | .hbm, ⟨85, _⟩ => ⟨S8x2048x4096, .f32⟩
  | .hbm, ⟨86, _⟩ => ⟨S8x2048x4096, .f32⟩
  | .hbm, ⟨87, _⟩ => ⟨S8x2048x1024, .f32⟩
  | .hbm, ⟨88, _⟩ => ⟨S_, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048x1, .f32⟩
  | .hbm, ⟨106, _⟩ => ⟨S8x2048x1, .f32⟩
  | .hbm, ⟨107, _⟩ => ⟨S8x2048x1024, .f32⟩
  | .hbm, ⟨108, _⟩ => ⟨S8x2048x1024, .f32⟩
  | .hbm, ⟨109, _⟩ => ⟨S_, .f32⟩
  | .hbm, ⟨110, _⟩ => ⟨S8x2048x1, .f32⟩
  | .hbm, ⟨111, _⟩ => ⟨S8x2048x1, .f32⟩
  | .hbm, ⟨112, _⟩ => ⟨S8x2048x1, .f32⟩
  | .hbm, ⟨113, _⟩ => ⟨S8x2048x1024, .f32⟩
  | .hbm, ⟨114, _⟩ => ⟨S8x2048x1024, .f32⟩
  | .hbm, ⟨115, _⟩ => ⟨S1x1x1024, .f32⟩
  | .hbm, ⟨116, _⟩ => ⟨S8x2048x1024, .f32⟩
  | .hbm, ⟨117, _⟩ => ⟨S8x2048x1024, .f32⟩
  | .hbm, ⟨118, _⟩ => ⟨S1x1x1024, .f32⟩
  | .hbm, ⟨119, _⟩ => ⟨S8x2048x1024, .f32⟩
  | .hbm, ⟨120, _⟩ => ⟨S8x2048x1024, .f32⟩
  | .hbm, ⟨121, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Sample.lean ====
abbrev S128x4x1024 : Shape := ⟨3, ![128, 4, 1024]⟩
abbrev S128x4096 : Shape := ⟨2, ![128, 4096]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x1024 : Shape := ⟨2, ![1024, 1024]⟩
abbrev S1024x4096 : Shape := ⟨2, ![1024, 4096]⟩
abbrev S4096x1024 : Shape := ⟨2, ![4096, 1024]⟩
abbrev S128x1024 : Shape := ⟨2, ![128, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 29
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x4096, .bf16⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S128x4096, .f32⟩
  | .hbm, ⟨28, _⟩ => ⟨S128x4096, .f32⟩
  | .local _ .vmem, ⟨0, _⟩ => ⟨S128x4096, .f32⟩
  | .local _ .vmem, ⟨1, _⟩ => ⟨S128x4096, .bf16⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S128x4096, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== SampleRefIdeal.lean ====
abbrev S128x4x1024 : Shape := ⟨3, ![128, 4, 1024]⟩
abbrev S128x4096 : Shape := ⟨2, ![128, 4096]⟩
abbrev S1024 : Shape := ⟨1, ![1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x1024 : Shape := ⟨2, ![1024, 1024]⟩
abbrev S1024x4096 : Shape := ⟨2, ![1024, 4096]⟩
abbrev S4096x1024 : Shape := ⟨2, ![4096, 1024]⟩
abbrev S128x4x4096 : Shape := ⟨3, ![128, 4, 4096]⟩

abbrev nBuf : Space → Nat
  | .hbm => 123
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4096, .bf16⟩
  | .hbm, ⟨2, _⟩ => ⟨S1024, .f32⟩
  | .hbm, ⟨3, _⟩ => ⟨S1024, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x4096, .f32⟩
  | .hbm, ⟨8, _⟩ => ⟨S1x4096x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S128x4, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1024, .f32⟩
  | .hbm, ⟨18, _⟩ => ⟨S128x4x1024, .f32⟩
  | .hbm, ⟨19, _⟩ => ⟨S128x4x1024, .f32⟩
  | .hbm, ⟨20, _⟩ => ⟨S_, .f32⟩
  | .hbm, ⟨21, _⟩ => ⟨S128x4, .f32⟩
  | .hbm, ⟨22, _⟩ => ⟨S128x4x1, .f32⟩
  | .hbm, ⟨23, _⟩ => ⟨S_, .f32⟩
  | .hbm, ⟨24, _⟩ => ⟨S128x4x1, .f32⟩
  | .hbm, ⟨25, _⟩ => ⟨S128x4x1, .f32⟩
  | .hbm, ⟨26, _⟩ => ⟨S128x4x1024, .f32⟩
  | .hbm, ⟨27, _⟩ => ⟨S128x4x1024, .f32⟩
  | .hbm, ⟨28, _⟩ => ⟨S_, .f32⟩
  | .hbm, ⟨29, _⟩ => ⟨S128x4x1, .f32⟩
  | .hbm, ⟨30, _⟩ => ⟨S128x4x1, .f32⟩
  | .hbm, ⟨31, _⟩ => ⟨S128x4x1, .f32⟩
  | .hbm, ⟨32, _⟩ => ⟨S128x4x1024, .f32⟩
  | .hbm, ⟨33, _⟩ => ⟨S128x4x1024, .f32⟩
  | .hbm, ⟨34, _⟩ => ⟨S1x1x1024, .f32⟩
  | .hbm, ⟨35, _⟩ => ⟨S128x4x1024, .f32⟩
  | .hbm, ⟨36, _⟩ => ⟨S128x4x1024, .f32⟩
  | .hbm, ⟨37, _⟩ => ⟨S1x1x1024, .f32⟩
  | .hbm, ⟨38, _⟩ => ⟨S128x4x1024, .f32⟩
  | .hbm, ⟨39, _⟩ => ⟨S128x4x1024, .f32⟩
  | .hbm, ⟨40, _⟩ => ⟨S128x4x1024, .bf16⟩
  | .hbm, ⟨41, _⟩ => ⟨S128x4x1024, .f32⟩
  | .hbm, ⟨42, _⟩ => ⟨S1024x1024, .f32⟩
  | .hbm, ⟨43, _⟩ => ⟨S1024, .f32⟩
  | .hbm, ⟨44, _⟩ => ⟨S1024, .f32⟩
  | .hbm, ⟨45, _⟩ => ⟨S1024x4096, .f32⟩
  | .hbm, ⟨46, _⟩ => ⟨S4096x1024, .f32⟩
  | .hbm, ⟨47, _⟩ => ⟨S1024, .f32⟩
  | .hbm, ⟨48, _⟩ => ⟨S1024, .f32⟩
  | .hbm, ⟨49, _⟩ => ⟨S_, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S128x4x1024, .f32⟩
  | .hbm, ⟨54, _⟩ => ⟨S_, .f32⟩
  | .hbm, ⟨55, _⟩ => ⟨S128x4, .f32⟩
  | .hbm, ⟨56, _⟩ => ⟨S128x4x1, .f32⟩
  | .hbm, ⟨57, _⟩ => ⟨S_, .f32⟩
  | .hbm, ⟨58, _⟩ => ⟨S128x4x1, .f32⟩
  | .hbm, ⟨59, _⟩ => ⟨S128x4x1, .f32⟩
  | .hbm, ⟨60, _⟩ => ⟨S128x4x1024, .f32⟩
  | .hbm, ⟨61, _⟩ => ⟨S128x4x1024, .f32⟩
  | .hbm, ⟨62, _⟩ => ⟨S128x4x1024, .f32⟩
  | .hbm, ⟨63, _⟩ => ⟨S_, .f32⟩
  | .hbm, ⟨64, _⟩ => ⟨S128x4, .f32⟩
  | .hbm, ⟨65, _⟩ => ⟨S128x4x1, .f32⟩
  | .hbm, ⟨66, _⟩ => ⟨S_, .f32⟩
  | .hbm, ⟨67, _⟩ => ⟨S128x4x1, .f32⟩
  | .hbm, ⟨68, _⟩ => ⟨S128x4x1, .f32⟩
  | .hbm, ⟨69, _⟩ => ⟨S128x4x1024, .f32⟩
  | .hbm, ⟨70, _⟩ => ⟨S128x4x1024, .f32⟩
  | .hbm, ⟨71, _⟩ => ⟨S_, .f32⟩
  | .hbm, ⟨72, _⟩ => ⟨S128x4x1, .f32⟩
  | .hbm, ⟨73, _⟩ => ⟨S128x4x1, .f32⟩
  | .hbm, ⟨74, _⟩ => ⟨S128x4x1, .f32⟩
  | .hbm, ⟨75, _⟩ => ⟨S128x4x1024, .f32⟩
  | .hbm, ⟨76, _⟩ => ⟨S128x4x1024, .f32⟩
  | .hbm, ⟨77, _⟩ => ⟨S1x1x1024, .f32⟩
  | .hbm, ⟨78, _⟩ => ⟨S128x4x1024, .f32⟩
  | .hbm, ⟨79, _⟩ => ⟨S128x4x1024, .f32⟩
  | .hbm, ⟨80, _⟩ => ⟨S1x1x1024, .f32⟩
  | .hbm, ⟨81, _⟩ => ⟨S128x4x1024, .f32⟩
  | .hbm, ⟨82, _⟩ => ⟨S128x4x1024, .f32⟩
  | .hbm, ⟨83, _⟩ => ⟨S128x4x4096, .f32⟩
  | .hbm, ⟨84, _⟩ => ⟨S_, .f32⟩
  | .hbm, ⟨85, _⟩ => ⟨S128x4x4096, .f32⟩
  | .hbm, ⟨86, _⟩ => ⟨S128x4x4096, .f32⟩
  | .hbm, ⟨87, _⟩ => ⟨S128x4x4096, .f32⟩
  | .hbm, ⟨88, _⟩ => ⟨S128x4x1024, .f32⟩
  | .hbm, ⟨89, _⟩ => ⟨S_, .f32⟩
  | .hbm, ⟨90, _⟩ => ⟨S128x4x1024, .f32⟩
  | .hbm, ⟨91, _⟩ => ⟨S128x4x1024, .f32⟩
  | .hbm, ⟨92, _⟩ => ⟨S128x4x1024, .f32⟩
  | .hbm, ⟨93, _⟩ => ⟨S_, .f32⟩
  | .hbm, ⟨94, _⟩ => ⟨S128x4, .f32⟩
  | .hbm, ⟨95, _⟩ => ⟨S128x4x1, .f32⟩
  | .hbm, ⟨96, _⟩ => ⟨S_, .f32⟩
  | .hbm, ⟨97, _⟩ => ⟨S128x4x1, .f32⟩
  | .hbm, ⟨98, _⟩ => ⟨S128x4x1, .f32⟩
  | .hbm, ⟨99, _⟩ => ⟨S128x4x1024, .f32⟩
  | .hbm, ⟨100, _⟩ => ⟨S128x4x1024, .f32⟩
  | .hbm, ⟨101, _⟩ => ⟨S128x4x1024, .f32⟩
  | .hbm, ⟨102, _⟩ => ⟨S_, .f32⟩
  | .hbm, ⟨103, _⟩ => ⟨S128x4, .f32⟩
  | .hbm, ⟨104, _⟩ => ⟨S128x4x1, .f32⟩
  | .hbm, ⟨105, _⟩ => ⟨S_, .f32⟩
  | .hbm, ⟨106, _⟩ => ⟨S128x4x1, .f32⟩
  | .hbm, ⟨107, _⟩ => ⟨S128x4x1, .f32⟩
  | .hbm, ⟨108, _⟩ => ⟨S128x4x1024, .f32⟩
  | .hbm, ⟨109, _⟩ => ⟨S128x4x1024, .f32⟩
  | .hbm, ⟨110, _⟩ => ⟨S_, .f32⟩
  | .hbm, ⟨111, _⟩ => ⟨S128x4x1, .f32⟩
  | .hbm, ⟨112, _⟩ => ⟨S128x4x1, .f32⟩
  | .hbm, ⟨113, _⟩ => ⟨S128x4x1, .f32⟩
  | .hbm, ⟨114, _⟩ => ⟨S128x4x1024, .f32⟩
  | .hbm, ⟨115, _⟩ => ⟨S128x4x1024, .f32⟩
  | .hbm, ⟨116, _⟩ => ⟨S1x1x1024, .f32⟩
  | .hbm, ⟨117, _⟩ => ⟨S128x4x1024, .f32⟩
  | .hbm, ⟨118, _⟩ => ⟨S128x4x1024, .f32⟩
  | .hbm, ⟨119, _⟩ => ⟨S1x1x1024, .f32⟩
  | .hbm, ⟨120, _⟩ => ⟨S128x4x1024, .f32⟩
  | .hbm, ⟨121, _⟩ => ⟨S128x4x1024, .f32⟩
  | .hbm, ⟨122, _⟩ => ⟨S128x4096, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal.Laws

@[expose] public section

noncomputable section

namespace Cert.Layer

open Idealize.ShloMosaic

/-- The width of a row, 1024, as the programs spell it. -/
def width : EReal := Ideal.ofBits .f32 0x44800000#32
/-- The number added to the variance, 1e-5 rounded to f32. -/
def eps : EReal := Ideal.ofBits .f32 0x3727C5AC#32
/-- The residual's factor, the fourth root of two rounded to f32. -/
def alpha : EReal := Ideal.ofBits .f32 0x3F9837F0#32

/-- The mean of a row. -/
def mean (x : Fin 1024 → EReal) : EReal := Ideal.div (∑ j, x j) width

/-- Layer normalisation of the row `x` with gain `g` and offset `b`, at column `k`. -/
def ln (x g b : Fin 1024 → EReal) (k : Fin 1024) : EReal :=
  (x k - mean x) * Ideal.rsqrt (Ideal.div (∑ j, (x j - mean x) * (x j - mean x)) width + eps) * g k + b k

/-- The square of the positive part of a hidden unit: row `h` against the unit's column `w`. -/
def unit (h w : Fin 1024 → EReal) : EReal :=
  max (∑ k, h k * w k) 0 * max (∑ k, h k * w k) 0

/-- The row after the mixer: the output projection of `mix` added to the scaled residual, normalised. -/
def hid (x mix g b : Fin 1024 → EReal) (wo : Fin 1024 → Fin 1024 → EReal) (g1 b1 : Fin 1024 → EReal) : Fin 1024 → EReal :=
  ln (fun d => alpha * ln x g b d + ∑ k, mix k * wo k d) g1 b1

/-- The layer's output row from a token's row `x` and its mixer output `mix`, at column `d`. -/
def fin (x mix g b : Fin 1024 → EReal) (wo : Fin 1024 → Fin 1024 → EReal) (g1 b1 : Fin 1024 → EReal)
    (w1 : Fin 1024 → Fin 4096 → EReal) (w2 : Fin 4096 → Fin 1024 → EReal) (g2 b2 : Fin 1024 → EReal) (d : Fin 1024) : EReal :=
  ln (fun d => alpha * hid x mix g b wo g1 b1 d
        + ∑ f, unit (hid x mix g b wo g1 b1) (fun k => w1 k f) * w2 f d) g2 b2 d

/-- Equal arguments give equal rows. -/
theorem fin_congr {x x' mix mix' g g' b b' : Fin 1024 → EReal} {wo wo' : Fin 1024 → Fin 1024 → EReal} {g1 g1' b1 b1' : Fin 1024 → EReal}
    {w1 w1' : Fin 1024 → Fin 4096 → EReal} {w2 w2' : Fin 4096 → Fin 1024 → EReal} {g2 g2' b2 b2' : Fin 1024 → EReal} {d : Fin 1024}
    (h0 : x = x') (h1 : mix = mix') (h2 : g = g') (h3 : b = b') (h4 : wo = wo') (h5 : g1 = g1') (h6 : b1 = b1') (h7 : w1 = w1')
    (h8 : w2 = w2') (h9 : g2 = g2') (h10 : b2 = b2') :
    fin x mix g b wo g1 b1 w1 w2 g2 b2 d = fin x' mix' g' b' wo' g1' b1' w1' w2' g2' b2' d := by
  subst h0 h1 h2 h3 h4 h5 h6 h7 h8 h9 h10; rfl

end Cert.Layer
-- ==== Proof.FinishPay.lean ====
module

public import proofs.«01_k».proof.Proof.Spec
public import proofs.«01_k».proof.Proof.Gen.FinishIdeal.Skeleton

@[expose] public section

set_option maxRecDepth 16384

noncomputable section

namespace Cert.FinishIdeal.Pay

open Idealize.ShloMosaic Idealize.ShloMosaic.TcCoe Idealize.SL.Sem
open Cert.FinishIdeal Cert.FinishIdeal.Gen Cert.Layer

/-- The row before the first normalisation: the scaled residual plus the output projection. -/
theorem pay2_at (v0 : FVec Ideal S512x1024 .f32) (v2 : FVec Ideal S512x1024 .bf16) (v4 v6 : FVec Ideal S1x1024 .f32)
    (v30 : FVec Ideal S1024x1024 .bf16) (r : Fin 512) (d : Fin 1024) :
    k0_pay2 (F := Ideal) v0 v2 v4 v6 v30 (ix2 r d) = alpha * ln (fun k => v0 (ix2 r k)) (fun k => v4 (ix2 0 k)) (fun k => v6 (ix2 0 k)) d
      + ∑ k : Fin 1024, (show EReal from v2 (ix2 r k)) * v30 (ix2 k d) := by
  pointwise [k0_pay2, ln, mean, alpha, eps, width]

/-- The row after the first normalisation. -/
theorem pay5_at (v33 : FVec Ideal S512x1024 .f32) (v35 v37 : FVec Ideal S1x1024 .f32) (r : Fin 512) (d : Fin 1024) :
    k0_pay5 (F := Ideal) v33 v35 v37 (ix2 r d) = ln (fun k => v33 (ix2 r k)) (fun k => v35 (ix2 0 k)) (fun k => v37 (ix2 0 k)) d := by
  pointwise [k0_pay5, ln, mean, alpha, eps, width]

/-- One chunk of 512 hidden units, as a sum over its units. -/
theorem pay7_at (v33 : FVec Ideal S512x1024 .f32) (v35 v37 : FVec Ideal S1x1024 .f32) (v59 : FVec Ideal S1024x512 .bf16)
    (v66 : FVec Ideal S512x1024 .bf16) (r : Fin 512) (d : Fin 1024) :
    k0_pay7 (F := Ideal) v33 v35 v37 v59 v66 (ix2 r d)
      = ∑ f : Fin 512, unit (fun k => k0_pay5 (F := Ideal) v33 v35 v37 (ix2 r k)) (fun k => v59 (ix2 k f)) * v66 (ix2 f d) := by
  pointwise [k0_pay7, k0_pay6, unit]

theorem pay8_at (v33 : FVec Ideal S512x1024 .f32) (v35 v37 : FVec Ideal S1x1024 .f32) (v59 : FVec Ideal S1024x512 .bf16)
    (v66 : FVec Ideal S512x1024 .bf16) (r : Fin 512) (d : Fin 1024) :
    k0_pay8 (F := Ideal) v33 v35 v37 v59 v66 (ix2 r d)
      = ∑ f : Fin 512, unit (fun k => k0_pay5 (F := Ideal) v33 v35 v37 (ix2 r k)) (fun k => v59 (ix2 k f)) * v66 (ix2 f d) := by
  pointwise [k0_pay8, k0_pay6, unit]

/-- The sum of the first five chunks. -/
theorem pay9_at (v58 : FVec Ideal S512x1024 .bf16) (v68 v78 : FVec Ideal S512x1024 .f32) (a3 a4 a5 : FVec Ideal S1024x512 .bf16)
    (b3 b4 b5 : FVec Ideal S512x1024 .bf16) (r : Fin 512) (d : Fin 1024) :
    k0_pay9 (F := Ideal) v58 v68 v78 a3 b3 a4 b4 a5 b5 (ix2 r d)
      = (show EReal from v68 (ix2 r d)) + v78 (ix2 r d)
        + (∑ f : Fin 512, unit (fun k => v58 (ix2 r k)) (fun k => a3 (ix2 k f)) * b3 (ix2 f d))
        + (∑ f : Fin 512, unit (fun k => v58 (ix2 r k)) (fun k => a4 (ix2 k f)) * b4 (ix2 f d))
        + (∑ f : Fin 512, unit (fun k => v58 (ix2 r k)) (fun k => a5 (ix2 k f)) * b5 (ix2 f d)) := by
  pointwise [k0_pay9, unit]

/-- The row before the last normalisation: the scaled residual plus the sum of the eight chunks. -/
theorem pay11_at (v57 : FVec Ideal S512x1024 .f32) (v58 : FVec Ideal S512x1024 .bf16) (v112 : FVec Ideal S512x1024 .f32)
    (a6 a7 a8 : FVec Ideal S1024x512 .bf16) (b6 b7 b8 : FVec Ideal S512x1024 .bf16) (r : Fin 512) (d : Fin 1024) :
    k0_pay11 (F := Ideal) v57 v58 v112 (k0_pay10 a6) (constant S512x512 .f32 0x00000000#32) b6 a7 b7 a8 b8 (ix2 r d)
      = alpha * v57 (ix2 r d) + ((show EReal from v112 (ix2 r d))
        + (∑ f : Fin 512, unit (fun k => v58 (ix2 r k)) (fun k => a6 (ix2 k f)) * b6 (ix2 f d))
        + (∑ f : Fin 512, unit (fun k => v58 (ix2 r k)) (fun k => a7 (ix2 k f)) * b7 (ix2 f d))
        + (∑ f : Fin 512, unit (fun k => v58 (ix2 r k)) (fun k => a8 (ix2 k f)) * b8 (ix2 f d))) := by
  pointwise [k0_pay11, k0_pay10, unit, alpha]

/-- The row after the last normalisation. -/
theorem pay1_at (v33 : FVec Ideal S512x1024 .f32) (v35 v37 : FVec Ideal S1x1024 .f32) (r : Fin 512) (d : Fin 1024) :
    k0_pay1 (F := Ideal) v33 v35 v37 (ix2 r d) = ln (fun k => v33 (ix2 r k)) (fun k => v35 (ix2 0 k)) (fun k => v37 (ix2 0 k)) d := by
  pointwise [k0_pay1, ln, mean, alpha, eps, width]

end Cert.FinishIdeal.Pay
-- ==== Proof.FinishOut.lean ====
module

public import proofs.«01_k».proof.Proof.FinishPay
public import proofs.«01_k».proof.Proof.Gen.FinishIdeal.Frame
public import Idealize.ShloMosaic.Lib.Pipeline.ValueKit

@[expose] public section

set_option maxRecDepth 16384

noncomputable section

namespace Cert.FinishIdeal.Pay

open Idealize.ShloMosaic Idealize.ShloMosaic.TcCoe Idealize.SL.Sem
open Cert.FinishIdeal Cert.FinishIdeal.Gen Cert.Layer

/-- A sum over the 4096 hidden units is the sum, from the left, of the sums over the eight chunks of 512. -/
theorem sum_chunks (F : Fin 4096 → EReal) :
    ∑ f, F f = (∑ f : Fin 512, F ⟨f, by omega⟩) + (∑ f : Fin 512, F ⟨512 + f, by omega⟩)
      + (∑ f : Fin 512, F ⟨1024 + f, by omega⟩) + (∑ f : Fin 512, F ⟨1536 + f, by omega⟩)
      + (∑ f : Fin 512, F ⟨2048 + f, by omega⟩) + (∑ f : Fin 512, F ⟨2560 + f, by omega⟩)
      + (∑ f : Fin 512, F ⟨3072 + f, by omega⟩) + (∑ f : Fin 512, F ⟨3584 + f, by omega⟩) := by
  rw [Fin.sum_univ_tiles 8 512 rfl F, Fin.sum_univ_eight]
  simp

/-- What the body leaves in its output block, at row `r` and column `d`: the layer's row over the point's blocks. -/
theorem out_at (x0 : FVec Ideal S512x1024 .f32) (x1 : FVec Ideal S512x1024 .bf16) (x2 x3 : FVec Ideal S1x1024 .f32)
    (x4 : FVec Ideal S1024x1024 .bf16) (x5 x6 : FVec Ideal S1x1024 .f32) (x7 : FVec Ideal S1024x4096 .bf16)
    (x8 : FVec Ideal S4096x1024 .bf16) (x9 x10 : FVec Ideal S1x1024 .f32) (r : Fin 512) (d : Fin 1024) :
    out0_11 (F := Ideal) x0 x1 x2 x3 x4 x5 x6 x7 x8 x9 x10 (ix2 r d)
      = fin (fun k => x0 (ix2 r k)) (fun k => x1 (ix2 r k)) (fun k => x2 (ix2 0 k)) (fun k => x3 (ix2 0 k))
          (fun k d => x4 (ix2 k d)) (fun k => x5 (ix2 0 k)) (fun k => x6 (ix2 0 k)) (fun k f => x7 (ix2 k f))
          (fun f d => x8 (ix2 f d)) (fun k => x9 (ix2 0 k)) (fun k => x10 (ix2 0 k)) d := by
  frame_out
  unfold k0_pay16 k0_pay15 k0_pay14 k0_pay13
  simp only [pay1_at, pay11_at, pay9_at, pay8_at, pay7_at, k0_pay6, pay5_at, pay2_at]
  pointwise [k0_pay12, k0_pay4, k0_pay3, fin, hid]
  simp only [pay5_at, pay2_at]
  pointwise [k0_pay12, k0_pay4, k0_pay3, sum_chunks]

end Cert.FinishIdeal.Pay
-- ==== Proof.FinishVal.lean ====
module

public import proofs.«01_k».proof.Proof.FinishOut

@[expose] public section

set_option maxRecDepth 16384

noncomputable section

namespace Cert.FinishIdeal.Pay

open Idealize.ShloMosaic Idealize.ShloMosaic.TcCoe Idealize.SL.Sem
open Idealize.ShloMosaic.Pipeline (Dat)
open Cert.FinishIdeal Cert.FinishIdeal.Gen Cert.Layer

variable (m : (ℓ : Loc nD τ sig) → Buf (Elt Ideal) ℓ)

/-- The whole result over the argument arrays: row `n` is the layer's row of token `n % 2048` of sequence `n / 2048`. -/
def whole (x0 : FVec Ideal S8x2048x1024 .f32) (x1 : FVec Ideal S8x2048x1024 .bf16) (x2 x3 : FVec Ideal S1024 .f32)
    (x4 : FVec Ideal S1x1024x1024 .f32) (x5 x6 : FVec Ideal S1x1024 .f32) (x7 : FVec Ideal S1x1024x4096 .f32)
    (x8 : FVec Ideal S1x4096x1024 .f32) (x9 x10 : FVec Ideal S1x1024 .f32) : FVec Ideal S16384x1024 .f32 := fun i =>
  have h : (i 0).val < 16384 := (i 0).isLt
  fin (fun k => x0 (ix3 ⟨(i 0).val / 2048, by omega⟩ ⟨(i 0).val % 2048, by omega⟩ k))
    (fun k => x1 (ix3 ⟨(i 0).val / 2048, by omega⟩ ⟨(i 0).val % 2048, by omega⟩ k)) (fun k => x2 (ix1 k)) (fun k => x3 (ix1 k))
    (fun k d => x4 (ix3 0 k d)) (fun k => x5 (ix2 0 k)) (fun k => x6 (ix2 0 k)) (fun k f => x7 (ix3 0 k f))
    (fun f d => x8 (ix3 0 f d)) (fun k => x9 (ix2 0 k)) (fun k => x10 (ix2 0 k)) (i 1)

/-- Where each window's block lies at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- A token's row number in the flat array. -/
theorem row_lt (t : Fin cfg0.N) (r : Fin 512) : t.val * 512 + r.val < 16384 := by
  have h : t.val < 32 := lt_of_lt_of_eq t.isLt (show cfg0.N = 32 from N_0)
  omega

/-- Window 0's block at a row and a column, as the argument array read. -/
theorem blk0 (c : Dev nD) (t : Fin cfg0.N) (r : Fin 512) (k : Fin 1024) :
    (show FVec Ideal S512x1024 .f32 from iblk m c 0 t) (ix2 r k)
      = (show FVec Ideal S8x2048x1024 .f32 from m ((c : Thread nD τ).loc main_arg0)) (ix3 ⟨(t.val * 512 + r.val) / 2048, by have := row_lt t r; omega⟩ ⟨(t.val * 512 + r.val) % 2048, by omega⟩ k) := by
  blk_simp [iblk, idx t]
  entry_read
  pointwise
  blk_ext [idx t]

/-- Window 1's block at a row and a column, as the argument array read. -/
theorem blk1 (c : Dev nD) (t : Fin cfg0.N) (r : Fin 512) (k : Fin 1024) :
    (show FVec Ideal S512x1024 .bf16 from iblk m c 1 t) (ix2 r k)
      = (show FVec Ideal S8x2048x1024 .bf16 from m ((c : Thread nD τ).loc main_arg1)) (ix3 ⟨(t.val * 512 + r.val) / 2048, by have := row_lt t r; omega⟩ ⟨(t.val * 512 + r.val) % 2048, by omega⟩ k) := by
  blk_simp [iblk, idx t]
  entry_read
  pointwise
  blk_ext [idx t]

/-- Window 2's block at a row and a column, as the argument array read. -/
theorem blk2 (c : Dev nD) (t : Fin cfg0.N) (r : Fin 1) (k : Fin 1024) :
    (show FVec Ideal S1x1024 .f32 from iblk m c 2 t) (ix2 r k)
      = (show FVec Ideal S1024 .f32 from m ((c : Thread nD τ).loc main_arg2)) (ix1 k) := by
  blk_simp [iblk, idx t]
  entry_read
  pointwise
  blk_ext [idx t]

/-- Window 3's block at a row and a column, as the argument array read. -/
theorem blk3 (c : Dev nD) (t : Fin cfg0.N) (r : Fin 1) (k : Fin 1024) :
    (show FVec Ideal S1x1024 .f32 from iblk m c 3 t) (ix2 r k)
      = (show FVec Ideal S1024 .f32 from m ((c : Thread nD τ).loc main_arg3)) (ix1 k) := by
  blk_simp [iblk, idx t]
  entry_read
  pointwise
  blk_ext [idx t]

/-- Window 4's block at a row and a column, as the argument array read. -/
theorem blk4 (c : Dev nD) (t : Fin cfg0.N) (r : Fin 1024) (k : Fin 1024) :
    (show FVec Ideal S1024x1024 .bf16 from iblk m c 4 t) (ix2 r k)
      = (show FVec Ideal S1x1024x1024 .f32 from m ((c : Thread nD τ).loc main_arg4)) (ix3 0 r k) := by
  blk_simp [iblk, idx t]
  entry_read
  pointwise
  blk_ext [idx t]

/-- Window 5's block at a row and a column, as the argument array read. -/
theorem blk5 (c : Dev nD) (t : Fin cfg0.N) (r : Fin 1) (k : Fin 1024) :
    (show FVec Ideal S1x1024 .f32 from iblk m c 5 t) (ix2 r k)
      = (show FVec Ideal S1x1024 .f32 from m ((c : Thread nD τ).loc main_arg5)) (ix2 0 k) := by
  blk_simp [iblk, idx t]
  entry_read
  pointwise
  blk_ext [idx t]

/-- Window 6's block at a row and a column, as the argument array read. -/
theorem blk6 (c : Dev nD) (t : Fin cfg0.N) (r : Fin 1) (k : Fin 1024) :
    (show FVec Ideal S1x1024 .f32 from iblk m c 6 t) (ix2 r k)
      = (show FVec Ideal S1x1024 .f32 from m ((c : Thread nD τ).loc main_arg6)) (ix2 0 k) := by
  blk_simp [iblk, idx t]
  entry_read
  pointwise
  blk_ext [idx t]

/-- Window 7's block at a row and a column, as the argument array read. -/
theorem blk7 (c : Dev nD) (t : Fin cfg0.N) (r : Fin 1024) (k : Fin 4096) :
    (show FVec Ideal S1024x4096 .bf16 from iblk m c 7 t) (ix2 r k)
      = (show FVec Ideal S1x1024x4096 .f32 from m ((c : Thread nD τ).loc main_arg7)) (ix3 0 r k) := by
  blk_simp [iblk, idx t]
  entry_read
  pointwise
  blk_ext [idx t]

/-- Window 8's block at a row and a column, as the argument array read. -/
theorem blk8 (c : Dev nD) (t : Fin cfg0.N) (r : Fin 4096) (k : Fin 1024) :
    (show FVec Ideal S4096x1024 .bf16 from iblk m c 8 t) (ix2 r k)
      = (show FVec Ideal S1x4096x1024 .f32 from m ((c : Thread nD τ).loc main_arg8)) (ix3 0 r k) := by
  blk_simp [iblk, idx t]
  entry_read
  pointwise
  blk_ext [idx t]

/-- Window 9's block at a row and a column, as the argument array read. -/
theorem blk9 (c : Dev nD) (t : Fin cfg0.N) (r : Fin 1) (k : Fin 1024) :
    (show FVec Ideal S1x1024 .f32 from iblk m c 9 t) (ix2 r k)
      = (show FVec Ideal S1x1024 .f32 from m ((c : Thread nD τ).loc main_arg9)) (ix2 0 k) := by
  blk_simp [iblk, idx t]
  entry_read
  pointwise
  blk_ext [idx t]

/-- Window 10's block at a row and a column, as the argument array read. -/
theorem blk10 (c : Dev nD) (t : Fin cfg0.N) (r : Fin 1) (k : Fin 1024) :
    (show FVec Ideal S1x1024 .f32 from iblk m c 10 t) (ix2 r k)
      = (show FVec Ideal S1x1024 .f32 from m ((c : Thread nD τ).loc main_arg10)) (ix2 0 k) := by
  blk_simp [iblk, idx t]
  entry_read
  pointwise
  blk_ext [idx t]

/-- What point `t` leaves at row `r`, column `d` of its block. -/
theorem point (c : Dev nD) (t : Fin cfg0.N) (r : Fin 512) (d : Fin 1024) :
    out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 r d)
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (ix2 ⟨t.val * 512 + r.val, row_lt t r⟩ d) := by
  refine (out_at _ _ _ _ _ _ _ _ _ _ _ r d).trans ?_
  unfold whole
  refine fin_congr (funext fun k => blk0 m c t r k) (funext fun k => blk1 m c t r k) (funext fun k => blk2 m c t 0 k)
    (funext fun k => blk3 m c t 0 k) (funext fun k => funext fun d => blk4 m c t k d) (funext fun k => blk5 m c t 0 k)
    (funext fun k => blk6 m c t 0 k) (funext fun k => funext fun f => blk7 m c t k f) (funext fun f => funext fun d => blk8 m c t f d)
    (funext fun k => blk9 m c t 0 k) (funext fun k => blk10 m c t 0 k)

/-- The result array after the run. -/
theorem final (c : Dev nD) : (dats m 0 c).arrAt 11 cfg0.N
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 11 _ (by decide +kernel) fun t _ y => ?_
  blk_simp
  rw [after0_11]
  idx_vars y
  refine (point m c t _ _).trans (congrArg _ ?_)
  blk_ext [idx t]

end Cert.FinishIdeal.Pay
-- ==== Proof.FinishRows.lean ====
module

public import proofs.«01_k».proof.Proof.Spec
public import proofs.«01_k».proof.Proof.Gen.FinishRefIdeal.Read

@[expose] public section

set_option maxRecDepth 16384

noncomputable section

namespace Cert.FinishRefIdeal.Rows

open Idealize.ShloMosaic Idealize.ShloMosaic.TcCoe Idealize.SL.Sem
open Cert.FinishRefIdeal Cert.FinishRefIdeal.Gen Cert.FinishRefIdeal.Read Cert.Layer

variable (x0 : FVec Ideal S8x2048x1024 .f32) (x1 : FVec Ideal S8x2048x1024 .bf16) (x2 x3 : FVec Ideal S1024 .f32)
  (x4 : FVec Ideal S1x1024x1024 .f32) (x5 x6 : FVec Ideal S1x1024 .f32) (x7 : FVec Ideal S1x1024x4096 .f32)
  (x8 : FVec Ideal S1x4096x1024 .f32) (x9 x10 : FVec Ideal S1x1024 .f32)

/-- The reference's first normalisation, at a token and a column. -/
theorem emb_at (b : Fin 8) (t : Fin 2048) (d : Fin 1024) :
    val_main_v23 (F := Ideal) x0 x2 x3 (ix3 b t d) = ln (fun k => x0 (ix3 b t k)) (fun k => x2 (ix1 k)) (fun k => x3 (ix1 k)) d := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23, ln, mean, eps, width]

/-- The row before the reference's second normalisation. -/
theorem pre_at (b : Fin 8) (t : Fin 2048) (d : Fin 1024) :
    val_main_v35 (F := Ideal) x0 x1 x2 x3 x4 (ix3 b t d)
      = alpha * val_main_v23 (F := Ideal) x0 x2 x3 (ix3 b t d) + ∑ k : Fin 1024, (show EReal from x1 (ix3 b t k)) * x4 (ix3 0 k d) := by
  pointwise [val_main_v24, val_main_v25, val_main_v26, val_main_v27, val_main_v28, val_main_v29, val_main_v30, val_main_v31, val_main_cst_4, val_main_v32, val_main_v33, val_main_v34, val_main_v35, alpha]

/-- The reference's second normalisation. -/
theorem hid_at (b : Fin 8) (t : Fin 2048) (d : Fin 1024) :
    val_main_v59 (F := Ideal) x0 x1 x2 x3 x4 x5 x6 (ix3 b t d)
      = ln (fun k => val_main_v35 (F := Ideal) x0 x1 x2 x3 x4 (ix3 b t k)) (fun k => x5 (ix2 0 k)) (fun k => x6 (ix2 0 k)) d := by
  pointwise [val_main_cst_5, val_main_v36, val_main_v37, val_main_cst_6, val_main_v38, val_main_v39, val_main_v40, val_main_v41, val_main_v42, val_main_cst_7, val_main_v43, val_main_v44, val_main_cst_8, val_main_v45, val_main_v46, val_main_v47, val_main_v48, val_main_cst_9, val_main_v49, val_main_v50, val_main_v51, val_main_v52, val_main_v53, val_main_v54, val_main_v55, val_main_v56, val_main_v57, val_main_v58, val_main_v59, val_main_v26, val_main_v27, ln, mean, eps, width]

/-- The row before the reference's last normalisation. -/
theorem res_at (b : Fin 8) (t : Fin 2048) (d : Fin 1024) :
    val_main_v67 (F := Ideal) x0 x1 x2 x3 x4 x5 x6 x7 x8 (ix3 b t d)
      = alpha * val_main_v59 (F := Ideal) x0 x1 x2 x3 x4 x5 x6 (ix3 b t d)
        + ∑ f : Fin 4096, unit (fun k => val_main_v59 (F := Ideal) x0 x1 x2 x3 x4 x5 x6 (ix3 b t k)) (fun k => x7 (ix3 0 k f)) * x8 (ix3 0 f d) := by
  pointwise [val_main_v60, val_main_cst_10, val_main_v61, val_main_v62, val_main_v63, val_main_v64, val_main_cst_11, val_main_v65, val_main_v66, val_main_v67, val_main_v28, val_main_v29, unit, alpha]

/-- The reference's last normalisation. -/
theorem out_at (b : Fin 8) (t : Fin 2048) (d : Fin 1024) :
    val_main_v91 (F := Ideal) x0 x1 x2 x3 x4 x5 x6 x7 x8 x9 x10 (ix3 b t d)
      = ln (fun k => val_main_v67 (F := Ideal) x0 x1 x2 x3 x4 x5 x6 x7 x8 (ix3 b t k)) (fun k => x9 (ix2 0 k)) (fun k => x10 (ix2 0 k)) d := by
  pointwise [val_main_cst_12, val_main_v68, val_main_v69, val_main_cst_13, val_main_v70, val_main_v71, val_main_v72, val_main_v73, val_main_v74, val_main_cst_14, val_main_v75, val_main_v76, val_main_cst_15, val_main_v77, val_main_v78, val_main_v79, val_main_v80, val_main_cst_16, val_main_v81, val_main_v82, val_main_v83, val_main_v84, val_main_v85, val_main_v86, val_main_v87, val_main_v88, val_main_v89, val_main_v90, val_main_v91, val_main_v30, val_main_v31, ln, mean, eps, width]

/-- The reference's result, at a token and a column, is the layer's row. -/
theorem fin_at (b : Fin 8) (t : Fin 2048) (d : Fin 1024) :
    val_main_v91 (F := Ideal) x0 x1 x2 x3 x4 x5 x6 x7 x8 x9 x10 (ix3 b t d)
      = fin (fun k => x0 (ix3 b t k)) (fun k => x1 (ix3 b t k)) (fun k => x2 (ix1 k)) (fun k => x3 (ix1 k))
          (fun k d => x4 (ix3 0 k d)) (fun k => x5 (ix2 0 k)) (fun k => x6 (ix2 0 k)) (fun k f => x7 (ix3 0 k f))
          (fun f d => x8 (ix3 0 f d)) (fun k => x9 (ix2 0 k)) (fun k => x10 (ix2 0 k)) d := by
  simp only [out_at, res_at, hid_at, pre_at, emb_at]
  rfl

/-- The same with the tokens of the sequences laid end to end. -/
theorem flat_at (n : Fin 16384) (d : Fin 1024) :
    val_main_v92 (F := Ideal) x0 x1 x2 x3 x4 x5 x6 x7 x8 x9 x10 (ix2 n d)
      = val_main_v91 (F := Ideal) x0 x1 x2 x3 x4 x5 x6 x7 x8 x9 x10 (ix3 ⟨n / 2048, by omega⟩ ⟨n % 2048, by omega⟩ d) := by
  pointwise [val_main_v92]

end Cert.FinishRefIdeal.Rows
-- ==== Proof.FinishRun.lean ====
module

public import proofs.«01_k».proof.Proof.FinishRows
public import Idealize.ShloMosaic.Lib.Claim

@[expose] public section

set_option maxRecDepth 16384

noncomputable section

namespace Cert.FinishRefIdeal.Rows

open Idealize.ShloMosaic Idealize.ShloMosaic.TcCoe Idealize.SL.Sem Idealize.ShloMosaic.StableHlo
open Cert.FinishRefIdeal Cert.FinishRefIdeal.Gen Cert.FinishRefIdeal.Read

/-- The reference's run: its result as the last stage of its arguments, its arguments unchanged. -/
theorem run_stage (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => ⟨((h c).1.trans (val_main_v92_eq (launchContents m c))).trans (by simp only [launchContents_devRef]), (h c).2⟩)
    (Cert.FinishRefIdeal.Value.run m ρ)

end Cert.FinishRefIdeal.Rows
-- ==== Proof.FinishClaim.lean ====
module

public import proofs.«01_k».proof.Defs
public import proofs.«01_k».proof.Proof.FinishVal
public import proofs.«01_k».proof.Proof.FinishRun
public import Idealize.ShloMosaic.Lib.Claim

@[expose] public section

set_option maxRecDepth 16384

noncomputable section

namespace Cert.Layer

open Idealize.ShloMosaic Idealize.ShloMosaic.TcCoe Idealize.SL.Sem

/-- The reference's whole result over the arguments is the kernel's. -/
theorem finish_ref (x0 : FVec Ideal Cert.FinishIdeal.S8x2048x1024 .f32) (x1 : FVec Ideal Cert.FinishIdeal.S8x2048x1024 .bf16)
    (x2 x3 : FVec Ideal Cert.FinishIdeal.S1024 .f32) (x4 : FVec Ideal Cert.FinishIdeal.S1x1024x1024 .f32)
    (x5 x6 : FVec Ideal Cert.FinishIdeal.S1x1024 .f32) (x7 : FVec Ideal Cert.FinishIdeal.S1x1024x4096 .f32)
    (x8 : FVec Ideal Cert.FinishIdeal.S1x4096x1024 .f32) (x9 x10 : FVec Ideal Cert.FinishIdeal.S1x1024 .f32) :
    Cert.FinishRefIdeal.Read.val_main_v92 (F := Ideal) x0 x1 x2 x3 x4 x5 x6 x7 x8 x9 x10
      = Cert.FinishIdeal.Pay.whole x0 x1 x2 x3 x4 x5 x6 x7 x8 x9 x10 := by
  funext i
  obtain ⟨n, d, rfl⟩ : ∃ (n : Fin 16384) (d : Fin 1024), i = ix2 n d := ⟨i 0, i 1, eq_ix2 i⟩
  exact (Cert.FinishRefIdeal.Rows.flat_at _ _ _ _ _ _ _ _ _ _ _ n d).trans (Cert.FinishRefIdeal.Rows.fin_at _ _ _ _ _ _ _ _ _ _ _ _ _ d)

/-- The finishing call and its reference compute the same result. -/
theorem algebraic_finish : Cert.algebraic_FinishIdeal_FinishRefIdeal
    (hFinishIdeal := Cert.FinishIdeal.Gen.facts) (hFinishRefIdeal := Cert.FinishRefIdeal.Gen.facts) := by
  pair_intro
  · run_from Cert.FinishIdeal.Gen.run_main m g
  · run_from Cert.FinishRefIdeal.Rows.run_stage m' g'
    refine (finish_ref _ _ _ _ _ _ _ _ _ _ _).trans ?_
    exact (Cert.FinishIdeal.Pay.final m c).symm

end Cert.Layer
-- ==== Proof.SamplePay.lean ====
module

public import proofs.«01_k».proof.Proof.Spec
public import proofs.«01_k».proof.Proof.Gen.SampleIdeal.Skeleton

@[expose] public section

set_option maxRecDepth 16384

noncomputable section

namespace Cert.SampleIdeal.Pay

open Idealize.ShloMosaic Idealize.ShloMosaic.TcCoe Idealize.SL.Sem
open Cert.SampleIdeal Cert.SampleIdeal.Gen Cert.Layer

/-- A row less its mean, over its standard deviation. -/
def lnc (x : Fin 1024 → EReal) (k : Fin 1024) : EReal :=
  (x k - mean x) * Ideal.rsqrt (Ideal.div (∑ j, (x j - mean x) * (x j - mean x)) width + eps)

/-- The four tokens of the sequences, one under the other: row `r` is token `r / 128` of sequence `r % 128`. -/
theorem cat0 {φ : FTy} (a b c e : FVec Ideal S128x1024 φ) (s : Fin 128) (k : Fin 1024) :
    (concatenate S512x1024 0 [⟨S128x1024, a⟩, ⟨S128x1024, b⟩, ⟨S128x1024, c⟩, ⟨S128x1024, e⟩] concatenates_S128x1024_S128x1024_S128x1024_S128x1024_S512x1024_d0 : FVec Ideal S512x1024 φ) (ix2 ⟨s.val, by omega⟩ k)
      = a (ix2 s k) := by
  pointwise

theorem cat1 {φ : FTy} (a b c e : FVec Ideal S128x1024 φ) (s : Fin 128) (k : Fin 1024) :
    (concatenate S512x1024 0 [⟨S128x1024, a⟩, ⟨S128x1024, b⟩, ⟨S128x1024, c⟩, ⟨S128x1024, e⟩] concatenates_S128x1024_S128x1024_S128x1024_S128x1024_S512x1024_d0 : FVec Ideal S512x1024 φ) (ix2 ⟨128 + s.val, by omega⟩ k)
      = b (ix2 s k) := by
  pointwise

theorem cat2 {φ : FTy} (a b c e : FVec Ideal S128x1024 φ) (s : Fin 128) (k : Fin 1024) :
    (concatenate S512x1024 0 [⟨S128x1024, a⟩, ⟨S128x1024, b⟩, ⟨S128x1024, c⟩, ⟨S128x1024, e⟩] concatenates_S128x1024_S128x1024_S128x1024_S128x1024_S512x1024_d0 : FVec Ideal S512x1024 φ) (ix2 ⟨256 + s.val, by omega⟩ k)
      = c (ix2 s k) := by
  pointwise
  rw [dif_neg (by omega), dif_neg (by omega), dif_pos (by omega)]
  exact congrArg (fun z => c (ix2 z k)) (Fin.ext (by simp only []; omega))

theorem cat3 {φ : FTy} (a b c e : FVec Ideal S128x1024 φ) (s : Fin 128) (k : Fin 1024) :
    (concatenate S512x1024 0 [⟨S128x1024, a⟩, ⟨S128x1024, b⟩, ⟨S128x1024, c⟩, ⟨S128x1024, e⟩] concatenates_S128x1024_S128x1024_S128x1024_S128x1024_S512x1024_d0 : FVec Ideal S512x1024 φ) (ix2 ⟨384 + s.val, by omega⟩ k)
      = e (ix2 s k) := by
  pointwise
  rw [dif_neg (by omega), dif_neg (by omega), dif_neg (by omega)]
  exact congrArg (fun z => e (ix2 z k)) (Fin.ext (by simp only []; omega))

/-- The first normalisation before its gain and offset, over the four tokens' rows. -/
theorem pay5_at (a b c e : FVec Ideal S128x1024 .f32) (r : Fin 512) (d : Fin 1024) :
    k0_pay5 (F := Ideal) a b c e (ix2 r d)
      = lnc (fun k => (concatenate S512x1024 0 [⟨S128x1024, a⟩, ⟨S128x1024, b⟩, ⟨S128x1024, c⟩, ⟨S128x1024, e⟩] concatenates_S128x1024_S128x1024_S128x1024_S128x1024_S512x1024_d0 : FVec Ideal S512x1024 .f32) (ix2 r k)) d := by
  pointwise [k0_pay5, lnc, mean, alpha, eps, width]

/-- The row after the second normalisation. -/
theorem pay6_at (v13 : FVec Ideal S512x1024 .bf16) (v15 v17 : FVec Ideal S1x1024 .f32) (v33 : FVec Ideal S512x1024 .f32)
    (v40 : FVec Ideal S1024x1024 .bf16) (v44 v46 : FVec Ideal S1x1024 .f32) (r : Fin 512) (d : Fin 1024) :
    k0_pay6 (F := Ideal) v13 v15 v17 v33 v40 v44 v46 (ix2 r d)
      = ln (fun d => alpha * ((show EReal from v33 (ix2 r d)) * v15 (ix2 0 d) + v17 (ix2 0 d)) + ∑ k : Fin 1024, (show EReal from v13 (ix2 r k)) * v40 (ix2 k d))
          (fun k => v44 (ix2 0 k)) (fun k => v46 (ix2 0 k)) d := by
  pointwise [k0_pay6, ln, mean, alpha, eps, width]

/-- The first chunk's hidden units. -/
theorem pay8_at (v13 : FVec Ideal S512x1024 .bf16) (v15 v17 : FVec Ideal S1x1024 .f32) (v33 : FVec Ideal S512x1024 .f32)
    (v40 : FVec Ideal S1024x1024 .bf16) (v44 v46 : FVec Ideal S1x1024 .f32) (v69 : FVec Ideal S1024x512 .bf16) (r : Fin 512) (f : Fin 512) :
    k0_pay8 (F := Ideal) v13 v15 v17 v33 v40 v44 v46 v69 (ix2 r f)
      = unit (fun k => k0_pay6 (F := Ideal) v13 v15 v17 v33 v40 v44 v46 (ix2 r k)) (fun k => v69 (ix2 k f)) := by
  pointwise [k0_pay8, k0_pay7, unit]

/-- The sum of the first four chunks. -/
theorem pay9_at (v68 : FVec Ideal S512x1024 .bf16) (v75 : FVec Ideal S512x512 .bf16) (b1 b2 b3 b4 : FVec Ideal S512x1024 .bf16)
    (a2 a3 a4 : FVec Ideal S1024x512 .bf16) (r : Fin 512) (d : Fin 1024) :
    k0_pay9 (F := Ideal) v68 v75 b1 a2 b2 a3 b3 a4 b4 (ix2 r d)
      = (∑ f : Fin 512, (show EReal from v75 (ix2 r f)) * b1 (ix2 f d))
        + (∑ f : Fin 512, unit (fun k => v68 (ix2 r k)) (fun k => a2 (ix2 k f)) * b2 (ix2 f d))
        + (∑ f : Fin 512, unit (fun k => v68 (ix2 r k)) (fun k => a3 (ix2 k f)) * b3 (ix2 f d))
        + (∑ f : Fin 512, unit (fun k => v68 (ix2 r k)) (fun k => a4 (ix2 k f)) * b4 (ix2 f d)) := by
  pointwise [k0_pay9, unit]

/-- The sum of the first seven chunks. -/
theorem pay10_at (v68 : FVec Ideal S512x1024 .bf16) (v111 : FVec Ideal S512x1024 .f32) (b5 b6 b7 : FVec Ideal S512x1024 .bf16)
    (a5 a6 a7 : FVec Ideal S1024x512 .bf16) (r : Fin 512) (d : Fin 1024) :
    k0_pay10 (F := Ideal) v68 v111 a5 b5 a6 b6 a7 b7 (ix2 r d)
      = (show EReal from v111 (ix2 r d))
        + (∑ f : Fin 512, unit (fun k => v68 (ix2 r k)) (fun k => a5 (ix2 k f)) * b5 (ix2 f d))
        + (∑ f : Fin 512, unit (fun k => v68 (ix2 r k)) (fun k => a6 (ix2 k f)) * b6 (ix2 f d))
        + (∑ f : Fin 512, unit (fun k => v68 (ix2 r k)) (fun k => a7 (ix2 k f)) * b7 (ix2 f d)) := by
  pointwise [k0_pay10, unit]

/-- The row after the last normalisation, from the last chunk's products. -/
theorem pay12_at (v67 v144 : FVec Ideal S512x1024 .f32) (v68 : FVec Ideal S512x1024 .bf16) (a8 : FVec Ideal S1024x512 .bf16)
    (b8 : FVec Ideal S512x1024 .bf16) (v159 v161 : FVec Ideal S1x1024 .f32) (r : Fin 512) (d : Fin 1024) :
    k0_pay12 (F := Ideal) v67 v144 (k0_pay11 v68 a8) (Scalar.ofBits .f32 0x00000000#32) b8 v159 v161 (ix2 r d)
      = ln (fun d => alpha * v67 (ix2 r d) + ((show EReal from v144 (ix2 r d))
          + (∑ f : Fin 512, unit (fun k => v68 (ix2 r k)) (fun k => a8 (ix2 k f)) * b8 (ix2 f d))))
          (fun k => v159 (ix2 0 k)) (fun k => v161 (ix2 0 k)) d := by
  pointwise [k0_pay12, k0_pay11, unit, ln, mean, alpha, eps, width]

end Cert.SampleIdeal.Pay
-- ==== Proof.SampleOut.lean ====
module

public import proofs.«01_k».proof.Proof.SamplePay
public import proofs.«01_k».proof.Proof.FinishOut
public import proofs.«01_k».proof.Proof.Gen.SampleIdeal.Frame
public import Idealize.ShloMosaic.Lib.Pipeline.ValueKit

@[expose] public section

set_option maxRecDepth 16384

noncomputable section

namespace Cert.SampleIdeal.Pay

open Idealize.ShloMosaic Idealize.ShloMosaic.TcCoe Idealize.SL.Sem
open Cert.SampleIdeal Cert.SampleIdeal.Gen Cert.Layer

variable (x0 : FVec Ideal S128x4096 .f32) (x1 : FVec Ideal S128x4096 .bf16) (x2 x3 : FVec Ideal S1x1024 .f32)
  (x4 : FVec Ideal S1024x1024 .bf16) (x5 x6 : FVec Ideal S1x1024 .f32) (x7 : FVec Ideal S1024x4096 .bf16)
  (x8 : FVec Ideal S4096x1024 .bf16) (x9 x10 : FVec Ideal S1x1024 .f32)

/-- The four tokens' pieces of the tokens, one under the other. -/
def tokX (x : FVec Ideal S128x4096 .f32) : FVec Ideal S512x1024 .f32 :=
  concatenate S512x1024 0 [⟨S128x1024, (View.ld (Val := Elt Ideal) (e' := .f32) x r0_0 : FVec Ideal S128x1024 .f32)⟩, ⟨S128x1024, (View.ld (Val := Elt Ideal) (e' := .f32) x r0_1 : FVec Ideal S128x1024 .f32)⟩, ⟨S128x1024, (View.ld (Val := Elt Ideal) (e' := .f32) x r0_2 : FVec Ideal S128x1024 .f32)⟩, ⟨S128x1024, (View.ld (Val := Elt Ideal) (e' := .f32) x r0_3 : FVec Ideal S128x1024 .f32)⟩] concatenates_S128x1024_S128x1024_S128x1024_S128x1024_S512x1024_d0

theorem tokX0 (x : FVec Ideal S128x4096 .f32) (s : Fin 128) (k : Fin 1024) :
    tokX x (ix2 ⟨s.val, by omega⟩ k) = x (ix2 s ⟨0 * 1024 + k.val, by omega⟩) := by
  refine (cat0 _ _ _ _ s k).trans ?_
  pointwise

theorem tokX1 (x : FVec Ideal S128x4096 .f32) (s : Fin 128) (k : Fin 1024) :
    tokX x (ix2 ⟨128 + s.val, by omega⟩ k) = x (ix2 s ⟨1 * 1024 + k.val, by omega⟩) := by
  refine (cat1 _ _ _ _ s k).trans ?_
  pointwise

theorem tokX2 (x : FVec Ideal S128x4096 .f32) (s : Fin 128) (k : Fin 1024) :
    tokX x (ix2 ⟨256 + s.val, by omega⟩ k) = x (ix2 s ⟨2 * 1024 + k.val, by omega⟩) := by
  refine (cat2 _ _ _ _ s k).trans ?_
  pointwise

theorem tokX3 (x : FVec Ideal S128x4096 .f32) (s : Fin 128) (k : Fin 1024) :
    tokX x (ix2 ⟨384 + s.val, by omega⟩ k) = x (ix2 s ⟨3 * 1024 + k.val, by omega⟩) := by
  refine (cat3 _ _ _ _ s k).trans ?_
  pointwise

/-- The four tokens' pieces of the mixer's output, one under the other. -/
def tokM (x : FVec Ideal S128x4096 .bf16) : FVec Ideal S512x1024 .bf16 :=
  concatenate S512x1024 0 [⟨S128x1024, (View.ld (Val := Elt Ideal) (e' := .bf16) x r0_0 : FVec Ideal S128x1024 .bf16)⟩, ⟨S128x1024, (View.ld (Val := Elt Ideal) (e' := .bf16) x r0_1 : FVec Ideal S128x1024 .bf16)⟩, ⟨S128x1024, (View.ld (Val := Elt Ideal) (e' := .bf16) x r0_2 : FVec Ideal S128x1024 .bf16)⟩, ⟨S128x1024, (View.ld (Val := Elt Ideal) (e' := .bf16) x r0_3 : FVec Ideal S128x1024 .bf16)⟩] concatenates_S128x1024_S128x1024_S128x1024_S128x1024_S512x1024_d0

theorem tokM0 (x : FVec Ideal S128x4096 .bf16) (s : Fin 128) (k : Fin 1024) :
    tokM x (ix2 ⟨s.val, by omega⟩ k) = x (ix2 s ⟨0 * 1024 + k.val, by omega⟩) := by
  refine (cat0 _ _ _ _ s k).trans ?_
  pointwise

theorem tokM1 (x : FVec Ideal S128x4096 .bf16) (s : Fin 128) (k : Fin 1024) :
    tokM x (ix2 ⟨128 + s.val, by omega⟩ k) = x (ix2 s ⟨1 * 1024 + k.val, by omega⟩) := by
  refine (cat1 _ _ _ _ s k).trans ?_
  pointwise

theorem tokM2 (x : FVec Ideal S128x4096 .bf16) (s : Fin 128) (k : Fin 1024) :
    tokM x (ix2 ⟨256 + s.val, by omega⟩ k) = x (ix2 s ⟨2 * 1024 + k.val, by omega⟩) := by
  refine (cat2 _ _ _ _ s k).trans ?_
  pointwise

theorem tokM3 (x : FVec Ideal S128x4096 .bf16) (s : Fin 128) (k : Fin 1024) :
    tokM x (ix2 ⟨384 + s.val, by omega⟩ k) = x (ix2 s ⟨3 * 1024 + k.val, by omega⟩) := by
  refine (cat3 _ _ _ _ s k).trans ?_
  pointwise

/-- All 512 rows that the body computes. -/
def rows : FVec Ideal S512x1024 .f32 :=
  k0_pay12 (k0_pay20 x0 x1 x2 x3 x4 x5 x6 x7 x8 x9 x10) (k0_pay22 x0 x1 x2 x3 x4 x5 x6 x7 x8 x9 x10) (k0_pay23 x0 x1 x2 x3 x4 x5 x6 x7 x8 x9 x10) (Scalar.ofBits .f32 0x00000000#32) (View.ld x8 r0_21) (View.ld x9 r0_4) (View.ld x10 r0_4)

theorem pay16_eq : k0_pay16 (F := Ideal) x0 x1 x2 x3 x4 x5 x6 x7 x8 x9 x10 = tokM x1 := rfl

theorem pay17_eq : k0_pay17 (F := Ideal) x0 x1 x2 x3 x4 x5 x6 x7 x8 x9 x10 = x2 := by
  unfold k0_pay17 k0_pay3
  simp (disch := decide) only [View.ld_unit_lit', shapeCast_self]

theorem pay18_eq : k0_pay18 (F := Ideal) x0 x1 x2 x3 x4 x5 x6 x7 x8 x9 x10 = x3 := by
  unfold k0_pay18 k0_pay4
  simp (disch := decide) only [View.ld_unit_lit', shapeCast_self]

theorem pay19_at (r : Fin 512) (d : Fin 1024) :
    k0_pay19 (F := Ideal) x0 x1 x2 x3 x4 x5 x6 x7 x8 x9 x10 (ix2 r d) = lnc (fun k => tokX x0 (ix2 r k)) d :=
  pay5_at _ _ _ _ r d

/-- The hidden row of the body. -/
theorem hid_at (r : Fin 512) (d : Fin 1024) :
    k0_pay20 (F := Ideal) x0 x1 x2 x3 x4 x5 x6 x7 x8 x9 x10 (ix2 r d)
      = hid (fun k => tokX x0 (ix2 r k)) (fun k => tokM x1 (ix2 r k)) (fun k => x2 (ix2 0 k)) (fun k => x3 (ix2 0 k))
          (fun k d => x4 (ix2 k d)) (fun k => x5 (ix2 0 k)) (fun k => x6 (ix2 0 k)) d := by
  unfold k0_pay20
  rw [pay6_at, pay16_eq, pay17_eq, pay18_eq]
  simp only [pay19_at]
  unfold hid ln lnc
  pointwise

/-- A row that the body computes is the layer's row. -/
theorem rows_at (r : Fin 512) (d : Fin 1024) :
    rows x0 x1 x2 x3 x4 x5 x6 x7 x8 x9 x10 (ix2 r d)
      = fin (fun k => tokX x0 (ix2 r k)) (fun k => tokM x1 (ix2 r k)) (fun k => x2 (ix2 0 k)) (fun k => x3 (ix2 0 k))
          (fun k d => x4 (ix2 k d)) (fun k => x5 (ix2 0 k)) (fun k => x6 (ix2 0 k)) (fun k f => x7 (ix2 k f))
          (fun f d => x8 (ix2 f d)) (fun k => x9 (ix2 0 k)) (fun k => x10 (ix2 0 k)) d := by
  have e21 : ∀ k : Fin 1024, k0_pay21 (F := Ideal) x0 x1 x2 x3 x4 x5 x6 x7 x8 x9 x10 (ix2 r k)
      = hid (fun k => tokX x0 (ix2 r k)) (fun k => tokM x1 (ix2 r k)) (fun k => x2 (ix2 0 k)) (fun k => x3 (ix2 0 k))
          (fun k d => x4 (ix2 k d)) (fun k => x5 (ix2 0 k)) (fun k => x6 (ix2 0 k)) k := fun k =>
    hid_at x0 x1 x2 x3 x4 x5 x6 x7 x8 x9 x10 r k
  have e6 := fun k => hid_at x0 x1 x2 x3 x4 x5 x6 x7 x8 x9 x10 r k
  unfold k0_pay20 at e6
  unfold rows k0_pay23 k0_pay22
  simp only [pay12_at, pay10_at, pay9_at, pay8_at, e6, e21, hid_at]
  unfold fin
  simp only [Cert.FinishIdeal.Pay.sum_chunks]
  generalize hid (fun k => tokX x0 (ix2 r k)) (fun k => tokM x1 (ix2 r k)) (fun k => x2 (ix2 0 k)) (fun k => x3 (ix2 0 k))
          (fun k d => x4 (ix2 k d)) (fun k => x5 (ix2 0 k)) (fun k => x6 (ix2 0 k)) = H
  pointwise

/-- A position of the output block lies in the piece stored last or the earlier pieces decide it. -/
theorem cons_tok {C : ℕ} {h : ∀ a, (![0, C] : Fin 2 → ℕ) a + S128x1024.size a ≤ S128x4096.size a}
    {w : (Rect.unit (s := S128x4096) ![0, C] S128x1024.size h).shape.Idx → Elt Ideal .f32} {L : List (View.Piece (Elt Ideal) S128x4096 .f32)}
    {s : Fin 128} {c : Fin 4096} {G : EReal} (hw : ∀ d : Fin 1024, c.val = C + d.val → w (ix2 s d) = G)
    (hL : ¬ (C ≤ c.val ∧ c.val < C + 1024) → View.canon L (ix2 s c) = G) :
    View.canon ((⟨Rect.unit (s := S128x4096) ![0, C] S128x1024.size h, w⟩ : View.Piece (Elt Ideal) S128x4096 .f32) :: L) (ix2 s c) = G := by
  by_cases hz : C ≤ c.val ∧ c.val < C + 1024
  · have e : (Rect.unit (s := S128x4096) ![0, C] S128x1024.size h).emb (ix2 s (⟨c.val - C, by omega⟩ : Fin 1024)) = ix2 s c := by
      funext a
      match a with
      | ⟨0, _⟩ => exact Fin.ext (by show 0 + 1 * s.val = s.val; omega)
      | ⟨1, _⟩ => exact Fin.ext (by show C + 1 * (c.val - C) = c.val; omega)
    refine (congrArg (View.canon _) e.symm).trans ((View.canon_cons_emb _ w L _).trans (hw _ ?_))
    show c.val = C + (c.val - C); omega
  · refine (View.canon_cons_of_not_mem _ L fun hm => hz ?_).trans (hL hz)
    obtain ⟨x, hx⟩ := (Rect.unit (s := S128x4096) ![0, C] S128x1024.size h).exists_idx_of_mem hm
    have e2 : c.val = C + 1 * (x 1).val := congrArg (fun y : S128x4096.Idx => (y 1).val) hx.symm
    have e3 : (x 1).val < 1024 := (x 1).isLt
    omega

/-- The row number of a token: the tokens lie one under the other. -/
theorem slice_at {o : ℕ} {h : S512x1024.Slices ![o, 0] S128x1024} (X : FVec Ideal S512x1024 .f32) (s : Fin 128) (d : Fin 1024) (ho : o + 128 ≤ 512) :
    (extractStridedSlice S128x1024 ![o, 0] X h : FVec Ideal S128x1024 .f32) (ix2 s d) = X (ix2 ⟨o + s.val, by omega⟩ d) := by
  pointwise

/-- What the body leaves in its output block, at sequence `s`, token `t` and column `d`: the layer's row of the token. -/
theorem out_at (s : Fin 128) (t : Fin 4) (d : Fin 1024) :
    out0_11 (F := Ideal) x0 x1 x2 x3 x4 x5 x6 x7 x8 x9 x10 (ix2 s ⟨t.val * 1024 + d.val, by omega⟩)
      = fin (fun k => x0 (ix2 s ⟨t.val * 1024 + k.val, by omega⟩)) (fun k => x1 (ix2 s ⟨t.val * 1024 + k.val, by omega⟩)) (fun k => x2 (ix2 0 k)) (fun k => x3 (ix2 0 k))
          (fun k d => x4 (ix2 k d)) (fun k => x5 (ix2 0 k)) (fun k => x6 (ix2 0 k)) (fun k f => x7 (ix2 k f))
          (fun f d => x8 (ix2 f d)) (fun k => x9 (ix2 0 k)) (fun k => x10 (ix2 0 k)) d := by
  unfold out0_11
  refine cons_tok (fun d' hd => ?_) fun n3 => cons_tok (fun d' hd => ?_) fun n2 => cons_tok (fun d' hd => ?_) fun n1 =>
    cons_tok (fun d' hd => ?_) fun n0 => absurd d.isLt (by simp only [] at n0 n1 n2 n3; omega)
  · obtain rfl : t = 3 := Fin.ext (by simp only [] at hd; show t.val = 3; omega)
    obtain rfl : d' = d := Fin.ext (by simp only [] at hd; omega)
    refine (slice_at (h := slices_S512x1024_o384_0_S128x1024) (rows x0 x1 x2 x3 x4 x5 x6 x7 x8 x9 x10) s d' (by omega)).trans ((rows_at x0 x1 x2 x3 x4 x5 x6 x7 x8 x9 x10 _ d').trans ?_)
    exact fin_congr (funext fun k => tokX3 x0 s k) (funext fun k => tokM3 x1 s k) rfl rfl rfl rfl rfl rfl rfl rfl rfl
  · obtain rfl : t = 2 := Fin.ext (by simp only [] at hd n3; show t.val = 2; omega)
    obtain rfl : d' = d := Fin.ext (by simp only [] at hd; omega)
    refine (slice_at (h := slices_S512x1024_o256_0_S128x1024) (rows x0 x1 x2 x3 x4 x5 x6 x7 x8 x9 x10) s d' (by omega)).trans ((rows_at x0 x1 x2 x3 x4 x5 x6 x7 x8 x9 x10 _ d').trans ?_)
    exact fin_congr (funext fun k => tokX2 x0 s k) (funext fun k => tokM2 x1 s k) rfl rfl rfl rfl rfl rfl rfl rfl rfl
  · obtain rfl : t = 1 := Fin.ext (by simp only [] at hd n2; show t.val = 1; omega)
    obtain rfl : d' = d := Fin.ext (by simp only [] at hd; omega)
    refine (slice_at (h := slices_S512x1024_o128_0_S128x1024) (rows x0 x1 x2 x3 x4 x5 x6 x7 x8 x9 x10) s d' (by omega)).trans ((rows_at x0 x1 x2 x3 x4 x5 x6 x7 x8 x9 x10 _ d').trans ?_)
    exact fin_congr (funext fun k => tokX1 x0 s k) (funext fun k => tokM1 x1 s k) rfl rfl rfl rfl rfl rfl rfl rfl rfl
  · obtain rfl : t = 0 := Fin.ext (by simp only [] at hd n1; show t.val = 0; omega)
    obtain rfl : d' = d := Fin.ext (by simp only [] at hd; omega)
    have hs : (⟨0 + s.val, by omega⟩ : Fin 512) = ⟨s.val, by omega⟩ := Fin.ext (by simp only []; omega)
    refine (slice_at (h := slices_S512x1024_o0_0_S128x1024) (rows x0 x1 x2 x3 x4 x5 x6 x7 x8 x9 x10) s d' (by omega)).trans ((rows_at x0 x1 x2 x3 x4 x5 x6 x7 x8 x9 x10 _ d').trans ?_)
    rw [hs]
    exact fin_congr (funext fun k => tokX0 x0 s k) (funext fun k => tokM0 x1 s k) rfl rfl rfl rfl rfl rfl rfl rfl rfl

end Cert.SampleIdeal.Pay
-- ==== Proof.SampleVal.lean ====
module

public import proofs.«01_k».proof.Proof.SampleOut

@[expose] public section

set_option maxRecDepth 16384

noncomputable section

namespace Cert.SampleIdeal.Pay

open Idealize.ShloMosaic Idealize.ShloMosaic.TcCoe Idealize.SL.Sem
open Idealize.ShloMosaic.Pipeline (Dat)
open Cert.SampleIdeal Cert.SampleIdeal.Gen Cert.Layer

variable (m : (ℓ : Loc nD τ sig) → Buf (Elt Ideal) ℓ)

/-- The whole result over the argument arrays: column `n` of sequence `s` is column `n % 1024` of the layer's row of token `n / 1024`. -/
def whole (x0 : FVec Ideal S128x4x1024 .f32) (x1 : FVec Ideal S128x4096 .bf16) (x2 x3 : FVec Ideal S1024 .f32)
    (x4 : FVec Ideal S1x1024x1024 .f32) (x5 x6 : FVec Ideal S1x1024 .f32) (x7 : FVec Ideal S1x1024x4096 .f32)
    (x8 : FVec Ideal S1x4096x1024 .f32) (x9 x10 : FVec Ideal S1x1024 .f32) : FVec Ideal S128x4096 .f32 := fun i =>
  have h : (i 1).val < 4096 := (i 1).isLt
  fin (fun k => x0 (ix3 (i 0) ⟨(i 1).val / 1024, by omega⟩ k))
    (fun k => x1 (ix2 (i 0) ⟨(i 1).val / 1024 * 1024 + k.val, by omega⟩)) (fun k => x2 (ix1 k)) (fun k => x3 (ix1 k))
    (fun k d => x4 (ix3 0 k d)) (fun k => x5 (ix2 0 k)) (fun k => x6 (ix2 0 k)) (fun k f => x7 (ix3 0 k f))
    (fun f d => x8 (ix3 0 f d)) (fun k => x9 (ix2 0 k)) (fun k => x10 (ix2 0 k)) ⟨(i 1).val % 1024, by omega⟩

/-- Where each window's block lies at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

/-- There is one grid point. -/
theorem pt (t : Fin cfg0.N) : t.val = 0 := by
  have h : t.val < 1 := lt_of_lt_of_eq t.isLt (show cfg0.N = 1 from N_0)
  omega

/-- Window 0's block at a sequence, a token and a column, as the argument array read. -/
theorem blk0 (c : Dev nD) (t : Fin cfg0.N) (s : Fin 128) (u : Fin 4) (k : Fin 1024) :
    (show FVec Ideal S128x4096 .f32 from iblk m c 0 t) (ix2 s ⟨u.val * 1024 + k.val, by omega⟩)
      = (show FVec Ideal S128x4x1024 .f32 from m ((c : Thread nD τ).loc main_arg0)) (ix3 s u k) := by
  have h0 := pt t
  blk_simp [iblk, idx t]
  entry_read
  pointwise
  blk_ext [idx t]

/-- Window 1's block at a sequence and a column, as the argument array read. -/
theorem blk1 (c : Dev nD) (t : Fin cfg0.N) (s : Fin 128) (k : Fin 4096) :
    (show FVec Ideal S128x4096 .bf16 from iblk m c 1 t) (ix2 s k)
      = (show FVec Ideal S128x4096 .bf16 from m ((c : Thread nD τ).loc main_arg1)) (ix2 s k) := by
  have h0 := pt t
  blk_simp [iblk, idx t]
  entry_read
  pointwise
  blk_ext [idx t]

/-- Window 2's block at a row and a column, as the argument array read. -/
theorem blk2 (c : Dev nD) (t : Fin cfg0.N) (r : Fin 1) (k : Fin 1024) :
    (show FVec Ideal S1x1024 .f32 from iblk m c 2 t) (ix2 r k)
      = (show FVec Ideal S1024 .f32 from m ((c : Thread nD τ).loc main_arg2)) (ix1 k) := by
  blk_simp [iblk, idx t]
  entry_read
  pointwise
  blk_ext [idx t]

/-- Window 3's block at a row and a column, as the argument array read. -/
theorem blk3 (c : Dev nD) (t : Fin cfg0.N) (r : Fin 1) (k : Fin 1024) :
    (show FVec Ideal S1x1024 .f32 from iblk m c 3 t) (ix2 r k)
      = (show FVec Ideal S1024 .f32 from m ((c : Thread nD τ).loc main_arg3)) (ix1 k) := by
  blk_simp [iblk, idx t]
  entry_read
  pointwise
  blk_ext [idx t]

/-- Window 4's block at a row and a column, as the argument array read. -/
theorem blk4 (c : Dev nD) (t : Fin cfg0.N) (r : Fin 1024) (k : Fin 1024) :
    (show FVec Ideal S1024x1024 .bf16 from iblk m c 4 t) (ix2 r k)
      = (show FVec Ideal S1x1024x1024 .f32 from m ((c : Thread nD τ).loc main_arg4)) (ix3 0 r k) := by
  blk_simp [iblk, idx t]
  entry_read
  pointwise
  blk_ext [idx t]

/-- Window 5's block at a row and a column, as the argument array read. -/
theorem blk5 (c : Dev nD) (t : Fin cfg0.N) (r : Fin 1) (k : Fin 1024) :
    (show FVec Ideal S1x1024 .f32 from iblk m c 5 t) (ix2 r k)
      = (show FVec Ideal S1x1024 .f32 from m ((c : Thread nD τ).loc main_arg5)) (ix2 0 k) := by
  blk_simp [iblk, idx t]
  entry_read
  pointwise
  blk_ext [idx t]

/-- Window 6's block at a row and a column, as the argument array read. -/
theorem blk6 (c : Dev nD) (t : Fin cfg0.N) (r : Fin 1) (k : Fin 1024) :
    (show FVec Ideal S1x1024 .f32 from iblk m c 6 t) (ix2 r k)
      = (show FVec Ideal S1x1024 .f32 from m ((c : Thread nD τ).loc main_arg6)) (ix2 0 k) := by
  blk_simp [iblk, idx t]
  entry_read
  pointwise
  blk_ext [idx t]

/-- Window 7's block at a row and a column, as the argument array read. -/
theorem blk7 (c : Dev nD) (t : Fin cfg0.N) (r : Fin 1024) (k : Fin 4096) :
    (show FVec Ideal S1024x4096 .bf16 from iblk m c 7 t) (ix2 r k)
      = (show FVec Ideal S1x1024x4096 .f32 from m ((c : Thread nD τ).loc main_arg7)) (ix3 0 r k) := by
  blk_simp [iblk, idx t]
  entry_read
  pointwise
  blk_ext [idx t]

/-- Window 8's block at a row and a column, as the argument array read. -/
theorem blk8 (c : Dev nD) (t : Fin cfg0.N) (r : Fin 4096) (k : Fin 1024) :
    (show FVec Ideal S4096x1024 .bf16 from iblk m c 8 t) (ix2 r k)
      = (show FVec Ideal S1x4096x1024 .f32 from m ((c : Thread nD τ).loc main_arg8)) (ix3 0 r k) := by
  blk_simp [iblk, idx t]
  entry_read
  pointwise
  blk_ext [idx t]

/-- Window 9's block at a row and a column, as the argument array read. -/
theorem blk9 (c : Dev nD) (t : Fin cfg0.N) (r : Fin 1) (k : Fin 1024) :
    (show FVec Ideal S1x1024 .f32 from iblk m c 9 t) (ix2 r k)
      = (show FVec Ideal S1x1024 .f32 from m ((c : Thread nD τ).loc main_arg9)) (ix2 0 k) := by
  blk_simp [iblk, idx t]
  entry_read
  pointwise
  blk_ext [idx t]

/-- Window 10's block at a row and a column, as the argument array read. -/
theorem blk10 (c : Dev nD) (t : Fin cfg0.N) (r : Fin 1) (k : Fin 1024) :
    (show FVec Ideal S1x1024 .f32 from iblk m c 10 t) (ix2 r k)
      = (show FVec Ideal S1x1024 .f32 from m ((c : Thread nD τ).loc main_arg10)) (ix2 0 k) := by
  blk_simp [iblk, idx t]
  entry_read
  pointwise
  blk_ext [idx t]

/-- What the point leaves at sequence `s`, token `u` and column `d`. -/
theorem point (c : Dev nD) (t : Fin cfg0.N) (s : Fin 128) (n : Fin 4096) :
    out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 s n)
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (ix2 s n) := by
  have hn : (ix2 s n : S128x4096.Idx) = ix2 s (⟨(⟨n.val / 1024, by omega⟩ : Fin 4).val * 1024 + (⟨n.val % 1024, by omega⟩ : Fin 1024).val, by simp only []; omega⟩ : Fin 4096) :=
    congrArg (ix2 s) (Fin.ext (by simp only []; omega))
  refine (congrArg _ hn).trans ((out_at _ _ _ _ _ _ _ _ _ _ _ s ⟨n.val / 1024, by omega⟩ ⟨n.val % 1024, by omega⟩).trans ?_)
  unfold whole
  refine fin_congr (funext fun k => blk0 m c t s _ k) (funext fun k => blk1 m c t s _) (funext fun k => blk2 m c t 0 k)
    (funext fun k => blk3 m c t 0 k) (funext fun k => funext fun d => blk4 m c t k d) (funext fun k => blk5 m c t 0 k)
    (funext fun k => blk6 m c t 0 k) (funext fun k => funext fun f => blk7 m c t k f) (funext fun f => funext fun d => blk8 m c t f d)
    (funext fun k => blk9 m c t 0 k) (funext fun k => blk10 m c t 0 k)

/-- The result array after the run. -/
theorem final (c : Dev nD) : (dats m 0 c).arrAt 11 cfg0.N
      = whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 11 _ (by decide +kernel) fun t _ y => ?_
  blk_simp
  rw [after0_11]
  idx_vars y
  have h0 := pt t
  refine (point m c t _ _).trans (congrArg _ ?_)
  blk_ext [idx t]

end Cert.SampleIdeal.Pay
-- ==== Proof.SampleRows.lean ====
module

public import proofs.«01_k».proof.Proof.Spec
public import proofs.«01_k».proof.Proof.Gen.SampleRefIdeal.Read

@[expose] public section

set_option maxRecDepth 16384

noncomputable section

namespace Cert.SampleRefIdeal.Rows

open Idealize.ShloMosaic Idealize.ShloMosaic.TcCoe Idealize.SL.Sem
open Cert.SampleRefIdeal Cert.SampleRefIdeal.Gen Cert.SampleRefIdeal.Read Cert.Layer

variable (x0 : FVec Ideal S128x4x1024 .f32) (x1 : FVec Ideal S128x4096 .bf16) (x2 x3 : FVec Ideal S1024 .f32)
  (x4 : FVec Ideal S1x1024x1024 .f32) (x5 x6 : FVec Ideal S1x1024 .f32) (x7 : FVec Ideal S1x1024x4096 .f32)
  (x8 : FVec Ideal S1x4096x1024 .f32) (x9 x10 : FVec Ideal S1x1024 .f32)

/-- The reference's first normalisation, at a token and a column. -/
theorem emb_at (b : Fin 128) (t : Fin 4) (d : Fin 1024) :
    val_main_v23 (F := Ideal) x0 x2 x3 (ix3 b t d) = ln (fun k => x0 (ix3 b t k)) (fun k => x2 (ix1 k)) (fun k => x3 (ix1 k)) d := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23, ln, mean, eps, width]

/-- The row before the reference's second normalisation. -/
theorem pre_at (b : Fin 128) (t : Fin 4) (d : Fin 1024) :
    val_main_v36 (F := Ideal) x0 x1 x2 x3 x4 (ix3 b t d)
      = alpha * val_main_v23 (F := Ideal) x0 x2 x3 (ix3 b t d) + ∑ k : Fin 1024, (show EReal from x1 (ix2 b ⟨t * 1024 + k, by omega⟩)) * x4 (ix3 0 k d) := by
  pointwise [val_main_v24, val_main_v25, val_main_v26, val_main_v27, val_main_v28, val_main_v29, val_main_v30, val_main_v31, val_main_v32, val_main_cst_4, val_main_v33, val_main_v34, val_main_v35, val_main_v36, alpha]

/-- The reference's second normalisation. -/
theorem hid_at (b : Fin 128) (t : Fin 4) (d : Fin 1024) :
    val_main_v60 (F := Ideal) x0 x1 x2 x3 x4 x5 x6 (ix3 b t d)
      = ln (fun k => val_main_v36 (F := Ideal) x0 x1 x2 x3 x4 (ix3 b t k)) (fun k => x5 (ix2 0 k)) (fun k => x6 (ix2 0 k)) d := by
  pointwise [val_main_cst_5, val_main_v37, val_main_v38, val_main_cst_6, val_main_v39, val_main_v40, val_main_v41, val_main_v42, val_main_v43, val_main_cst_7, val_main_v44, val_main_v45, val_main_cst_8, val_main_v46, val_main_v47, val_main_v48, val_main_v49, val_main_cst_9, val_main_v50, val_main_v51, val_main_v52, val_main_v53, val_main_v54, val_main_v55, val_main_v56, val_main_v57, val_main_v58, val_main_v59, val_main_v60, val_main_v27, val_main_v28, ln, mean, eps, width]

/-- The row before the reference's last normalisation. -/
theorem res_at (b : Fin 128) (t : Fin 4) (d : Fin 1024) :
    val_main_v68 (F := Ideal) x0 x1 x2 x3 x4 x5 x6 x7 x8 (ix3 b t d)
      = alpha * val_main_v60 (F := Ideal) x0 x1 x2 x3 x4 x5 x6 (ix3 b t d)
        + ∑ f : Fin 4096, unit (fun k => val_main_v60 (F := Ideal) x0 x1 x2 x3 x4 x5 x6 (ix3 b t k)) (fun k => x7 (ix3 0 k f)) * x8 (ix3 0 f d) := by
  pointwise [val_main_v61, val_main_cst_10, val_main_v62, val_main_v63, val_main_v64, val_main_v65, val_main_cst_11, val_main_v66, val_main_v67, val_main_v68, val_main_v29, val_main_v30, unit, alpha]

/-- The reference's last normalisation. -/
theorem out_at (b : Fin 128) (t : Fin 4) (d : Fin 1024) :
    val_main_v92 (F := Ideal) x0 x1 x2 x3 x4 x5 x6 x7 x8 x9 x10 (ix3 b t d)
      = ln (fun k => val_main_v68 (F := Ideal) x0 x1 x2 x3 x4 x5 x6 x7 x8 (ix3 b t k)) (fun k => x9 (ix2 0 k)) (fun k => x10 (ix2 0 k)) d := by
  pointwise [val_main_cst_12, val_main_v69, val_main_v70, val_main_cst_13, val_main_v71, val_main_v72, val_main_v73, val_main_v74, val_main_v75, val_main_cst_14, val_main_v76, val_main_v77, val_main_cst_15, val_main_v78, val_main_v79, val_main_v80, val_main_v81, val_main_cst_16, val_main_v82, val_main_v83, val_main_v84, val_main_v85, val_main_v86, val_main_v87, val_main_v88, val_main_v89, val_main_v90, val_main_v91, val_main_v92, val_main_v31, val_main_v32, ln, mean, eps, width]

/-- The reference's result, at a token and a column, is the layer's row. -/
theorem fin_at (b : Fin 128) (t : Fin 4) (d : Fin 1024) :
    val_main_v92 (F := Ideal) x0 x1 x2 x3 x4 x5 x6 x7 x8 x9 x10 (ix3 b t d)
      = fin (fun k => x0 (ix3 b t k)) (fun k => x1 (ix2 b ⟨t * 1024 + k, by omega⟩)) (fun k => x2 (ix1 k)) (fun k => x3 (ix1 k))
          (fun k d => x4 (ix3 0 k d)) (fun k => x5 (ix2 0 k)) (fun k => x6 (ix2 0 k)) (fun k f => x7 (ix3 0 k f))
          (fun f d => x8 (ix3 0 f d)) (fun k => x9 (ix2 0 k)) (fun k => x10 (ix2 0 k)) d := by
  simp only [out_at, res_at, hid_at, pre_at, emb_at]
  rfl

/-- The same with a sequence's four tokens laid side by side. -/
theorem flat_at (b : Fin 128) (t : Fin 4) (d : Fin 1024) :
    val_main_v93 (F := Ideal) x0 x1 x2 x3 x4 x5 x6 x7 x8 x9 x10 (ix2 b ⟨t * 1024 + d, by omega⟩)
      = val_main_v92 (F := Ideal) x0 x1 x2 x3 x4 x5 x6 x7 x8 x9 x10 (ix3 b t d) := by
  pointwise [val_main_v93]

end Cert.SampleRefIdeal.Rows
-- ==== Proof.SampleRun.lean ====
module

public import proofs.«01_k».proof.Proof.SampleRows
public import Idealize.ShloMosaic.Lib.Claim

@[expose] public section

set_option maxRecDepth 16384

noncomputable section

namespace Cert.SampleRefIdeal.Rows

open Idealize.ShloMosaic Idealize.ShloMosaic.TcCoe Idealize.SL.Sem Idealize.ShloMosaic.StableHlo
open Cert.SampleRefIdeal Cert.SampleRefIdeal.Gen Cert.SampleRefIdeal.Read

/-- The reference's run: its result as the last stage of its arguments, its arguments unchanged. -/
theorem run_stage (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run _ _ _).mono (fun r h c => ⟨((h c).1.trans (val_main_v93_eq (launchContents m c))).trans (by simp only [launchContents_devRef]), (h c).2⟩)
    (Cert.SampleRefIdeal.Value.run m ρ)

end Cert.SampleRefIdeal.Rows
-- ==== Proof.SampleClaim.lean ====
module

public import proofs.«01_k».proof.Defs
public import proofs.«01_k».proof.Proof.SampleVal
public import proofs.«01_k».proof.Proof.SampleRun
public import Idealize.ShloMosaic.Lib.Claim

@[expose] public section

set_option maxRecDepth 16384

noncomputable section

namespace Cert.Layer

open Idealize.ShloMosaic Idealize.ShloMosaic.TcCoe Idealize.SL.Sem

/-- The reference's whole result over the arguments is the kernel's. -/
theorem sample_ref (x0 : FVec Ideal Cert.SampleIdeal.S128x4x1024 .f32) (x1 : FVec Ideal Cert.SampleIdeal.S128x4096 .bf16)
    (x2 x3 : FVec Ideal Cert.SampleIdeal.S1024 .f32) (x4 : FVec Ideal Cert.SampleIdeal.S1x1024x1024 .f32)
    (x5 x6 : FVec Ideal Cert.SampleIdeal.S1x1024 .f32) (x7 : FVec Ideal Cert.SampleIdeal.S1x1024x4096 .f32)
    (x8 : FVec Ideal Cert.SampleIdeal.S1x4096x1024 .f32) (x9 x10 : FVec Ideal Cert.SampleIdeal.S1x1024 .f32) :
    Cert.SampleRefIdeal.Read.val_main_v93 (F := Ideal) x0 x1 x2 x3 x4 x5 x6 x7 x8 x9 x10
      = Cert.SampleIdeal.Pay.whole x0 x1 x2 x3 x4 x5 x6 x7 x8 x9 x10 := by
  funext i
  obtain ⟨s, n, rfl⟩ : ∃ (s : Fin 128) (n : Fin 4096), i = ix2 s n := ⟨i 0, i 1, eq_ix2 i⟩
  have hn : n = (⟨(⟨n.val / 1024, by omega⟩ : Fin 4).val * 1024 + (⟨n.val % 1024, by omega⟩ : Fin 1024).val, by simp only []; omega⟩ : Fin 4096) :=
    Fin.ext (by simp only []; omega)
  rw [show (ix2 s n : Cert.SampleRefIdeal.S128x4096.Idx) = _ from congrArg (ix2 s) hn]
  refine (Cert.SampleRefIdeal.Rows.flat_at x0 x1 x2 x3 x4 x5 x6 x7 x8 x9 x10 s ⟨n.val / 1024, by omega⟩ ⟨n.val % 1024, by omega⟩).trans ?_
  rw [← hn]
  exact Cert.SampleRefIdeal.Rows.fin_at x0 x1 x2 x3 x4 x5 x6 x7 x8 x9 x10 s ⟨n.val / 1024, by omega⟩ ⟨n.val % 1024, by omega⟩

/-- The sample group's finishing call and its reference compute the same result. -/
theorem algebraic_sample : Cert.algebraic_SampleIdeal_SampleRefIdeal
    (hSampleIdeal := Cert.SampleIdeal.Gen.facts) (hSampleRefIdeal := Cert.SampleRefIdeal.Gen.facts) := by
  pair_intro
  · run_from Cert.SampleIdeal.Gen.run_main m g
  · run_from Cert.SampleRefIdeal.Rows.run_stage m' g'
    refine (sample_ref _ _ _ _ _ _ _ _ _ _ _).trans ?_
    exact (Cert.SampleIdeal.Pay.final m c).symm

end Cert.Layer
-- ==== Proof.FrontPay.lean ====
module

public import proofs.«01_k».proof.Proof.Gen.FrontIdeal.Skeleton
public import proofs.«01_k».proof.Proof.Spec
public import Idealize.ShloMosaic.Lib.Pointwise

@[expose] public section

set_option maxRecDepth 16384

noncomputable section

namespace Cert.Layer

/-- A row's lanes as the key and value scratch holds them: variant `v` has head `v / 2`'s 64 lanes in the half `v % 2`, zero in the other half. -/
def varf (row : Fin 128 → EReal) (v : Fin 4) (l : Fin 128) : EReal :=
  if l.val / 64 = v.val % 2 then row ⟨64 * (v.val / 2) + l.val % 64, by omega⟩ else 0

/-- A row of the meta block: 112 rows of zeros, then the 16 meta rows. -/
def mrow (M : Fin 16 → Fin 128 → EReal) (x : Fin 128) (a : Fin 128) : EReal :=
  if h : x.val < 112 then 0 else M ⟨x.val - 112, by omega⟩ a

end Cert.Layer

namespace Cert.FrontIdeal.Pay

open Idealize.ShloMosaic Idealize.ShloMosaic.TcCoe Idealize.SL.Sem Cert.FrontIdeal Cert.FrontIdeal.Gen Cert.Layer

/-- A choice by the lane mask is a choice by whether the lane is below 64. -/
theorem sel {α : Type} (l : Fin 128) (a b : α) : Scalar.select (k0_pay23 (ix2 0 l)) a b = if l.val < 64 then a else b := by
  have h : k0_pay23 (ix2 0 l) = if l.val < 64 then 1#1 else 0#1 := by
    pointwise [k0_pay23]
    revert l; decide
  rw [h]; by_cases hl : l.val < 64 <;> simp [hl, Scalar.select]

/-- Variant 0: the first half kept. -/
theorem var0 (row : Fin 128 → EReal) (l : Fin 128) : (if l.val < 64 then row l else 0) = varf row 0 l := by
  show _ = if l.val / 64 = 0 then row (⟨64 * 0 + l.val % 64, by omega⟩ : Fin 128) else 0
  by_cases h : l.val < 64
  · rw [if_pos h, if_pos (by omega)]; congr 1; exact Fin.ext (by simp only []; omega)
  · rw [if_neg h, if_neg (by omega)]

/-- Variant 1: the first half moved to the second. -/
theorem var1 (row : Fin 128 → EReal) (l : Fin 128) : (if l.val < 64 then 0 else row (⟨(l.val + 128 - 64) % 128, by omega⟩ : Fin 128)) = varf row 1 l := by
  show _ = if l.val / 64 = 1 then row (⟨64 * 0 + l.val % 64, by omega⟩ : Fin 128) else 0
  by_cases h : l.val < 64
  · rw [if_pos h, if_neg (by omega)]
  · rw [if_neg h, if_pos (by omega)]; congr 1; exact Fin.ext (by simp only []; omega)

/-- Variant 2: the second half moved to the first. -/
theorem var2 (row : Fin 128 → EReal) (l : Fin 128) : (if l.val < 64 then row (⟨(l.val + 128 - 64) % 128, by omega⟩ : Fin 128) else 0) = varf row 2 l := by
  show _ = if l.val / 64 = 0 then row (⟨64 * 1 + l.val % 64, by omega⟩ : Fin 128) else 0
  by_cases h : l.val < 64
  · rw [if_pos h, if_pos (by omega)]; congr 1; exact Fin.ext (by simp only []; omega)
  · rw [if_neg h, if_neg (by omega)]

/-- Variant 3: the second half kept. -/
theorem var3 (row : Fin 128 → EReal) (l : Fin 128) : (if l.val < 64 then 0 else row l) = varf row 3 l := by
  show _ = if l.val / 64 = 1 then row (⟨64 * 1 + l.val % 64, by omega⟩ : Fin 128) else 0
  by_cases h : l.val < 64
  · rw [if_pos h, if_neg (by omega)]
  · rw [if_neg h, if_pos (by omega)]; congr 1; exact Fin.ext (by simp only []; omega)

/-- The tile's key rows in variant 0. -/
theorem kt0 (K : FVec Ideal S512x128 .f32) (x : Fin 512) (l : Fin 128) :
    (k0_pay48 k0_pay23 K : FVec Ideal S1x512x128 .bf16) (ix3 0 x l) = varf (fun a => K (ix2 x a)) 0 l := by
  pointwise [k0_pay48, k0_pay38]
  rw [sel]
  exact var0 (fun a => K (ix2 x a)) l

/-- The tile's key rows in variant 1. -/
theorem kt1 (K : FVec Ideal S512x128 .f32) (x : Fin 512) (l : Fin 128) :
    (shapeCast S1x512x128 (k0_pay39 k0_pay23 K) shapeCasts_S512x128_S1x512x128 : FVec Ideal S1x512x128 .bf16) (ix3 0 x l) = varf (fun a => K (ix2 x a)) 1 l := by
  pointwise [k0_pay39, k0_pay37, k0_pay38]
  rw [sel]
  exact var1 (fun a => K (ix2 x a)) l

/-- The tile's key rows in variant 2. -/
theorem kt2 (K : FVec Ideal S512x128 .f32) (x : Fin 512) (l : Fin 128) :
    (shapeCast S1x512x128 (k0_pay40 k0_pay23 K) shapeCasts_S512x128_S1x512x128 : FVec Ideal S1x512x128 .bf16) (ix3 0 x l) = varf (fun a => K (ix2 x a)) 2 l := by
  pointwise [k0_pay40, k0_pay37, k0_pay38]
  rw [sel]
  exact var2 (fun a => K (ix2 x a)) l

/-- The tile's key rows in variant 3. -/
theorem kt3 (K : FVec Ideal S512x128 .f32) (x : Fin 512) (l : Fin 128) :
    (shapeCast S1x512x128 (k0_pay41 k0_pay23 K) shapeCasts_S512x128_S1x512x128 : FVec Ideal S1x512x128 .bf16) (ix3 0 x l) = varf (fun a => K (ix2 x a)) 3 l := by
  pointwise [k0_pay41, k0_pay37, k0_pay38]
  rw [sel]
  exact var3 (fun a => K (ix2 x a)) l

/-- The tile's value rows in variant 0. -/
theorem vt0 (K : FVec Ideal S512x128 .f32) (x : Fin 512) (l : Fin 128) :
    (shapeCast S1x512x128 (k0_pay44 k0_pay23 K) shapeCasts_S512x128_S1x512x128 : FVec Ideal S1x512x128 .bf16) (ix3 0 x l) = varf (fun a => K (ix2 x a)) 0 l := by
  pointwise [k0_pay44, k0_pay42, k0_pay43]
  rw [sel]
  exact var0 (fun a => K (ix2 x a)) l

/-- The tile's value rows in variant 1. -/
theorem vt1 (K : FVec Ideal S512x128 .f32) (x : Fin 512) (l : Fin 128) :
    (shapeCast S1x512x128 (k0_pay45 k0_pay23 K) shapeCasts_S512x128_S1x512x128 : FVec Ideal S1x512x128 .bf16) (ix3 0 x l) = varf (fun a => K (ix2 x a)) 1 l := by
  pointwise [k0_pay45, k0_pay42, k0_pay43]
  rw [sel]
  exact var1 (fun a => K (ix2 x a)) l

/-- The tile's value rows in variant 2. -/
theorem vt2 (K : FVec Ideal S512x128 .f32) (x : Fin 512) (l : Fin 128) :
    (shapeCast S1x512x128 (k0_pay46 k0_pay23 K) shapeCasts_S512x128_S1x512x128 : FVec Ideal S1x512x128 .bf16) (ix3 0 x l) = varf (fun a => K (ix2 x a)) 2 l := by
  pointwise [k0_pay46, k0_pay42, k0_pay43]
  rw [sel]
  exact var2 (fun a => K (ix2 x a)) l

/-- The tile's value rows in variant 3. -/
theorem vt3 (K : FVec Ideal S512x128 .f32) (x : Fin 512) (l : Fin 128) :
    (shapeCast S1x512x128 (k0_pay47 k0_pay23 K) shapeCasts_S512x128_S1x512x128 : FVec Ideal S1x512x128 .bf16) (ix3 0 x l) = varf (fun a => K (ix2 x a)) 3 l := by
  pointwise [k0_pay47, k0_pay42, k0_pay43]
  rw [sel]
  exact var3 (fun a => K (ix2 x a)) l

/-- The meta block's key rows in variant 0. -/
theorem km0 (M : FVec Ideal S16x128 .f32) (x : Fin 128) (l : Fin 128) :
    (k0_pay13 k0_pay23 M : FVec Ideal S1x128x128 .bf16) (ix3 0 x l) = varf (mrow (fun y a => M (ix2 y a)) x) 0 l := by
  rw [← var0]
  pointwise [k0_pay13, k0_pay4, k0_pay2, mrow]
  by_cases h : x.val < 112
  · simp only [h, dif_pos, ite_self]
  · simp only [h, dif_neg, not_false_eq_true]
    rw [sel]

/-- The meta block's key rows in variant 1. -/
theorem km1 (M : FVec Ideal S16x128 .f32) (x : Fin 128) (l : Fin 128) :
    (shapeCast S1x128x128 (concatenate S128x128 0 [⟨S112x128, k0_pay2 (F := Ideal)⟩, ⟨S16x128, k0_pay5 k0_pay23 M⟩] concatenates_S112x128_S16x128_S128x128_d0) shapeCasts_S128x128_S1x128x128 : FVec Ideal S1x128x128 .bf16) (ix3 0 x l) = varf (mrow (fun y a => M (ix2 y a)) x) 1 l := by
  rw [← var1]
  pointwise [k0_pay5, k0_pay3, k0_pay4, k0_pay2, mrow]
  by_cases h : x.val < 112
  · simp only [h, dif_pos, ite_self]
  · simp only [h, dif_neg, not_false_eq_true]
    rw [sel]

/-- The meta block's key rows in variant 2. -/
theorem km2 (M : FVec Ideal S16x128 .f32) (x : Fin 128) (l : Fin 128) :
    (shapeCast S1x128x128 (concatenate S128x128 0 [⟨S112x128, k0_pay2 (F := Ideal)⟩, ⟨S16x128, k0_pay6 k0_pay23 M⟩] concatenates_S112x128_S16x128_S128x128_d0) shapeCasts_S128x128_S1x128x128 : FVec Ideal S1x128x128 .bf16) (ix3 0 x l) = varf (mrow (fun y a => M (ix2 y a)) x) 2 l := by
  rw [← var2]
  pointwise [k0_pay6, k0_pay3, k0_pay4, k0_pay2, mrow]
  by_cases h : x.val < 112
  · simp only [h, dif_pos, ite_self]
  · simp only [h, dif_neg, not_false_eq_true]
    rw [sel]

/-- The meta block's key rows in variant 3. -/
theorem km3 (M : FVec Ideal S16x128 .f32) (x : Fin 128) (l : Fin 128) :
    (shapeCast S1x128x128 (concatenate S128x128 0 [⟨S112x128, k0_pay2 (F := Ideal)⟩, ⟨S16x128, k0_pay7 k0_pay23 M⟩] concatenates_S112x128_S16x128_S128x128_d0) shapeCasts_S128x128_S1x128x128 : FVec Ideal S1x128x128 .bf16) (ix3 0 x l) = varf (mrow (fun y a => M (ix2 y a)) x) 3 l := by
  rw [← var3]
  pointwise [k0_pay7, k0_pay3, k0_pay4, k0_pay2, mrow]
  by_cases h : x.val < 112
  · simp only [h, dif_pos, ite_self]
  · simp only [h, dif_neg, not_false_eq_true]
    rw [sel]

/-- The meta block's value rows in variant 0. -/
theorem vm0 (M : FVec Ideal S16x128 .f32) (x : Fin 128) (l : Fin 128) :
    (shapeCast S1x128x128 (k0_pay14 k0_pay23 M) shapeCasts_S128x128_S1x128x128 : FVec Ideal S1x128x128 .bf16) (ix3 0 x l) = varf (mrow (fun y a => M (ix2 y a)) x) 0 l := by
  rw [← var0]
  pointwise [k0_pay14, k0_pay9, k0_pay2, mrow]
  by_cases h : x.val < 112
  · simp only [h, dif_pos, ite_self]
  · simp only [h, dif_neg, not_false_eq_true]
    rw [sel]

/-- The meta block's value rows in variant 1. -/
theorem vm1 (M : FVec Ideal S16x128 .f32) (x : Fin 128) (l : Fin 128) :
    (shapeCast S1x128x128 (concatenate S128x128 0 [⟨S112x128, k0_pay2 (F := Ideal)⟩, ⟨S16x128, k0_pay10 k0_pay23 M⟩] concatenates_S112x128_S16x128_S128x128_d0) shapeCasts_S128x128_S1x128x128 : FVec Ideal S1x128x128 .bf16) (ix3 0 x l) = varf (mrow (fun y a => M (ix2 y a)) x) 1 l := by
  rw [← var1]
  pointwise [k0_pay10, k0_pay8, k0_pay9, k0_pay2, mrow]
  by_cases h : x.val < 112
  · simp only [h, dif_pos, ite_self]
  · simp only [h, dif_neg, not_false_eq_true]
    rw [sel]

/-- The meta block's value rows in variant 2. -/
theorem vm2 (M : FVec Ideal S16x128 .f32) (x : Fin 128) (l : Fin 128) :
    (shapeCast S1x128x128 (concatenate S128x128 0 [⟨S112x128, k0_pay2 (F := Ideal)⟩, ⟨S16x128, k0_pay11 k0_pay23 M⟩] concatenates_S112x128_S16x128_S128x128_d0) shapeCasts_S128x128_S1x128x128 : FVec Ideal S1x128x128 .bf16) (ix3 0 x l) = varf (mrow (fun y a => M (ix2 y a)) x) 2 l := by
  rw [← var2]
  pointwise [k0_pay11, k0_pay8, k0_pay9, k0_pay2, mrow]
  by_cases h : x.val < 112
  · simp only [h, dif_pos, ite_self]
  · simp only [h, dif_neg, not_false_eq_true]
    rw [sel]

/-- The meta block's value rows in variant 3. -/
theorem vm3 (M : FVec Ideal S16x128 .f32) (x : Fin 128) (l : Fin 128) :
    (shapeCast S1x128x128 (concatenate S128x128 0 [⟨S112x128, k0_pay2 (F := Ideal)⟩, ⟨S16x128, k0_pay12 k0_pay23 M⟩] concatenates_S112x128_S16x128_S128x128_d0) shapeCasts_S128x128_S1x128x128 : FVec Ideal S1x128x128 .bf16) (ix3 0 x l) = varf (mrow (fun y a => M (ix2 y a)) x) 3 l := by
  rw [← var3]
  pointwise [k0_pay12, k0_pay8, k0_pay9, k0_pay2, mrow]
  by_cases h : x.val < 112
  · simp only [h, dif_pos, ite_self]
  · simp only [h, dif_neg, not_false_eq_true]
    rw [sel]

/-- The tile's projection: the normalised rows against the weight's columns. -/
theorem pr_at (X : FVec Ideal S1x512x1024 .f32) (G B : FVec Ideal S1x1024 .f32) (W : FVec Ideal S1024x1280 .bf16) (r : Fin 512) (e : Fin 1280) :
    (k0_pay24 X G B W : FVec Ideal S512x1280 .f32) (ix2 r e) = ∑ k, ln (fun j => X (ix3 0 r j)) (fun j => G (ix2 0 j)) (fun j => B (ix2 0 j)) k * W (ix2 k e) := by
  pointwise [k0_pay24, ln, mean, width, eps]

/-- The tile's pooled-mixer columns. -/
theorem u_at (X : FVec Ideal S1x512x1024 .f32) (G B : FVec Ideal S1x1024 .f32) (W : FVec Ideal S1024x1280 .bf16) (r e : Fin 512) :
    (k0_pay25 X G B W : FVec Ideal S512x512 .f32) (ix2 r e) = k0_pay24 X G B W (ix2 r (⟨e.val, by omega⟩ : Fin 1280)) := by
  pointwise [k0_pay25]

/-- The tile's queries, scaled. -/
theorem q_at (X : FVec Ideal S1x512x1024 .f32) (G B : FVec Ideal S1x1024 .f32) (W : FVec Ideal S1024x1280 .bf16) (r e : Fin 512) :
    (k0_pay27 (k0_pay26 X G B W) (Scalar.ofBits .f32 0x3E000000#32) : FVec Ideal S512x512 .bf16) (ix2 r e)
      = (((k0_pay24 X G B W : FVec Ideal S512x1280 .f32) (ix2 r (⟨512 + e.val, by omega⟩ : Fin 1280)) : EReal) * Ideal.ofBits .f32 0x3E000000#32 : EReal) := by
  pointwise [k0_pay26, k0_pay27]

/-- The tile's keys. -/
theorem k_at (P : FVec Ideal S512x1280 .f32) (r : Fin 512) (a : Fin 128) :
    (k0_pay28 P : FVec Ideal S512x128 .f32) (ix2 r a) = P (ix2 r (⟨1024 + a.val, by omega⟩ : Fin 1280)) := by
  pointwise [k0_pay28]

/-- The tile's values. -/
theorem v_at (P : FVec Ideal S512x1280 .f32) (r : Fin 512) (a : Fin 128) :
    (k0_pay29 P : FVec Ideal S512x128 .f32) (ix2 r a) = P (ix2 r (⟨1152 + a.val, by omega⟩ : Fin 1280)) := by
  pointwise [k0_pay29]

/-- The last 128 key rows of the tile. -/
theorem nk_at (K : FVec Ideal S512x128 .f32) (r a : Fin 128) :
    (k0_pay187 K : FVec Ideal S1x128x128 .f32) (ix3 0 r a) = K (ix2 (⟨384 + r.val, by omega⟩ : Fin 512) a) := by
  pointwise [k0_pay187]

/-- The last 128 value rows of the tile. -/
theorem nv_at (K : FVec Ideal S512x128 .f32) (r a : Fin 128) :
    (k0_pay188 K : FVec Ideal S1x128x128 .f32) (ix3 0 r a) = K (ix2 (⟨384 + r.val, by omega⟩ : Fin 512) a) := by
  pointwise [k0_pay188]

/-- The last 16 rows of the tile's pooled-mixer columns. -/
theorem np_at (U : FVec Ideal S512x512 .f32) (r : Fin 16) (e : Fin 512) :
    (k0_pay1 (k0_pay189 U) : FVec Ideal S1x16x512 .f32) (ix3 0 r e) = U (ix2 (⟨496 + r.val, by omega⟩ : Fin 512) e) := by
  pointwise [k0_pay1, k0_pay189]

/-- The stored rows are the tile's. -/
theorem us_at (U : FVec Ideal S512x512 .f32) (r e : Fin 512) :
    (k0_pay30 U : FVec Ideal S512x512 .f32) (ix2 r e) = U (ix2 r e) := by
  pointwise [k0_pay30]

/-- The carried rows are the rows read. -/
theorem uc_at (U : FVec Ideal S16x512 .f32) (r : Fin 16) (e : Fin 512) :
    (k0_pay186 U : FVec Ideal S16x512 .f32) (ix2 r e) = U (ix2 r e) := by
  pointwise [k0_pay186]

/-- A carried block is the block read. -/
theorem c178 (X : FVec Ideal S1x128x128 .bf16) (r a : Fin 128) :
    (k0_pay178 X : FVec Ideal S1x128x128 .bf16) (ix3 0 r a) = X (ix3 0 r a) := by
  pointwise [k0_pay178]

/-- A carried block is the block read. -/
theorem c179 (X : FVec Ideal S1x128x128 .bf16) (r a : Fin 128) :
    (k0_pay179 X : FVec Ideal S1x128x128 .bf16) (ix3 0 r a) = X (ix3 0 r a) := by
  pointwise [k0_pay179]

/-- A carried block is the block read. -/
theorem c180 (X : FVec Ideal S1x128x128 .bf16) (r a : Fin 128) :
    (k0_pay180 X : FVec Ideal S1x128x128 .bf16) (ix3 0 r a) = X (ix3 0 r a) := by
  pointwise [k0_pay180]

/-- A carried block is the block read. -/
theorem csc (X : FVec Ideal S1x128x128 .bf16) (r a : Fin 128) :
    (shapeCast S1x128x128 (shapeCast S128x128 X shapeCasts_S1x128x128_S128x128) shapeCasts_S128x128_S1x128x128 : FVec Ideal S1x128x128 .bf16) (ix3 0 r a) = X (ix3 0 r a) := by
  pointwise

end Cert.FrontIdeal.Pay
-- ==== Proof.FrontScratch.lean ====
module

public import proofs.«01_k».proof.Proof.FrontPay
public import Idealize.ShloMosaic.Lib.WritesUnit
public import Idealize.ShloMosaic.Lib.Pipeline.ValueKit

@[expose] public section

set_option maxRecDepth 16384

noncomputable section

namespace Cert.FrontIdeal.Scr

open Idealize.ShloMosaic Idealize.ShloMosaic.TcCoe Idealize.SL.Sem Cert.FrontIdeal Cert.FrontIdeal.Gen Cert.Layer

/-! The key and value scratch: four variants of 640 rows, read after a list of stores. -/

section KV

variable {κ : Kind} {sp : Space} (v : View sig κ sp S4x640x128 .bf16) (f : v.ty.Contents (Elt Ideal))

/-- Rows 128 to 639 of every variant hold the tile's rows. -/
def HasTile (L : List (View.Piece (Elt Ideal) S4x640x128 .bf16)) (T : Fin 512 → Fin 128 → EReal) : Prop :=
  ∀ (i : Fin 4) (x : Fin 512) (l : Fin 128),
    v.read (Elt Ideal) (v.writes (Elt Ideal) f L) (ix3 i (⟨128 + x.val, by omega⟩ : Fin 640) l) = varf (T x) i l

/-- Every row of every variant holds its row. -/
def HasRow (L : List (View.Piece (Elt Ideal) S4x640x128 .bf16)) (R : Fin 640 → Fin 128 → EReal) : Prop :=
  ∀ (i : Fin 4) (x : Fin 640) (l : Fin 128),
    v.read (Elt Ideal) (v.writes (Elt Ideal) f L) (ix3 i x l) = varf (R x) i l

/-- Rows 0 to 127 of every variant hold their rows. -/
def HasLow (L : List (View.Piece (Elt Ideal) S4x640x128 .bf16)) (R : Fin 128 → Fin 128 → EReal) : Prop :=
  ∀ (i : Fin 4) (x : Fin 128) (l : Fin 128),
    v.read (Elt Ideal) (v.writes (Elt Ideal) f L) (ix3 i (⟨x.val, by omega⟩ : Fin 640) l) = varf (R x) i l

/-- A piece of another variant is not read. -/
theorem skip_variant {o r n : ℕ} (h : ∀ a, (![o, r, 0] : Fin 3 → ℕ) a + (![1, n, 128] : Fin 3 → ℕ) a ≤ S4x640x128.size a)
    (w : (Rect.unit (s := S4x640x128) ![o, r, 0] ![1, n, 128] h).shape.Idx → Elt Ideal .bf16) (L : List (View.Piece (Elt Ideal) S4x640x128 .bf16))
    (i : Fin 4) (x : Fin 640) (l : Fin 128) (hi : i.val ≠ o) :
    v.read (Elt Ideal) (v.writes (Elt Ideal) f ((⟨Rect.unit (s := S4x640x128) ![o, r, 0] ![1, n, 128] h, w⟩ : View.Piece (Elt Ideal) S4x640x128 .bf16) :: L)) (ix3 i x l)
      = v.read (Elt Ideal) (v.writes (Elt Ideal) f L) (ix3 i x l) :=
  View.read_writes_cons_unit_of_not_mem v f h w L (ix3 i x l) rfl (0 : Fin 3)
    (by show i.val < o ∨ o + 1 ≤ i.val; omega)

/-- A piece of other rows is not read. -/
theorem skip_row {o r n : ℕ} (h : ∀ a, (![o, r, 0] : Fin 3 → ℕ) a + (![1, n, 128] : Fin 3 → ℕ) a ≤ S4x640x128.size a)
    (w : (Rect.unit (s := S4x640x128) ![o, r, 0] ![1, n, 128] h).shape.Idx → Elt Ideal .bf16) (L : List (View.Piece (Elt Ideal) S4x640x128 .bf16))
    (i : Fin 4) (x : Fin 640) (l : Fin 128) (hx : x.val < r ∨ r + n ≤ x.val) :
    v.read (Elt Ideal) (v.writes (Elt Ideal) f ((⟨Rect.unit (s := S4x640x128) ![o, r, 0] ![1, n, 128] h, w⟩ : View.Piece (Elt Ideal) S4x640x128 .bf16) :: L)) (ix3 i x l)
      = v.read (Elt Ideal) (v.writes (Elt Ideal) f L) (ix3 i x l) :=
  View.read_writes_cons_unit_of_not_mem v f h w L (ix3 i x l) rfl (1 : Fin 3) hx

/-- A piece of this variant and row is read. -/
theorem hit {o r n : ℕ} (h : ∀ a, (![o, r, 0] : Fin 3 → ℕ) a + (![1, n, 128] : Fin 3 → ℕ) a ≤ S4x640x128.size a)
    (w : (Rect.unit (s := S4x640x128) ![o, r, 0] ![1, n, 128] h).shape.Idx → Elt Ideal .bf16) (L : List (View.Piece (Elt Ideal) S4x640x128 .bf16))
    (i : Fin 4) (x : Fin 640) (l : Fin 128) (y : Fin n) (hi : i.val = o) (hx : x.val = r + y.val) :
    v.read (Elt Ideal) (v.writes (Elt Ideal) f ((⟨Rect.unit (s := S4x640x128) ![o, r, 0] ![1, n, 128] h, w⟩ : View.Piece (Elt Ideal) S4x640x128 .bf16) :: L)) (ix3 i x l)
      = w (ix3 (0 : Fin 1) y l) :=
  View.read_writes_cons_unit_of_mem v f h w L (ix3 i x l) (ix3 (0 : Fin 1) y l) rfl fun a => by
    match a with
    | ⟨0, _⟩ => exact hi
    | ⟨1, _⟩ => exact hx
    | ⟨2, _⟩ => exact (Nat.zero_add _).symm

variable {v f}

/-- Four pieces with rows from `r` on, one per variant: each variant reads its own. -/
theorem four {r n : ℕ} {h3 : ∀ a, (![3, r, 0] : Fin 3 → ℕ) a + (![1, n, 128] : Fin 3 → ℕ) a ≤ S4x640x128.size a}
    {h2 : ∀ a, (![2, r, 0] : Fin 3 → ℕ) a + (![1, n, 128] : Fin 3 → ℕ) a ≤ S4x640x128.size a}
    {h1 : ∀ a, (![1, r, 0] : Fin 3 → ℕ) a + (![1, n, 128] : Fin 3 → ℕ) a ≤ S4x640x128.size a}
    {h0 : ∀ a, (![0, r, 0] : Fin 3 → ℕ) a + (![1, n, 128] : Fin 3 → ℕ) a ≤ S4x640x128.size a}
    {w3 : (Rect.unit (s := S4x640x128) ![3, r, 0] ![1, n, 128] h3).shape.Idx → Elt Ideal .bf16}
    {w2 : (Rect.unit (s := S4x640x128) ![2, r, 0] ![1, n, 128] h2).shape.Idx → Elt Ideal .bf16}
    {w1 : (Rect.unit (s := S4x640x128) ![1, r, 0] ![1, n, 128] h1).shape.Idx → Elt Ideal .bf16}
    {w0 : (Rect.unit (s := S4x640x128) ![0, r, 0] ![1, n, 128] h0).shape.Idx → Elt Ideal .bf16}
    {L : List (View.Piece (Elt Ideal) S4x640x128 .bf16)} {T : Fin n → Fin 128 → EReal}
    (e3 : ∀ y l, w3 (ix3 (0 : Fin 1) y l) = varf (T y) 3 l) (e2 : ∀ y l, w2 (ix3 (0 : Fin 1) y l) = varf (T y) 2 l)
    (e1 : ∀ y l, w1 (ix3 (0 : Fin 1) y l) = varf (T y) 1 l) (e0 : ∀ y l, w0 (ix3 (0 : Fin 1) y l) = varf (T y) 0 l)
    (i : Fin 4) (x : Fin 640) (l : Fin 128) (y : Fin n) (hx : x.val = r + y.val) :
    v.read (Elt Ideal) (v.writes (Elt Ideal) f ((⟨Rect.unit (s := S4x640x128) ![3, r, 0] ![1, n, 128] h3, w3⟩ : View.Piece (Elt Ideal) S4x640x128 .bf16)
      :: (⟨Rect.unit (s := S4x640x128) ![2, r, 0] ![1, n, 128] h2, w2⟩ : View.Piece (Elt Ideal) S4x640x128 .bf16)
      :: (⟨Rect.unit (s := S4x640x128) ![1, r, 0] ![1, n, 128] h1, w1⟩ : View.Piece (Elt Ideal) S4x640x128 .bf16)
      :: (⟨Rect.unit (s := S4x640x128) ![0, r, 0] ![1, n, 128] h0, w0⟩ : View.Piece (Elt Ideal) S4x640x128 .bf16) :: L)) (ix3 i x l)
      = varf (T y) i l := by
  match i with
  | ⟨3, _⟩ => exact (hit v f h3 w3 _ _ x l y rfl hx).trans (e3 y l)
  | ⟨2, _⟩ =>
    rw [skip_variant v f h3 w3 _ _ x l (by simp)]
    exact (hit v f h2 w2 _ _ x l y rfl hx).trans (e2 y l)
  | ⟨1, _⟩ =>
    rw [skip_variant v f h3 w3 _ _ x l (by simp), skip_variant v f h2 w2 _ _ x l (by simp)]
    exact (hit v f h1 w1 _ _ x l y rfl hx).trans (e1 y l)
  | ⟨0, _⟩ =>
    rw [skip_variant v f h3 w3 _ _ x l (by simp), skip_variant v f h2 w2 _ _ x l (by simp), skip_variant v f h1 w1 _ _ x l (by simp)]
    exact (hit v f h0 w0 _ _ x l y rfl hx).trans (e0 y l)

/-- The tile's four pieces hold the tile's rows, whatever was there before. -/
theorem tile {h3 : ∀ a, (![3, 128, 0] : Fin 3 → ℕ) a + (![1, 512, 128] : Fin 3 → ℕ) a ≤ S4x640x128.size a}
    {h2 : ∀ a, (![2, 128, 0] : Fin 3 → ℕ) a + (![1, 512, 128] : Fin 3 → ℕ) a ≤ S4x640x128.size a}
    {h1 : ∀ a, (![1, 128, 0] : Fin 3 → ℕ) a + (![1, 512, 128] : Fin 3 → ℕ) a ≤ S4x640x128.size a}
    {h0 : ∀ a, (![0, 128, 0] : Fin 3 → ℕ) a + (![1, 512, 128] : Fin 3 → ℕ) a ≤ S4x640x128.size a}
    {w3 : (Rect.unit (s := S4x640x128) ![3, 128, 0] ![1, 512, 128] h3).shape.Idx → Elt Ideal .bf16}
    {w2 : (Rect.unit (s := S4x640x128) ![2, 128, 0] ![1, 512, 128] h2).shape.Idx → Elt Ideal .bf16}
    {w1 : (Rect.unit (s := S4x640x128) ![1, 128, 0] ![1, 512, 128] h1).shape.Idx → Elt Ideal .bf16}
    {w0 : (Rect.unit (s := S4x640x128) ![0, 128, 0] ![1, 512, 128] h0).shape.Idx → Elt Ideal .bf16}
    {L : List (View.Piece (Elt Ideal) S4x640x128 .bf16)} {T : Fin 512 → Fin 128 → EReal}
    (e3 : ∀ y l, w3 (ix3 (0 : Fin 1) y l) = varf (T y) 3 l) (e2 : ∀ y l, w2 (ix3 (0 : Fin 1) y l) = varf (T y) 2 l)
    (e1 : ∀ y l, w1 (ix3 (0 : Fin 1) y l) = varf (T y) 1 l) (e0 : ∀ y l, w0 (ix3 (0 : Fin 1) y l) = varf (T y) 0 l) :
    HasTile v f ((⟨Rect.unit (s := S4x640x128) ![3, 128, 0] ![1, 512, 128] h3, w3⟩ : View.Piece (Elt Ideal) S4x640x128 .bf16)
      :: (⟨Rect.unit (s := S4x640x128) ![2, 128, 0] ![1, 512, 128] h2, w2⟩ : View.Piece (Elt Ideal) S4x640x128 .bf16)
      :: (⟨Rect.unit (s := S4x640x128) ![1, 128, 0] ![1, 512, 128] h1, w1⟩ : View.Piece (Elt Ideal) S4x640x128 .bf16)
      :: (⟨Rect.unit (s := S4x640x128) ![0, 128, 0] ![1, 512, 128] h0, w0⟩ : View.Piece (Elt Ideal) S4x640x128 .bf16) :: L) T :=
  fun i x l => four e3 e2 e1 e0 i _ l x rfl

/-- Four pieces of low rows hold the low rows, whatever was there before. -/
theorem low {h3 : ∀ a, (![3, 0, 0] : Fin 3 → ℕ) a + (![1, 128, 128] : Fin 3 → ℕ) a ≤ S4x640x128.size a}
    {h2 : ∀ a, (![2, 0, 0] : Fin 3 → ℕ) a + (![1, 128, 128] : Fin 3 → ℕ) a ≤ S4x640x128.size a}
    {h1 : ∀ a, (![1, 0, 0] : Fin 3 → ℕ) a + (![1, 128, 128] : Fin 3 → ℕ) a ≤ S4x640x128.size a}
    {h0 : ∀ a, (![0, 0, 0] : Fin 3 → ℕ) a + (![1, 128, 128] : Fin 3 → ℕ) a ≤ S4x640x128.size a}
    {w3 : (Rect.unit (s := S4x640x128) ![3, 0, 0] ![1, 128, 128] h3).shape.Idx → Elt Ideal .bf16}
    {w2 : (Rect.unit (s := S4x640x128) ![2, 0, 0] ![1, 128, 128] h2).shape.Idx → Elt Ideal .bf16}
    {w1 : (Rect.unit (s := S4x640x128) ![1, 0, 0] ![1, 128, 128] h1).shape.Idx → Elt Ideal .bf16}
    {w0 : (Rect.unit (s := S4x640x128) ![0, 0, 0] ![1, 128, 128] h0).shape.Idx → Elt Ideal .bf16}
    {L : List (View.Piece (Elt Ideal) S4x640x128 .bf16)} {T : Fin 128 → Fin 128 → EReal}
    (e3 : ∀ y l, w3 (ix3 (0 : Fin 1) y l) = varf (T y) 3 l) (e2 : ∀ y l, w2 (ix3 (0 : Fin 1) y l) = varf (T y) 2 l)
    (e1 : ∀ y l, w1 (ix3 (0 : Fin 1) y l) = varf (T y) 1 l) (e0 : ∀ y l, w0 (ix3 (0 : Fin 1) y l) = varf (T y) 0 l) :
    HasLow v f ((⟨Rect.unit (s := S4x640x128) ![3, 0, 0] ![1, 128, 128] h3, w3⟩ : View.Piece (Elt Ideal) S4x640x128 .bf16)
      :: (⟨Rect.unit (s := S4x640x128) ![2, 0, 0] ![1, 128, 128] h2, w2⟩ : View.Piece (Elt Ideal) S4x640x128 .bf16)
      :: (⟨Rect.unit (s := S4x640x128) ![1, 0, 0] ![1, 128, 128] h1, w1⟩ : View.Piece (Elt Ideal) S4x640x128 .bf16)
      :: (⟨Rect.unit (s := S4x640x128) ![0, 0, 0] ![1, 128, 128] h0, w0⟩ : View.Piece (Elt Ideal) S4x640x128 .bf16) :: L) T :=
  fun i x l => four e3 e2 e1 e0 i _ l x (Nat.zero_add _).symm

/-- A piece of low rows leaves the tile's rows. -/
theorem HasTile.cons_low {o : ℕ} {h : ∀ a, (![o, 0, 0] : Fin 3 → ℕ) a + (![1, 128, 128] : Fin 3 → ℕ) a ≤ S4x640x128.size a}
    {w : (Rect.unit (s := S4x640x128) ![o, 0, 0] ![1, 128, 128] h).shape.Idx → Elt Ideal .bf16}
    {L : List (View.Piece (Elt Ideal) S4x640x128 .bf16)} {T : Fin 512 → Fin 128 → EReal} (hL : HasTile v f L T) :
    HasTile v f ((⟨Rect.unit (s := S4x640x128) ![o, 0, 0] ![1, 128, 128] h, w⟩ : View.Piece (Elt Ideal) S4x640x128 .bf16) :: L) T :=
  fun i x l => (skip_row v f h w L i _ l (.inr (by show 0 + 128 ≤ 128 + x.val; omega))).trans (hL i x l)

/-- A piece of the tile's rows leaves the low rows. -/
theorem HasLow.cons_tile {o : ℕ} {h : ∀ a, (![o, 128, 0] : Fin 3 → ℕ) a + (![1, 512, 128] : Fin 3 → ℕ) a ≤ S4x640x128.size a}
    {w : (Rect.unit (s := S4x640x128) ![o, 128, 0] ![1, 512, 128] h).shape.Idx → Elt Ideal .bf16}
    {L : List (View.Piece (Elt Ideal) S4x640x128 .bf16)} {T : Fin 128 → Fin 128 → EReal} (hL : HasLow v f L T) :
    HasLow v f ((⟨Rect.unit (s := S4x640x128) ![o, 128, 0] ![1, 512, 128] h, w⟩ : View.Piece (Elt Ideal) S4x640x128 .bf16) :: L) T :=
  fun i x l => (skip_row v f h w L i _ l (.inl (by show x.val < 128; omega))).trans (hL i x l)

/-- Low rows and the tile's rows are all the rows. -/
theorem HasRow.mk' {L : List (View.Piece (Elt Ideal) S4x640x128 .bf16)} {R : Fin 640 → Fin 128 → EReal}
    (hT : HasTile v f L fun x => R ⟨128 + x.val, by omega⟩) (hL : HasLow v f L fun x => R ⟨x.val, by omega⟩) : HasRow v f L R := fun i x l => by
  by_cases hx : x.val < 128
  · exact hL i ⟨x.val, hx⟩ l
  · have := hT i ⟨x.val - 128, by omega⟩ l
    have e : (⟨128 + (x.val - 128), by omega⟩ : Fin 640) = x := Fin.ext (by show 128 + (x.val - 128) = x.val; omega)
    simp only [e] at this
    exact this

variable {L : List (View.Piece (Elt Ideal) S4x640x128 .bf16)}

/-- A position of a unit-stride load of one variant. -/
theorem idx_eq {o r n : ℕ} (h : ∀ a, (![o, r, 0] : Fin 3 → ℕ) a + (![1, n, 128] : Fin 3 → ℕ) a ≤ S4x640x128.size a)
    (y : Fin n) (l : Fin 128) (ho : o < 4) (hr : r + y.val < 640) :
    (Rect.unit (s := S4x640x128) ![o, r, 0] ![1, n, 128] h).toLoadRect.idx (ix3 (0 : Fin 1) y l) = ix3 (⟨o, ho⟩ : Fin 4) (⟨r + y.val, hr⟩ : Fin 640) l := by
  funext a
  match a with
  | ⟨0, _⟩ => exact Fin.ext (by show o + 1 * 0 = o; omega)
  | ⟨1, _⟩ => exact Fin.ext (by show r + 1 * y.val = r + y.val; omega)
  | ⟨2, _⟩ => exact Fin.ext (by show 0 + 1 * l.val = l.val; omega)

/-- A covered load of a window of rows of the tile. -/
theorem win_tile {R : Fin 640 → Fin 128 → EReal} (hT : HasTile v v.junk L fun x => R ⟨128 + x.val, by omega⟩)
    {o r : ℕ} {h : ∀ a, (![o, r, 0] : Fin 3 → ℕ) a + (![1, 256, 128] : Fin 3 → ℕ) a ≤ S4x640x128.size a}
    (ho : o < 4) (hr : 128 ≤ r) (hr' : r ≤ 384) (s : Fin 256) (l : Fin 128) :
    v.readCov L (Rect.unit (s := S4x640x128) ![o, r, 0] ![1, 256, 128] h).toLoadRect (ix3 (0 : Fin 1) s l) = varf (R ⟨r + s.val, by omega⟩) ⟨o, ho⟩ l := by
  refine (congrArg (v.read (Elt Ideal) (v.writes (Elt Ideal) v.junk L)) (idx_eq h s l ho (by omega))).trans ?_
  have := hT ⟨o, ho⟩ ⟨r + s.val - 128, by omega⟩ l
  have e : (⟨128 + (r + s.val - 128), by omega⟩ : Fin 640) = ⟨r + s.val, by omega⟩ := Fin.ext (by show 128 + (r + s.val - 128) = r + s.val; omega)
  simp only [e] at this
  exact this

/-- A covered load of a window of rows. -/
theorem win_row {R : Fin 640 → Fin 128 → EReal} (hT : HasRow v v.junk L R)
    {o r : ℕ} {h : ∀ a, (![o, r, 0] : Fin 3 → ℕ) a + (![1, 256, 128] : Fin 3 → ℕ) a ≤ S4x640x128.size a}
    (ho : o < 4) (hr' : r ≤ 384) (s : Fin 256) (l : Fin 128) :
    v.readCov L (Rect.unit (s := S4x640x128) ![o, r, 0] ![1, 256, 128] h).toLoadRect (ix3 (0 : Fin 1) s l) = varf (R ⟨r + s.val, by omega⟩) ⟨o, ho⟩ l :=
  (congrArg (v.read (Elt Ideal) (v.writes (Elt Ideal) v.junk L)) (idx_eq h s l ho (by omega))).trans (hT _ _ _)

/-- A load of a window of rows over what was there before. -/
theorem win_ld {R : Fin 640 → Fin 128 → EReal} (hT : HasRow v f L R)
    {o r : ℕ} {h : ∀ a, (![o, r, 0] : Fin 3 → ℕ) a + (![1, 256, 128] : Fin 3 → ℕ) a ≤ S4x640x128.size a}
    (ho : o < 4) (hr' : r ≤ 384) (s : Fin 256) (l : Fin 128) :
    View.ld (v.read (Elt Ideal) (v.writes (Elt Ideal) f L)) (Rect.unit (s := S4x640x128) ![o, r, 0] ![1, 256, 128] h) (ix3 (0 : Fin 1) s l) = varf (R ⟨r + s.val, by omega⟩) ⟨o, ho⟩ l :=
  (congrArg (v.read (Elt Ideal) (v.writes (Elt Ideal) f L)) (idx_eq h s l ho (by omega))).trans (hT _ _ _)

/-- A covered load of the tile's last 128 rows. -/
theorem tail {T : Fin 512 → Fin 128 → EReal} (hT : HasTile v v.junk L T)
    {o : ℕ} {h : ∀ a, (![o, 512, 0] : Fin 3 → ℕ) a + (![1, 128, 128] : Fin 3 → ℕ) a ≤ S4x640x128.size a}
    (ho : o < 4) (s l : Fin 128) :
    v.readCov L (Rect.unit (s := S4x640x128) ![o, 512, 0] ![1, 128, 128] h).toLoadRect (ix3 (0 : Fin 1) s l) = varf (T ⟨384 + s.val, by omega⟩) ⟨o, ho⟩ l := by
  refine (congrArg (v.read (Elt Ideal) (v.writes (Elt Ideal) v.junk L)) (idx_eq h s l ho (by omega))).trans ?_
  have := hT ⟨o, ho⟩ ⟨384 + s.val, by omega⟩ l
  have e : (⟨128 + (384 + s.val), by omega⟩ : Fin 640) = ⟨512 + s.val, by omega⟩ := Fin.ext (by show 128 + (384 + s.val) = 512 + s.val; omega)
  simp only [e] at this
  exact this

end KV

/-! The pooled mixer's scratch: 528 rows, 16 from before and the tile's 512. -/

section U

variable {κ : Kind} {sp : Space} {v : View sig κ sp S528x512 .f32} {f : v.ty.Contents (Elt Ideal)}
  {L : List (View.Piece (Elt Ideal) S528x512 .f32)}

/-- The rows read after the stores. -/
def HasU (v : View sig κ sp S528x512 .f32) (f : v.ty.Contents (Elt Ideal)) (L : List (View.Piece (Elt Ideal) S528x512 .f32))
    (lo : ℕ) (R : Fin 528 → Fin 512 → EReal) : Prop :=
  ∀ (x : Fin 528) (e : Fin 512), lo ≤ x.val → v.read (Elt Ideal) (v.writes (Elt Ideal) f L) (ix2 x e) = R x e

/-- The tile's rows stored over the 16 rows from before. -/
theorem u_tile {h : ∀ a, (![16, 0] : Fin 2 → ℕ) a + (![512, 512] : Fin 2 → ℕ) a ≤ S528x512.size a}
    {w : (Rect.unit (s := S528x512) ![16, 0] ![512, 512] h).shape.Idx → Elt Ideal .f32} {R : Fin 528 → Fin 512 → EReal} {lo : ℕ}
    (hw : ∀ (y e : Fin 512), w (ix2 y e) = R ⟨16 + y.val, by omega⟩ e)
    (hL : ∀ (x : Fin 528) (e : Fin 512), lo ≤ x.val → x.val < 16 → v.read (Elt Ideal) (v.writes (Elt Ideal) f L) (ix2 x e) = R x e) :
    HasU v f ((⟨Rect.unit (s := S528x512) ![16, 0] ![512, 512] h, w⟩ : View.Piece (Elt Ideal) S528x512 .f32) :: L) lo R := fun x e hx => by
  by_cases h16 : x.val < 16
  · exact (View.read_writes_cons_rows_of_not_mem v f h w L (ix2 x e) rfl rfl (.inl h16)).trans (hL x e hx h16)
  · refine (View.read_writes_cons_rows_of_mem v f h w L (ix2 x e) (ix2 (⟨x.val - 16, by omega⟩ : Fin 512) e) rfl ?_ rfl).trans ((hw _ e).trans ?_)
    · show x.val = 16 + (x.val - 16); omega
    · congr 1; exact Fin.ext (by show 16 + (x.val - 16) = x.val; omega)

/-- The first 16 rows stored. -/
theorem u_low {h : ∀ a, (![0, 0] : Fin 2 → ℕ) a + (![16, 512] : Fin 2 → ℕ) a ≤ S528x512.size a}
    {w : (Rect.unit (s := S528x512) ![0, 0] ![16, 512] h).shape.Idx → Elt Ideal .f32} {R : Fin 528 → Fin 512 → EReal}
    (hw : ∀ (y : Fin 16) (e : Fin 512), w (ix2 y e) = R ⟨y.val, by omega⟩ e) (x : Fin 528) (e : Fin 512) (hx : x.val < 16) :
    v.read (Elt Ideal) (v.writes (Elt Ideal) f ((⟨Rect.unit (s := S528x512) ![0, 0] ![16, 512] h, w⟩ : View.Piece (Elt Ideal) S528x512 .f32) :: L)) (ix2 x e) = R x e :=
  (View.read_writes_cons_rows_of_mem v f h w L (ix2 x e) (ix2 (⟨x.val, hx⟩ : Fin 16) e) rfl (by show x.val = 0 + x.val; omega) rfl).trans (hw _ e)

/-- A position of a unit-stride load. -/
theorem u_idx {r o n k : ℕ} (h : ∀ a, (![r, o] : Fin 2 → ℕ) a + (![n, k] : Fin 2 → ℕ) a ≤ S528x512.size a)
    (y : Fin n) (l : Fin k) (hr : r + y.val < 528) (hl : o + l.val < 512) :
    (Rect.unit (s := S528x512) ![r, o] ![n, k] h).toLoadRect.idx (ix2 y l) = ix2 (⟨r + y.val, hr⟩ : Fin 528) (⟨o + l.val, hl⟩ : Fin 512) := by
  funext a
  match a with
  | ⟨0, _⟩ => exact Fin.ext (by show r + 1 * y.val = r + y.val; omega)
  | ⟨1, _⟩ => exact Fin.ext (by show o + 1 * l.val = o + l.val; omega)

/-- A covered load of rows. -/
theorem u_cov {R : Fin 528 → Fin 512 → EReal} {lo : ℕ} (hT : HasU v v.junk L lo R)
    {r o n k : ℕ} {h : ∀ a, (![r, o] : Fin 2 → ℕ) a + (![n, k] : Fin 2 → ℕ) a ≤ S528x512.size a}
    (hlo : lo ≤ r) (hr : r + n ≤ 528) (ho : o + k ≤ 512) (y : Fin n) (l : Fin k) :
    v.readCov L (Rect.unit (s := S528x512) ![r, o] ![n, k] h).toLoadRect (ix2 y l) = R ⟨r + y.val, by omega⟩ ⟨o + l.val, by omega⟩ :=
  (congrArg (v.read (Elt Ideal) (v.writes (Elt Ideal) v.junk L)) (u_idx h y l (by omega) (by omega))).trans (hT _ _ (Nat.le_trans hlo (Nat.le_add_right _ _)))

/-- A load of rows over what was there before. -/
theorem u_ld {R : Fin 528 → Fin 512 → EReal} {lo : ℕ} (hT : HasU v f L lo R)
    {r o n k : ℕ} {h : ∀ a, (![r, o] : Fin 2 → ℕ) a + (![n, k] : Fin 2 → ℕ) a ≤ S528x512.size a}
    (hlo : lo ≤ r) (hr : r + n ≤ 528) (ho : o + k ≤ 512) (y : Fin n) (l : Fin k) :
    View.ld (v.read (Elt Ideal) (v.writes (Elt Ideal) f L)) (Rect.unit (s := S528x512) ![r, o] ![n, k] h) (ix2 y l) = R ⟨r + y.val, by omega⟩ ⟨o + l.val, by omega⟩ :=
  (congrArg (v.read (Elt Ideal) (v.writes (Elt Ideal) f L)) (u_idx h y l (by omega) (by omega))).trans (hT _ _ (Nat.le_trans hlo (Nat.le_add_right _ _)))

end U

end Cert.FrontIdeal.Scr
-- ==== Proof.AttSpec.lean ====
module

public import Idealize.ShloMosaic.Lib.Pointwise
public import Idealize.ShloMosaic.PureOps.Ideal.Laws

@[expose] public section

noncomputable section

namespace Cert.Layer

open Idealize.ShloMosaic

/-- The greater of a row's greatest score and the sink. -/
def smax (sc : Fin 256 → EReal) (sink : EReal) : EReal :=
  max (Finset.univ.fold max (Ideal.ofBits .f32 0xFF800000#32) sc) sink
/-- The exponential of a key's score less the greatest. -/
def sexp (sc : Fin 256 → EReal) (sink : EReal) (s : Fin 256) : EReal := Ideal.exp (sc s - smax sc sink)
/-- The sum of the exponentials, the sink's among them. -/
def sden (sc : Fin 256 → EReal) (sink : EReal) : EReal :=
  (∑ s, sexp sc sink s) + Ideal.exp (sink - smax sc sink)
/-- Attention as the kernel computes it: the weighted sum of the values times the reciprocal of the sum. -/
def attK (sc : Fin 256 → EReal) (sink : EReal) (v : Fin 256 → EReal) : EReal :=
  (∑ s, sexp sc sink s * v s) * Ideal.div 1 (sden sc sink)
/-- Attention as the reference computes it: the values weighted by the normalised exponentials. -/
def attR (sc : Fin 256 → EReal) (sink : EReal) (v : Fin 256 → EReal) : EReal :=
  ∑ s, Ideal.div (sexp sc sink s) (sden sc sink) * v s

end Cert.Layer
-- ==== Proof.FrontHead.lean ====
module

public import proofs.«01_k».proof.Proof.FrontPay
public import proofs.«01_k».proof.Proof.AttSpec

@[expose] public section

set_option maxRecDepth 16384

noncomputable section

namespace Cert.Layer

open Idealize.ShloMosaic

/-- One query row's attention output at column `e`: head `e / 64` over 256 key rows, its key and value lanes those of group `e / 256`. -/
def headOut (q : Fin 512 → EReal) (kr vr : Fin 256 → Fin 128 → EReal) (B : Fin 8 → Fin 256 → EReal) (sk : Fin 8 → EReal) (e : Fin 512) : EReal :=
  attK (fun s => (∑ a : Fin 64, q ⟨64 * (e.val / 64) + a.val, by omega⟩ * kr s ⟨64 * (e.val / 256) + a.val, by omega⟩) + B ⟨e.val / 64, by omega⟩ s)
    (sk ⟨e.val / 64, by omega⟩) (fun s => vr s ⟨64 * (e.val / 256) + e.val % 64, by omega⟩)

/-- A sum over 128 lanes against an even variant is the sum over its first 64 lanes. -/
theorem sum_even (q row : Fin 128 → EReal) (g : Fin 2) :
    ∑ a : Fin 128, q a * varf row ⟨2 * g.val, by omega⟩ a = ∑ a : Fin 64, q ⟨a.val, by omega⟩ * row ⟨64 * g.val + a.val, by omega⟩ := by
  refine (Fin.sum_univ_add (a := 64) (b := 64) (fun a : Fin (64 + 64) => q a * varf row ⟨2 * g.val, by omega⟩ a)).trans ?_
  have h2 : ∀ a : Fin 64, q (Fin.natAdd 64 a) * varf row ⟨2 * g.val, by omega⟩ (Fin.natAdd 64 a) = 0 := fun a => by
    unfold varf; rw [if_neg (by show ¬ (64 + a.val) / 64 = 2 * g.val % 2; omega), mul_zero]
  have h1 : ∀ a : Fin 64, q (Fin.castAdd 64 a) * varf row ⟨2 * g.val, by omega⟩ (Fin.castAdd 64 a) = q ⟨a.val, by omega⟩ * row ⟨64 * g.val + a.val, by omega⟩ := fun a => by
    unfold varf
    rw [if_pos (by show a.val / 64 = 2 * g.val % 2; omega)]
    have e : (⟨64 * (2 * g.val / 2) + a.val % 64, by omega⟩ : Fin 128) = ⟨64 * g.val + a.val, by omega⟩ := Fin.ext (by show 64 * (2 * g.val / 2) + a.val % 64 = 64 * g.val + a.val; omega)
    exact congrArg (fun z => q ⟨a.val, by omega⟩ * row z) e
  rw [Finset.sum_congr rfl fun a _ => h1 a, Finset.sum_congr rfl fun a _ => h2 a, Finset.sum_const_zero, add_zero]

/-- A sum over 128 lanes against an odd variant is the sum over its last 64 lanes. -/
theorem sum_odd (q row : Fin 128 → EReal) (g : Fin 2) :
    ∑ a : Fin 128, q a * varf row ⟨2 * g.val + 1, by omega⟩ a = ∑ a : Fin 64, q ⟨64 + a.val, by omega⟩ * row ⟨64 * g.val + a.val, by omega⟩ := by
  refine (Fin.sum_univ_add (a := 64) (b := 64) (fun a : Fin (64 + 64) => q a * varf row ⟨2 * g.val + 1, by omega⟩ a)).trans ?_
  have h2 : ∀ a : Fin 64, q (Fin.castAdd 64 a) * varf row ⟨2 * g.val + 1, by omega⟩ (Fin.castAdd 64 a) = 0 := fun a => by
    unfold varf; rw [if_neg (by show ¬ a.val / 64 = (2 * g.val + 1) % 2; omega), mul_zero]
  have h1 : ∀ a : Fin 64, q (Fin.natAdd 64 a) * varf row ⟨2 * g.val + 1, by omega⟩ (Fin.natAdd 64 a) = q ⟨64 + a.val, by omega⟩ * row ⟨64 * g.val + a.val, by omega⟩ := fun a => by
    unfold varf
    rw [if_pos (by show (64 + a.val) / 64 = (2 * g.val + 1) % 2; omega)]
    have e : (⟨64 * ((2 * g.val + 1) / 2) + (64 + a.val) % 64, by omega⟩ : Fin 128) = ⟨64 * g.val + a.val, by omega⟩ := Fin.ext (by show 64 * ((2 * g.val + 1) / 2) + (64 + a.val) % 64 = 64 * g.val + a.val; omega)
    exact congrArg (fun z => q ⟨64 + a.val, by omega⟩ * row z) e
  rw [Finset.sum_congr rfl fun a _ => h2 a, Finset.sum_congr rfl fun a _ => h1 a, Finset.sum_const_zero, zero_add]

/-- Attention over zero values is zero. -/
theorem attK_zero (sc : Fin 256 → EReal) (sk : EReal) : attK sc sk (fun _ => 0) = 0 := by
  unfold attK
  simp only [mul_zero, Finset.sum_const_zero, zero_mul]

/-- Two heads of a pair, each against its variant of keys and values, add up to the attention output of the lane's own head. -/
theorem att_pair {q : Fin 512 → EReal} {kr vr : Fin 256 → Fin 128 → EReal} {B : Fin 8 → Fin 256 → EReal} {sk : Fin 8 → EReal}
    (p : ℕ) (hp : p < 4) (l : Fin 128)
    {Q : Fin 128 → EReal} {K0 K1 : Fin 256 → Fin 128 → EReal} {V0 V1 B0 B1 : Fin 256 → EReal} {s0 s1 : EReal}
    (hQ : ∀ a : Fin 128, Q a = q ⟨128 * p + a.val, by omega⟩)
    (hK0 : ∀ s a, K0 s a = varf (kr s) ⟨2 * (p / 2), by omega⟩ a) (hK1 : ∀ s a, K1 s a = varf (kr s) ⟨2 * (p / 2) + 1, by omega⟩ a)
    (hV0 : ∀ s, V0 s = varf (vr s) ⟨2 * (p / 2), by omega⟩ l) (hV1 : ∀ s, V1 s = varf (vr s) ⟨2 * (p / 2) + 1, by omega⟩ l)
    (hB0 : ∀ s, B0 s = B ⟨2 * p, by omega⟩ s) (hB1 : ∀ s, B1 s = B ⟨2 * p + 1, by omega⟩ s)
    (hs0 : s0 = sk ⟨2 * p, by omega⟩) (hs1 : s1 = sk ⟨2 * p + 1, by omega⟩) :
    attK (fun s => (∑ a : Fin 128, Q a * K0 s a) + B0 s) s0 V0 + attK (fun s => (∑ a : Fin 128, Q a * K1 s a) + B1 s) s1 V1
      = headOut q kr vr B sk ⟨128 * p + l.val, by omega⟩ := by
  obtain rfl : K0 = fun s => varf (kr s) ⟨2 * (p / 2), by omega⟩ := funext fun s => funext fun a => hK0 s a
  obtain rfl : K1 = fun s => varf (kr s) ⟨2 * (p / 2) + 1, by omega⟩ := funext fun s => funext fun a => hK1 s a
  obtain rfl : V0 = _ := funext hV0
  obtain rfl : V1 = _ := funext hV1
  obtain rfl : B0 = _ := funext hB0
  obtain rfl : B1 = _ := funext hB1
  obtain rfl : Q = _ := funext hQ
  subst hs0 hs1
  simp only [sum_even _ _ (⟨p / 2, by omega⟩ : Fin 2), sum_odd _ _ (⟨p / 2, by omega⟩ : Fin 2)]
  unfold headOut
  by_cases h : l.val < 64
  · have z : (fun s => varf (vr s) ⟨2 * (p / 2) + 1, by omega⟩ l) = fun _ => (0 : EReal) := funext fun s => by
      unfold varf; rw [if_neg (by show ¬ l.val / 64 = (2 * (p / 2) + 1) % 2; omega)]
    have y : (fun s => varf (vr s) ⟨2 * (p / 2), by omega⟩ l) = fun s => vr s ⟨64 * ((128 * p + l.val) / 256) + (128 * p + l.val) % 64, by omega⟩ := funext fun s => by
      unfold varf; rw [if_pos (by show l.val / 64 = 2 * (p / 2) % 2; omega)]
      exact congrArg (vr s) (Fin.ext (by show 64 * (2 * (p / 2) / 2) + l.val % 64 = 64 * ((128 * p + l.val) / 256) + (128 * p + l.val) % 64; omega))
    rw [z, attK_zero, add_zero, y]
    have e : (⟨2 * p, by omega⟩ : Fin 8) = ⟨(128 * p + l.val) / 64, by omega⟩ := Fin.ext (by show 2 * p = (128 * p + l.val) / 64; omega)
    rw [e]
    refine congrArg (fun sc => attK sc _ _) (funext fun s => congrArg (· + _) (Finset.sum_congr rfl fun a _ => ?_))
    exact congrArg₂ (fun x z => q x * kr s z) (Fin.ext (by show 128 * p + a.val = 64 * ((128 * p + l.val) / 64) + a.val; omega))
      (Fin.ext (by show 64 * (p / 2) + a.val = 64 * ((128 * p + l.val) / 256) + a.val; omega))
  · have z : (fun s => varf (vr s) ⟨2 * (p / 2), by omega⟩ l) = fun _ => (0 : EReal) := funext fun s => by
      unfold varf; rw [if_neg (by show ¬ l.val / 64 = 2 * (p / 2) % 2; omega)]
    have y : (fun s => varf (vr s) ⟨2 * (p / 2) + 1, by omega⟩ l) = fun s => vr s ⟨64 * ((128 * p + l.val) / 256) + (128 * p + l.val) % 64, by omega⟩ := funext fun s => by
      unfold varf; rw [if_pos (by show l.val / 64 = (2 * (p / 2) + 1) % 2; omega)]
      exact congrArg (vr s) (Fin.ext (by show 64 * ((2 * (p / 2) + 1) / 2) + l.val % 64 = 64 * ((128 * p + l.val) / 256) + (128 * p + l.val) % 64; omega))
    rw [z, attK_zero, zero_add, y]
    have e : (⟨2 * p + 1, by omega⟩ : Fin 8) = ⟨(128 * p + l.val) / 64, by omega⟩ := Fin.ext (by show 2 * p + 1 = (128 * p + l.val) / 64; omega)
    rw [e]
    refine congrArg (fun sc => attK sc _ _) (funext fun s => congrArg (· + _) (Finset.sum_congr rfl fun a _ => ?_))
    exact congrArg₂ (fun x z => q x * kr s z) (Fin.ext (by show 128 * p + (64 + a.val) = 64 * ((128 * p + l.val) / 64) + a.val; omega))
      (Fin.ext (by show 64 * (p / 2) + a.val = 64 * ((128 * p + l.val) / 256) + a.val; omega))

/-- The pooled mixer's group 0: the mean of the last 2 rows of `f` (row `i` is `i` rows back) minus the row itself, against the group's weight. -/
def grp0 (f : Fin 16 → Fin 512 → EReal) (w : Fin 128 → Fin 128 → EReal) (e : Fin 128) : EReal :=
  ∑ x : Fin 128, ((f 0 (⟨x.val, by omega⟩ : Fin 512) + f 1 (⟨x.val, by omega⟩ : Fin 512)) * Ideal.ofBits .f32 0x3F000000#32 - f 0 (⟨x.val, by omega⟩ : Fin 512)) * w x e

/-- The pooled mixer's group 1: the mean of the last 4 rows of `f` (row `i` is `i` rows back) minus the row itself, against the group's weight. -/
def grp1 (f : Fin 16 → Fin 512 → EReal) (w : Fin 128 → Fin 128 → EReal) (e : Fin 128) : EReal :=
  ∑ x : Fin 128, ((f 0 (⟨128 + x.val, by omega⟩ : Fin 512) + f 1 (⟨128 + x.val, by omega⟩ : Fin 512) + f 2 (⟨128 + x.val, by omega⟩ : Fin 512) + f 3 (⟨128 + x.val, by omega⟩ : Fin 512)) * Ideal.ofBits .f32 0x3E800000#32 - f 0 (⟨128 + x.val, by omega⟩ : Fin 512)) * w x e

/-- The pooled mixer's group 2: the mean of the last 8 rows of `f` (row `i` is `i` rows back) minus the row itself, against the group's weight. -/
def grp2 (f : Fin 16 → Fin 512 → EReal) (w : Fin 128 → Fin 128 → EReal) (e : Fin 128) : EReal :=
  ∑ x : Fin 128, ((f 0 (⟨256 + x.val, by omega⟩ : Fin 512) + f 1 (⟨256 + x.val, by omega⟩ : Fin 512) + f 2 (⟨256 + x.val, by omega⟩ : Fin 512) + f 3 (⟨256 + x.val, by omega⟩ : Fin 512) + f 4 (⟨256 + x.val, by omega⟩ : Fin 512) + f 5 (⟨256 + x.val, by omega⟩ : Fin 512) + f 6 (⟨256 + x.val, by omega⟩ : Fin 512) + f 7 (⟨256 + x.val, by omega⟩ : Fin 512)) * Ideal.ofBits .f32 0x3E000000#32 - f 0 (⟨256 + x.val, by omega⟩ : Fin 512)) * w x e

/-- The pooled mixer's group 3: the mean of the last 16 rows of `f` (row `i` is `i` rows back) minus the row itself, against the group's weight. -/
def grp3 (f : Fin 16 → Fin 512 → EReal) (w : Fin 128 → Fin 128 → EReal) (e : Fin 128) : EReal :=
  ∑ x : Fin 128, ((f 0 (⟨384 + x.val, by omega⟩ : Fin 512) + f 1 (⟨384 + x.val, by omega⟩ : Fin 512) + f 2 (⟨384 + x.val, by omega⟩ : Fin 512) + f 3 (⟨384 + x.val, by omega⟩ : Fin 512) + f 4 (⟨384 + x.val, by omega⟩ : Fin 512) + f 5 (⟨384 + x.val, by omega⟩ : Fin 512) + f 6 (⟨384 + x.val, by omega⟩ : Fin 512) + f 7 (⟨384 + x.val, by omega⟩ : Fin 512) + f 8 (⟨384 + x.val, by omega⟩ : Fin 512) + f 9 (⟨384 + x.val, by omega⟩ : Fin 512) + f 10 (⟨384 + x.val, by omega⟩ : Fin 512) + f 11 (⟨384 + x.val, by omega⟩ : Fin 512) + f 12 (⟨384 + x.val, by omega⟩ : Fin 512) + f 13 (⟨384 + x.val, by omega⟩ : Fin 512) + f 14 (⟨384 + x.val, by omega⟩ : Fin 512) + f 15 (⟨384 + x.val, by omega⟩ : Fin 512)) * Ideal.ofBits .f32 0x3D800000#32 - f 0 (⟨384 + x.val, by omega⟩ : Fin 512)) * w x e

/-- The pooled mixer's output at column `e`: the four groups side by side, scaled. -/
def poolz (f : Fin 16 → Fin 512 → EReal) (W : Fin 4 → Fin 128 → Fin 128 → EReal) (sc : Fin 512 → EReal) (e : Fin 512) : EReal :=
  (if h : e.val < 128 then grp0 f (W 0) (⟨e.val, by omega⟩ : Fin 128)
    else if h : e.val - 128 < 128 then grp1 f (W 1) (⟨e.val - 128, by omega⟩ : Fin 128)
    else if h : e.val - 128 - 128 < 128 then grp2 f (W 2) (⟨e.val - 128 - 128, by omega⟩ : Fin 128)
    else grp3 f (W 3) (⟨e.val - 128 - 128 - 128, by omega⟩ : Fin 128)) * sc e

end Cert.Layer

namespace Cert.FrontIdeal.Pay

open Idealize.ShloMosaic Idealize.ShloMosaic.TcCoe Idealize.SL.Sem Cert.FrontIdeal Cert.FrontIdeal.Gen Cert.Layer

/-- A group of the pooled mixer: the mean of the rows back less the row, against the group's weight. -/
theorem p31_at (U : FVec Ideal S512x512 .f32) (A0 A1 : FVec Ideal S512x128 .f32) (W : FVec Ideal S1x128x128 .bf16) (r : Fin 512) (e : Fin 128) :
    (k0_pay31 U A0 A1 W : FVec Ideal S512x128 .f32) (ix2 r e)
      = ∑ x : Fin 128, (((A0 : FVec Ideal S512x128 .f32) (ix2 r x) + (A1 : FVec Ideal S512x128 .f32) (ix2 r x)) * Ideal.ofBits .f32 0x3F000000#32 - U (ix2 r (⟨x.val, by omega⟩ : Fin 512))) * W (ix3 0 x e) := by
  pointwise [k0_pay31]

/-- The same from the rows `f` back. -/
theorem g0_at {f : Fin 16 → Fin 512 → EReal} {w : Fin 128 → Fin 128 → EReal} {U : FVec Ideal S512x512 .f32} {A0 A1 : FVec Ideal S512x128 .f32} {W : FVec Ideal S1x128x128 .bf16} {r : Fin 512}
    (hU : ∀ c : Fin 512, U (ix2 r c) = f 0 c)
    (h0 : ∀ x : Fin 128, A0 (ix2 r x) = f 0 (⟨x.val, by omega⟩ : Fin 512)) (h1 : ∀ x : Fin 128, A1 (ix2 r x) = f 1 (⟨x.val, by omega⟩ : Fin 512))
    (hW : ∀ x e : Fin 128, W (ix3 0 x e) = w x e) (e : Fin 128) :
    (k0_pay31 U A0 A1 W : FVec Ideal S512x128 .f32) (ix2 r e)
      = grp0 f w e :=
  (p31_at U A0 A1 W r e).trans (Finset.sum_congr rfl fun x _ => by rw [h0, h1, hU, hW])

/-- A group of the pooled mixer: the mean of the rows back less the row, against the group's weight. -/
theorem p32_at (U : FVec Ideal S512x512 .f32) (A0 A1 A2 A3 : FVec Ideal S512x128 .f32) (W : FVec Ideal S1x128x128 .bf16) (r : Fin 512) (e : Fin 128) :
    (k0_pay32 U A0 A1 A2 A3 W : FVec Ideal S512x128 .f32) (ix2 r e)
      = ∑ x : Fin 128, (((A0 : FVec Ideal S512x128 .f32) (ix2 r x) + (A1 : FVec Ideal S512x128 .f32) (ix2 r x) + (A2 : FVec Ideal S512x128 .f32) (ix2 r x) + (A3 : FVec Ideal S512x128 .f32) (ix2 r x)) * Ideal.ofBits .f32 0x3E800000#32 - U (ix2 r (⟨128 + x.val, by omega⟩ : Fin 512))) * W (ix3 0 x e) := by
  pointwise [k0_pay32]

/-- The same from the rows `f` back. -/
theorem g1_at {f : Fin 16 → Fin 512 → EReal} {w : Fin 128 → Fin 128 → EReal} {U : FVec Ideal S512x512 .f32} {A0 A1 A2 A3 : FVec Ideal S512x128 .f32} {W : FVec Ideal S1x128x128 .bf16} {r : Fin 512}
    (hU : ∀ c : Fin 512, U (ix2 r c) = f 0 c)
    (h0 : ∀ x : Fin 128, A0 (ix2 r x) = f 0 (⟨128 + x.val, by omega⟩ : Fin 512)) (h1 : ∀ x : Fin 128, A1 (ix2 r x) = f 1 (⟨128 + x.val, by omega⟩ : Fin 512)) (h2 : ∀ x : Fin 128, A2 (ix2 r x) = f 2 (⟨128 + x.val, by omega⟩ : Fin 512)) (h3 : ∀ x : Fin 128, A3 (ix2 r x) = f 3 (⟨128 + x.val, by omega⟩ : Fin 512))
    (hW : ∀ x e : Fin 128, W (ix3 0 x e) = w x e) (e : Fin 128) :
    (k0_pay32 U A0 A1 A2 A3 W : FVec Ideal S512x128 .f32) (ix2 r e)
      = grp1 f w e :=
  (p32_at U A0 A1 A2 A3 W r e).trans (Finset.sum_congr rfl fun x _ => by rw [h0, h1, h2, h3, hU, hW])

/-- A group of the pooled mixer: the mean of the rows back less the row, against the group's weight. -/
theorem p33_at (U : FVec Ideal S512x512 .f32) (A0 A1 A2 A3 A4 A5 A6 A7 : FVec Ideal S512x128 .f32) (W : FVec Ideal S1x128x128 .bf16) (r : Fin 512) (e : Fin 128) :
    (k0_pay33 U A0 A1 A2 A3 A4 A5 A6 A7 W : FVec Ideal S512x128 .f32) (ix2 r e)
      = ∑ x : Fin 128, (((A0 : FVec Ideal S512x128 .f32) (ix2 r x) + (A1 : FVec Ideal S512x128 .f32) (ix2 r x) + (A2 : FVec Ideal S512x128 .f32) (ix2 r x) + (A3 : FVec Ideal S512x128 .f32) (ix2 r x) + (A4 : FVec Ideal S512x128 .f32) (ix2 r x) + (A5 : FVec Ideal S512x128 .f32) (ix2 r x) + (A6 : FVec Ideal S512x128 .f32) (ix2 r x) + (A7 : FVec Ideal S512x128 .f32) (ix2 r x)) * Ideal.ofBits .f32 0x3E000000#32 - U (ix2 r (⟨256 + x.val, by omega⟩ : Fin 512))) * W (ix3 0 x e) := by
  pointwise [k0_pay33]

/-- The same from the rows `f` back. -/
theorem g2_at {f : Fin 16 → Fin 512 → EReal} {w : Fin 128 → Fin 128 → EReal} {U : FVec Ideal S512x512 .f32} {A0 A1 A2 A3 A4 A5 A6 A7 : FVec Ideal S512x128 .f32} {W : FVec Ideal S1x128x128 .bf16} {r : Fin 512}
    (hU : ∀ c : Fin 512, U (ix2 r c) = f 0 c)
    (h0 : ∀ x : Fin 128, A0 (ix2 r x) = f 0 (⟨256 + x.val, by omega⟩ : Fin 512)) (h1 : ∀ x : Fin 128, A1 (ix2 r x) = f 1 (⟨256 + x.val, by omega⟩ : Fin 512)) (h2 : ∀ x : Fin 128, A2 (ix2 r x) = f 2 (⟨256 + x.val, by omega⟩ : Fin 512)) (h3 : ∀ x : Fin 128, A3 (ix2 r x) = f 3 (⟨256 + x.val, by omega⟩ : Fin 512)) (h4 : ∀ x : Fin 128, A4 (ix2 r x) = f 4 (⟨256 + x.val, by omega⟩ : Fin 512)) (h5 : ∀ x : Fin 128, A5 (ix2 r x) = f 5 (⟨256 + x.val, by omega⟩ : Fin 512)) (h6 : ∀ x : Fin 128, A6 (ix2 r x) = f 6 (⟨256 + x.val, by omega⟩ : Fin 512)) (h7 : ∀ x : Fin 128, A7 (ix2 r x) = f 7 (⟨256 + x.val, by omega⟩ : Fin 512))
    (hW : ∀ x e : Fin 128, W (ix3 0 x e) = w x e) (e : Fin 128) :
    (k0_pay33 U A0 A1 A2 A3 A4 A5 A6 A7 W : FVec Ideal S512x128 .f32) (ix2 r e)
      = grp2 f w e :=
  (p33_at U A0 A1 A2 A3 A4 A5 A6 A7 W r e).trans (Finset.sum_congr rfl fun x _ => by rw [h0, h1, h2, h3, h4, h5, h6, h7, hU, hW])

/-- The fourth group's first four rows, added. -/
theorem p34_at (A0 A1 A2 A3 : FVec Ideal S512x128 .f32) (r : Fin 512) (x : Fin 128) :
    (k0_pay34 A0 A1 A2 A3 : FVec Ideal S512x128 .f32) (ix2 r x) = A0 (ix2 r x) + A1 (ix2 r x) + A2 (ix2 r x) + A3 (ix2 r x) := by
  pointwise [k0_pay34]

/-- The four groups side by side, scaled. -/
theorem p36_at (U : FVec Ideal S512x512 .f32) (G0 G1 G2 D A4 A5 A6 A7 A8 A9 A10 A11 A12 A13 A14 A15 : FVec Ideal S512x128 .f32) (W : FVec Ideal S1x128x128 .bf16) (P : FVec Ideal S1x512 .f32) (r e : Fin 512) :
    (k0_pay36 (k0_pay35 U G0 G1 G2 D A4 A5 A6 A7 A8 A9 A10 A11 A12 A13 A14 A15 W) P : FVec Ideal S1x512x512 .bf16) (ix3 0 r e)
      = (if h : e.val < 128 then G0 (ix2 r (⟨e.val, by omega⟩ : Fin 128))
        else if h : e.val - 128 < 128 then G1 (ix2 r (⟨e.val - 128, by omega⟩ : Fin 128))
        else if h : e.val - 128 - 128 < 128 then G2 (ix2 r (⟨e.val - 128 - 128, by omega⟩ : Fin 128))
        else ∑ x : Fin 128, ((D (ix2 r x) + A4 (ix2 r x) + A5 (ix2 r x) + A6 (ix2 r x) + A7 (ix2 r x) + A8 (ix2 r x) + A9 (ix2 r x) + A10 (ix2 r x) + A11 (ix2 r x) + A12 (ix2 r x) + A13 (ix2 r x) + A14 (ix2 r x) + A15 (ix2 r x)) * Ideal.ofBits .f32 0x3D800000#32 - U (ix2 r (⟨384 + x.val, by omega⟩ : Fin 512)))
          * W (ix3 0 x (⟨e.val - 128 - 128 - 128, by omega⟩ : Fin 128))) * P (ix2 0 e) := by
  pointwise [k0_pay35, k0_pay36]

/-- The fourth group from the rows `f` back. -/
theorem g3_at {f : Fin 16 → Fin 512 → EReal} {w : Fin 128 → Fin 128 → EReal} {U : FVec Ideal S512x512 .f32} {A0 A1 A2 A3 A4 A5 A6 A7 A8 A9 A10 A11 A12 A13 A14 A15 : FVec Ideal S512x128 .f32} {W : FVec Ideal S1x128x128 .bf16} {r : Fin 512}
    (hU : ∀ c : Fin 512, U (ix2 r c) = f 0 c)
    (h0 : ∀ x : Fin 128, A0 (ix2 r x) = f 0 (⟨384 + x.val, by omega⟩ : Fin 512)) (h1 : ∀ x : Fin 128, A1 (ix2 r x) = f 1 (⟨384 + x.val, by omega⟩ : Fin 512)) (h2 : ∀ x : Fin 128, A2 (ix2 r x) = f 2 (⟨384 + x.val, by omega⟩ : Fin 512)) (h3 : ∀ x : Fin 128, A3 (ix2 r x) = f 3 (⟨384 + x.val, by omega⟩ : Fin 512)) (h4 : ∀ x : Fin 128, A4 (ix2 r x) = f 4 (⟨384 + x.val, by omega⟩ : Fin 512)) (h5 : ∀ x : Fin 128, A5 (ix2 r x) = f 5 (⟨384 + x.val, by omega⟩ : Fin 512)) (h6 : ∀ x : Fin 128, A6 (ix2 r x) = f 6 (⟨384 + x.val, by omega⟩ : Fin 512)) (h7 : ∀ x : Fin 128, A7 (ix2 r x) = f 7 (⟨384 + x.val, by omega⟩ : Fin 512)) (h8 : ∀ x : Fin 128, A8 (ix2 r x) = f 8 (⟨384 + x.val, by omega⟩ : Fin 512)) (h9 : ∀ x : Fin 128, A9 (ix2 r x) = f 9 (⟨384 + x.val, by omega⟩ : Fin 512)) (h10 : ∀ x : Fin 128, A10 (ix2 r x) = f 10 (⟨384 + x.val, by omega⟩ : Fin 512)) (h11 : ∀ x : Fin 128, A11 (ix2 r x) = f 11 (⟨384 + x.val, by omega⟩ : Fin 512)) (h12 : ∀ x : Fin 128, A12 (ix2 r x) = f 12 (⟨384 + x.val, by omega⟩ : Fin 512)) (h13 : ∀ x : Fin 128, A13 (ix2 r x) = f 13 (⟨384 + x.val, by omega⟩ : Fin 512)) (h14 : ∀ x : Fin 128, A14 (ix2 r x) = f 14 (⟨384 + x.val, by omega⟩ : Fin 512)) (h15 : ∀ x : Fin 128, A15 (ix2 r x) = f 15 (⟨384 + x.val, by omega⟩ : Fin 512))
    (hW : ∀ x e : Fin 128, W (ix3 0 x e) = w x e) (e : Fin 128) :
    ∑ x : Fin 128, (((k0_pay34 A0 A1 A2 A3 : FVec Ideal S512x128 .f32) (ix2 r x) + A4 (ix2 r x) + A5 (ix2 r x) + A6 (ix2 r x) + A7 (ix2 r x) + A8 (ix2 r x) + A9 (ix2 r x) + A10 (ix2 r x) + A11 (ix2 r x) + A12 (ix2 r x) + A13 (ix2 r x) + A14 (ix2 r x) + A15 (ix2 r x)) * Ideal.ofBits .f32 0x3D800000#32 - U (ix2 r (⟨384 + x.val, by omega⟩ : Fin 512)))
          * W (ix3 0 x e) = grp3 f w e :=
  Finset.sum_congr rfl fun x _ => by rw [p34_at, h0, h1, h2, h3, h4, h5, h6, h7, h8, h9, h10, h11, h12, h13, h14, h15, hU, hW]

/-- The pooled mixer's piece from its groups and the scale. -/
theorem pool_at {f : Fin 16 → Fin 512 → EReal} {w : Fin 4 → Fin 128 → Fin 128 → EReal} {sc : Fin 512 → EReal} {U : FVec Ideal S512x512 .f32}
    {G0 G1 G2 D A4 A5 A6 A7 A8 A9 A10 A11 A12 A13 A14 A15 : FVec Ideal S512x128 .f32} {W : FVec Ideal S1x128x128 .bf16} {P : FVec Ideal S1x512 .f32} {r : Fin 512}
    (hG0 : ∀ e : Fin 128, G0 (ix2 r e) = grp0 f (w 0) e) (hG1 : ∀ e : Fin 128, G1 (ix2 r e) = grp1 f (w 1) e) (hG2 : ∀ e : Fin 128, G2 (ix2 r e) = grp2 f (w 2) e)
    (hG3 : ∀ e : Fin 128, ∑ x : Fin 128, ((D (ix2 r x) + A4 (ix2 r x) + A5 (ix2 r x) + A6 (ix2 r x) + A7 (ix2 r x) + A8 (ix2 r x) + A9 (ix2 r x) + A10 (ix2 r x) + A11 (ix2 r x) + A12 (ix2 r x) + A13 (ix2 r x) + A14 (ix2 r x) + A15 (ix2 r x)) * Ideal.ofBits .f32 0x3D800000#32 - U (ix2 r (⟨384 + x.val, by omega⟩ : Fin 512)))
          * W (ix3 0 x e) = grp3 f (w 3) e)
    (hP : ∀ e : Fin 512, P (ix2 0 e) = sc e) (e : Fin 512) :
    (k0_pay36 (k0_pay35 U G0 G1 G2 D A4 A5 A6 A7 A8 A9 A10 A11 A12 A13 A14 A15 W) P : FVec Ideal S1x512x512 .bf16) (ix3 0 r e) = poolz f w sc e := by
  refine (p36_at U G0 G1 G2 D A4 A5 A6 A7 A8 A9 A10 A11 A12 A13 A14 A15 W P r e).trans ?_
  unfold poolz
  refine congrArg₂ (· * ·) ?_ (hP e)
  by_cases h1 : e.val < 128
  · rw [dif_pos h1, dif_pos h1]; exact hG0 _
  rw [dif_neg h1, dif_neg h1]
  by_cases h2 : e.val - 128 < 128
  · rw [dif_pos h2, dif_pos h2]; exact hG1 _
  rw [dif_neg h2, dif_neg h2]
  by_cases h3 : e.val - 128 - 128 < 128
  · rw [dif_pos h3, dif_pos h3]; exact hG2 _
  rw [dif_neg h3, dif_neg h3]
  exact hG3 _

end Cert.FrontIdeal.Pay
-- ==== Proof.FrontSpec.lean ====
module

public import proofs.«01_k».proof.Proof.FrontHead

@[expose] public section

set_option maxRecDepth 16384

noncomputable section

namespace Cert.Layer

open Idealize.ShloMosaic Idealize.ShloMosaic.TcCoe Idealize.SL.Sem

/-- A token's projection: its normalised row against the weight. -/
def prow (x g b : Fin 1024 → EReal) (w : Fin 1024 → Fin 1280 → EReal) (e : Fin 1280) : EReal := ∑ k, ln x g b k * w k e

/-- The projections of a sequence: 16 meta rows, then 2048 tokens. -/
def projr (M : Fin 16 → Fin 1280 → EReal) (X : Fin 2048 → Fin 1024 → EReal) (g b : Fin 1024 → EReal) (w : Fin 1024 → Fin 1280 → EReal)
    (n : Fin 2064) (e : Fin 1280) : EReal :=
  if h : n.val < 16 then M ⟨n.val, h⟩ e else prow (X ⟨n.val - 16, by omega⟩) g b w e

/-- The projections behind 112 zero rows. -/
def padr (P : Fin 2064 → Fin 1280 → EReal) (n : Fin 2176) (e : Fin 1280) : EReal :=
  if h : n.val < 112 then 0 else P ⟨n.val - 112, by omega⟩ e

/-- The attention output of token `R` at column `e`. -/
def attS (P : Fin 2064 → Fin 1280 → EReal) (bias : Fin 2 → Fin 8 → Fin 128 → Fin 256 → EReal) (sk : Fin 8 → EReal) (R : Fin 2048) (e : Fin 512) : EReal :=
  headOut (fun c => P ⟨16 + R.val, by omega⟩ ⟨512 + c.val, by omega⟩ * Ideal.ofBits .f32 0x3E000000#32)
    (fun s a => padr P ⟨128 * (R.val / 128) + s.val, by omega⟩ ⟨1024 + a.val, by omega⟩)
    (fun s a => padr P ⟨128 * (R.val / 128) + s.val, by omega⟩ ⟨1152 + a.val, by omega⟩)
    (fun h s => bias (if R.val < 128 then 0 else 1) h ⟨R.val % 128, by omega⟩ s) sk e

/-- The pooled mixer's output of token `R` at column `e`. -/
def poolS (P : Fin 2064 → Fin 1280 → EReal) (W : Fin 4 → Fin 128 → Fin 128 → EReal) (sc : Fin 512 → EReal) (R : Fin 2048) (e : Fin 512) : EReal :=
  poolz (fun i c => P ⟨16 + R.val - i.val, by omega⟩ ⟨c.val, by omega⟩) W sc e

/-- The mixer's output of token `R`: the pooled mixer's columns, then the attention's. -/
def mixS (P : Fin 2064 → Fin 1280 → EReal) (bias : Fin 2 → Fin 8 → Fin 128 → Fin 256 → EReal) (sk : Fin 8 → EReal)
    (W : Fin 4 → Fin 128 → Fin 128 → EReal) (sc : Fin 512 → EReal) (R : Fin 2048) (c : Fin 1024) : EReal :=
  if h : c.val < 512 then poolS P W sc R ⟨c.val, h⟩ else attS P bias sk R ⟨c.val - 512, by omega⟩

/-- The attention of row `r` of block `j` of tile `tt`. -/
theorem attS_eq (P : Fin 2064 → Fin 1280 → EReal) (bias : Fin 2 → Fin 8 → Fin 128 → Fin 256 → EReal) (sk : Fin 8 → EReal) (R : Fin 2048)
    (tt j : ℕ) (r : Fin 128) (htt : tt < 4) (hj : j < 4) (hR : R.val = 512 * tt + (128 * j + r.val)) (e : Fin 512) :
    headOut (fun c => P ⟨16 + (512 * tt + (128 * j + r.val)), by omega⟩ ⟨512 + c.val, by omega⟩ * Ideal.ofBits .f32 0x3E000000#32)
      (fun s a => padr P ⟨512 * tt + (128 * j + s.val), by omega⟩ ⟨1024 + a.val, by omega⟩)
      (fun s a => padr P ⟨512 * tt + (128 * j + s.val), by omega⟩ ⟨1152 + a.val, by omega⟩)
      (fun h s => bias (if tt = 0 ∧ j = 0 then 0 else 1) h r s) sk e = attS P bias sk R e := by
  obtain ⟨R, hlt⟩ := R
  have hR' : R = 512 * tt + (128 * j + r.val) := hR
  subst hR'
  unfold attS
  have e1 : ∀ s : Fin 256, (⟨128 * ((512 * tt + (128 * j + r.val)) / 128) + s.val, by omega⟩ : Fin 2176) = ⟨512 * tt + (128 * j + s.val), by omega⟩ :=
    fun s => Fin.ext (by show 128 * ((512 * tt + (128 * j + r.val)) / 128) + s.val = 512 * tt + (128 * j + s.val); omega)
  have e2 : (⟨(512 * tt + (128 * j + r.val)) % 128, by omega⟩ : Fin 128) = r := Fin.ext (by show (512 * tt + (128 * j + r.val)) % 128 = r.val; omega)
  have e3 : (512 * tt + (128 * j + r.val) < 128) = (tt = 0 ∧ j = 0) := propext (by omega)
  simp only [e1, e2, e3]

/-- A row of the mixer's output in its attention columns. -/
theorem mixS_att (P : Fin 2064 → Fin 1280 → EReal) (bias : Fin 2 → Fin 8 → Fin 128 → Fin 256 → EReal) (sk : Fin 8 → EReal)
    (W : Fin 4 → Fin 128 → Fin 128 → EReal) (sc : Fin 512 → EReal) (R : Fin 2048) (c : Fin 1024) (e : Fin 512) (hc : c.val = 512 + e.val) :
    attS P bias sk R e = mixS P bias sk W sc R c := by
  unfold mixS
  rw [dif_neg (by omega)]
  congr 1
  exact Fin.ext (by show e.val = c.val - 512; omega)

/-- A row of the mixer's output in its pooled columns. -/
theorem mixS_pool (P : Fin 2064 → Fin 1280 → EReal) (bias : Fin 2 → Fin 8 → Fin 128 → Fin 256 → EReal) (sk : Fin 8 → EReal)
    (W : Fin 4 → Fin 128 → Fin 128 → EReal) (sc : Fin 512 → EReal) (R : Fin 2048) (c : Fin 1024) (e : Fin 512) (hc : c.val = e.val) :
    poolS P W sc R e = mixS P bias sk W sc R c := by
  unfold mixS
  rw [dif_pos (by omega)]
  congr 1
  exact Fin.ext hc.symm

end Cert.Layer
-- ==== Proof.FrontBlk.lean ====
module

public import proofs.«01_k».proof.Proof.FrontSpec
public import proofs.«01_k».proof.Proof.Gen.FrontIdeal.Frame
public import Idealize.ShloMosaic.Lib.Pipeline.ValueKit
public import Idealize.ShloMosaic.Lib.Pointwise

@[expose] public section

set_option maxRecDepth 16384

noncomputable section

namespace Cert.FrontIdeal.Out

open Idealize.ShloMosaic Idealize.ShloMosaic.TcCoe Idealize.SL.Sem
open Idealize.ShloMosaic.Pipeline (Dat)
open Cert.FrontIdeal Cert.FrontIdeal.Gen Cert.FrontIdeal.Pay Cert.Layer

variable (m : (ℓ : Loc nD τ sig) → Buf (Elt Ideal) ℓ)

/-- Where each window's block lies at a grid point. -/
theorem idx : ∀ t : Fin cfg0.N, win0_0.index t = ![0, 0] ∧ win0_1.index t = ![t.val / 4, t.val % 4, 0] ∧ win0_2.index t = ![0, 0] ∧ win0_3.index t = ![0, 0] ∧ win0_4.index t = ![0, 0] ∧ win0_5.index t = ![0, 0, 0] ∧ win0_6.index t = ![0, 0] ∧ win0_7.index t = ![0, 0, 0, 0] ∧ win0_8.index t = ![0, 0] ∧ win0_9.index t = ![t.val / 4, t.val % 4, 0] ∧ win0_10.index t = ![t.val / 4, 0, 0] ∧ win0_11.index t = ![t.val / 4, 0, 0] ∧ win0_12.index t = ![t.val / 4, 0, 0] :=
  (by decide +kernel : ∀ t : Fin grid0.N, _)

/-- There are 32 grid points. -/
theorem t_lt (t : Fin cfg0.N) : t.val < 32 := lt_of_lt_of_eq t.isLt (show cfg0.N = 32 from N_0)

/-- Window 0's block at an index, as the argument array read. -/
theorem blk0 (c : Dev nD) (t : Fin cfg0.N) (h : Fin 8) :
    (show FVec Ideal S1x8 .f32 from iblk m c 0 t) (ix2 0 h)
      = (show FVec Ideal S1x8 .f32 from m ((c : Thread nD τ).loc main_arg8)) (ix2 0 h) := by
  blk_simp [iblk, idx t]
  entry_read
  pointwise
  blk_ext [idx t]

/-- Window 1's block at an index, as the argument array read. -/
theorem blk1 (c : Dev nD) (t : Fin cfg0.N) (r : Fin 512) (k : Fin 1024) :
    (show FVec Ideal S1x512x1024 .f32 from iblk m c 1 t) (ix3 0 r k)
      = (show FVec Ideal S8x2048x1024 .f32 from m ((c : Thread nD τ).loc main_arg0)) (ix3 ⟨t.val / 4, by have := t_lt t; omega⟩ ⟨512 * (t.val % 4) + r.val, by omega⟩ k) := by
  blk_simp [iblk, idx t]
  entry_read
  pointwise
  blk_ext [idx t]

/-- Window 2's block at an index, as the argument array read. -/
theorem blk2 (c : Dev nD) (t : Fin cfg0.N) (k : Fin 1024) :
    (show FVec Ideal S1x1024 .f32 from iblk m c 2 t) (ix2 0 k)
      = (show FVec Ideal S1024 .f32 from m ((c : Thread nD τ).loc main_arg3)) (ix1 k) := by
  blk_simp [iblk, idx t]
  entry_read
  pointwise
  blk_ext [idx t]

/-- Window 3's block at an index, as the argument array read. -/
theorem blk3 (c : Dev nD) (t : Fin cfg0.N) (k : Fin 1024) :
    (show FVec Ideal S1x1024 .f32 from iblk m c 3 t) (ix2 0 k)
      = (show FVec Ideal S1024 .f32 from m ((c : Thread nD τ).loc main_arg4)) (ix1 k) := by
  blk_simp [iblk, idx t]
  entry_read
  pointwise
  blk_ext [idx t]

/-- Window 4's block at an index, as the argument array read. -/
theorem blk4 (c : Dev nD) (t : Fin cfg0.N) (k : Fin 1024) (e : Fin 1280) :
    (show FVec Ideal S1024x1280 .bf16 from iblk m c 4 t) (ix2 k e)
      = (show FVec Ideal S1x1024x1280 .f32 from m ((c : Thread nD τ).loc main_arg5)) (ix3 0 k e) := by
  blk_simp [iblk, idx t]
  entry_read
  pointwise
  blk_ext [idx t]

/-- Window 5's block at an index, as the argument array read. -/
theorem blk5 (c : Dev nD) (t : Fin cfg0.N) (g : Fin 4) (a e : Fin 128) :
    (show FVec Ideal S4x128x128 .bf16 from iblk m c 5 t) (ix3 g a e)
      = (show FVec Ideal S1x4x128x128 .f32 from m ((c : Thread nD τ).loc main_arg6)) (ix4 0 g a e) := by
  blk_simp [iblk, idx t]
  entry_read
  pointwise
  blk_ext [idx t]

/-- Window 6's block at an index, as the argument array read. -/
theorem blk6 (c : Dev nD) (t : Fin cfg0.N) (e : Fin 512) :
    (show FVec Ideal S1x512 .f32 from iblk m c 6 t) (ix2 0 e)
      = (show FVec Ideal S1x512 .f32 from m ((c : Thread nD τ).loc main_arg7)) (ix2 0 e) := by
  blk_simp [iblk, idx t]
  entry_read
  pointwise
  blk_ext [idx t]

/-- Window 7's block at an index, as the argument array read. -/
theorem blk7 (c : Dev nD) (t : Fin cfg0.N) (z : Fin 2) (h : Fin 8) (r : Fin 128) (s : Fin 256) :
    (show FVec Ideal S2x8x128x256 .f32 from iblk m c 7 t) (ix4 z h r s)
      = (show FVec Ideal S2x8x128x256 .f32 from m ((c : Thread nD τ).loc main_arg2)) (ix4 z h r s) := by
  blk_simp [iblk, idx t]
  entry_read
  pointwise
  blk_ext [idx t]

/-- Window 8's block at an index, as the argument array read. -/
theorem blk8 (c : Dev nD) (t : Fin cfg0.N) (y : Fin 16) (e : Fin 1280) :
    (show FVec Ideal S16x1280 .f32 from iblk m c 8 t) (ix2 y e)
      = (show FVec Ideal S16x1280 .f32 from m ((c : Thread nD τ).loc main_arg1)) (ix2 y e) := by
  blk_simp [iblk, idx t]
  entry_read
  pointwise
  blk_ext [idx t]

/-- The projections of sequence `b`, over the argument arrays. -/
def PP (c : Dev nD) (b : Fin 8) : Fin 2064 → Fin 1280 → EReal :=
  projr (fun y e => (show FVec Ideal S16x1280 .f32 from m ((c : Thread nD τ).loc main_arg1)) (ix2 y e))
    (fun n k => (show FVec Ideal S8x2048x1024 .f32 from m ((c : Thread nD τ).loc main_arg0)) (ix3 b n k))
    (fun k => (show FVec Ideal S1024 .f32 from m ((c : Thread nD τ).loc main_arg3)) (ix1 k))
    (fun k => (show FVec Ideal S1024 .f32 from m ((c : Thread nD τ).loc main_arg4)) (ix1 k))
    (fun k e => (show FVec Ideal S1x1024x1280 .f32 from m ((c : Thread nD τ).loc main_arg5)) (ix3 0 k e))

/-- The sequence of a grid point. -/
abbrev seq (t : Fin cfg0.N) : Fin 8 := ⟨t.val / 4, by have := t_lt t; omega⟩

/-- The tile's projection at a grid point. -/
abbrev prj (c : Dev nD) (t : Fin cfg0.N) : FVec Ideal S512x1280 .f32 := k0_pay24 (iblk m c 1 t) (iblk m c 2 t) (iblk m c 3 t) (iblk m c 4 t)

/-- Row `r` of the tile's projection is the sequence's row. -/
theorem prj_at (c : Dev nD) (t : Fin cfg0.N) (r : Fin 512) (e : Fin 1280) :
    prj m c t (ix2 r e) = PP m c (seq t) ⟨16 + (512 * (t.val % 4) + r.val), by omega⟩ e := by
  refine (pr_at _ _ _ _ r e).trans ?_
  unfold PP projr prow
  rw [dif_neg (by show ¬ 16 + (512 * (t.val % 4) + r.val) < 16; omega)]
  have hx : (⟨16 + (512 * (t.val % 4) + r.val) - 16, by omega⟩ : Fin 2048) = ⟨512 * (t.val % 4) + r.val, by omega⟩ := Fin.ext (by show 16 + (512 * (t.val % 4) + r.val) - 16 = 512 * (t.val % 4) + r.val; omega)
  refine Finset.sum_congr rfl fun k _ => congrArg₂ (· * ·) ?_ (blk4 m c t k e)
  have e1 : (fun j => (show FVec Ideal S1x512x1024 .f32 from iblk m c 1 t) (ix3 0 r j)) = _ := funext fun j => blk1 m c t r j
  have e2 : (fun j => (show FVec Ideal S1x1024 .f32 from iblk m c 2 t) (ix2 0 j)) = _ := funext fun j => blk2 m c t j
  have e3 : (fun j => (show FVec Ideal S1x1024 .f32 from iblk m c 3 t) (ix2 0 j)) = _ := funext fun j => blk3 m c t j
  refine (congrFun (congr (congr (congrArg ln e1) e2) e3) k).trans ?_
  exact congrArg (fun z : Fin 2048 => ln (fun j => (show FVec Ideal S8x2048x1024 .f32 from m ((c : Thread nD τ).loc main_arg0)) (ix3 (seq t) z j)) _ _ k) hx.symm

/-- A meta row is the sequence's row. -/
theorem meta_at (c : Dev nD) (t : Fin cfg0.N) (b : Fin 8) (y : Fin 16) (e : Fin 1280) :
    (show FVec Ideal S16x1280 .f32 from iblk m c 8 t) (ix2 y e) = PP m c b ⟨y.val, by omega⟩ e := by
  refine (blk8 m c t y e).trans ?_
  unfold PP projr
  rw [dif_pos (show y.val < 16 from y.isLt)]

end Cert.FrontIdeal.Out
-- ==== Proof.FrontState.lean ====
module

public import proofs.«01_k».proof.Proof.FrontScratch
public import proofs.«01_k».proof.Proof.FrontBlk
public import Idealize.ShloMosaic.Lib.Pipeline.ValueKit

@[expose] public section

set_option maxRecDepth 16384

noncomputable section

namespace Cert.FrontIdeal.Out

open Idealize.ShloMosaic Idealize.ShloMosaic.TcCoe Idealize.SL.Sem
open Cert.FrontIdeal Cert.FrontIdeal.Gen Cert.FrontIdeal.Pay Cert.FrontIdeal.Scr Cert.Layer

variable (m : (ℓ : Loc nD τ sig) → Buf (Elt Ideal) ℓ)

/-- Row `x` of the key scratch at a grid point: 128 rows from before the tile, then the tile's. -/
def krow (c : Dev nD) (t : Fin cfg0.N) (x : Fin 640) (a : Fin 128) : EReal :=
  padr (PP m c (seq t)) ⟨512 * (t.val % 4) + x.val, by omega⟩ ⟨1024 + a.val, by omega⟩

/-- Row `x` of the value scratch at a grid point. -/
def vrow (c : Dev nD) (t : Fin cfg0.N) (x : Fin 640) (a : Fin 128) : EReal :=
  padr (PP m c (seq t)) ⟨512 * (t.val % 4) + x.val, by omega⟩ ⟨1152 + a.val, by omega⟩

/-- Row `x` of the pooled mixer's scratch at a grid point: 16 rows from before the tile, then the tile's. -/
def urow (c : Dev nD) (t : Fin cfg0.N) (x : Fin 528) (e : Fin 512) : EReal :=
  PP m c (seq t) ⟨512 * (t.val % 4) + x.val, by omega⟩ ⟨e.val, by omega⟩

/-- A row behind the padding is the sequence's row. -/
theorem padr_ge (P : Fin 2064 → Fin 1280 → EReal) (n : Fin 2176) (k : Fin 2064) (e : Fin 1280) (h : n.val = 112 + k.val) : padr P n e = P k e := by
  unfold padr
  rw [dif_neg (by omega)]
  congr 1
  exact Fin.ext (by show n.val - 112 = k.val; omega)

/-- The tile's keys are rows 128 and on. -/
theorem kT (c : Dev nD) (t : Fin cfg0.N) (y : Fin 512) :
    (fun a => (k0_pay28 (prj m c t) : FVec Ideal S512x128 .f32) (ix2 y a)) = krow m c t ⟨128 + y.val, by omega⟩ :=
  funext fun a => (k_at _ y a).trans ((prj_at m c t y _).trans (padr_ge _ _ _ _ (by show 512 * (t.val % 4) + (128 + y.val) = 112 + (16 + (512 * (t.val % 4) + y.val)); omega)).symm)

/-- The tile's values are rows 128 and on. -/
theorem vT (c : Dev nD) (t : Fin cfg0.N) (y : Fin 512) :
    (fun a => (k0_pay29 (prj m c t) : FVec Ideal S512x128 .f32) (ix2 y a)) = vrow m c t ⟨128 + y.val, by omega⟩ :=
  funext fun a => (v_at _ y a).trans ((prj_at m c t y _).trans (padr_ge _ _ _ _ (by show 512 * (t.val % 4) + (128 + y.val) = 112 + (16 + (512 * (t.val % 4) + y.val)); omega)).symm)

/-- The tile's pooled columns are rows 16 and on. -/
theorem uT (c : Dev nD) (t : Fin cfg0.N) (y e : Fin 512) :
    (k0_pay25 (iblk m c 1 t) (iblk m c 2 t) (iblk m c 3 t) (iblk m c 4 t) : FVec Ideal S512x512 .f32) (ix2 y e) = urow m c t ⟨16 + y.val, by omega⟩ e := by
  refine (u_at _ _ _ _ y e).trans ((prj_at m c t y _).trans ?_)
  unfold urow
  congr 1
  exact Fin.ext (by show 16 + (512 * (t.val % 4) + y.val) = 512 * (t.val % 4) + (16 + y.val); omega)

/-- At a sequence's first tile the rows before it are the padding and the meta rows. -/
theorem kM (c : Dev nD) (t : Fin cfg0.N) (ht : t.val % 4 = 0) {M : FVec Ideal S16x128 .f32}
    (hM : ∀ (y : Fin 16) (a : Fin 128), M (ix2 y a) = PP m c (seq t) ⟨y.val, by omega⟩ ⟨1024 + a.val, by omega⟩) (x : Fin 128) :
    mrow (fun y a => M (ix2 y a)) x = krow m c t ⟨x.val, by omega⟩ := by
  funext a
  unfold mrow krow padr
  by_cases hx : x.val < 112
  · rw [dif_pos hx, dif_pos (by show 512 * (t.val % 4) + x.val < 112; omega)]
  · rw [dif_neg hx, dif_neg (by show ¬ 512 * (t.val % 4) + x.val < 112; omega)]
    refine (hM _ a).trans ?_
    congr 1
    exact Fin.ext (by show x.val - 112 = 512 * (t.val % 4) + x.val - 112; omega)

/-- The same of the values. -/
theorem vM (c : Dev nD) (t : Fin cfg0.N) (ht : t.val % 4 = 0) {M : FVec Ideal S16x128 .f32}
    (hM : ∀ (y : Fin 16) (a : Fin 128), M (ix2 y a) = PP m c (seq t) ⟨y.val, by omega⟩ ⟨1152 + a.val, by omega⟩) (x : Fin 128) :
    mrow (fun y a => M (ix2 y a)) x = vrow m c t ⟨x.val, by omega⟩ := by
  funext a
  unfold mrow vrow padr
  by_cases hx : x.val < 112
  · rw [dif_pos hx, dif_pos (by show 512 * (t.val % 4) + x.val < 112; omega)]
  · rw [dif_neg hx, dif_neg (by show ¬ 512 * (t.val % 4) + x.val < 112; omega)]
    refine (hM _ a).trans ?_
    congr 1
    exact Fin.ext (by show x.val - 112 = 512 * (t.val % 4) + x.val - 112; omega)

/-- A load of the meta rows' columns. -/
theorem ldM (c : Dev nD) (t : Fin cfg0.N) (b : Fin 8) {o n : ℕ} (h : ∀ a, (![0, o] : Fin 2 → ℕ) a + (![16, n] : Fin 2 → ℕ) a ≤ S16x1280.size a)
    (y : Fin 16) (a : Fin n) (ho : o + a.val < 1280) :
    View.ld (Val := Elt Ideal) (S := S16x1280) (e' := .f32) (iblk m c 8 t) (Rect.unit (s := S16x1280) ![0, o] ![16, n] h) (ix2 y a) = PP m c b ⟨y.val, by omega⟩ ⟨o + a.val, ho⟩ := by
  refine (congrArg (show FVec Ideal S16x1280 .f32 from iblk m c 8 t) (?_ : _ = ix2 y (⟨o + a.val, ho⟩ : Fin 1280))).trans (meta_at m c t b y _)
  funext d
  match d with
  | ⟨0, _⟩ => exact Fin.ext (by show 0 + 1 * y.val = y.val; omega)
  | ⟨1, _⟩ => exact Fin.ext (by show o + 1 * a.val = o + a.val; omega)

/-- What the point leaves in the first 128 rows of the key scratch: the tile's last 128 rows. -/
theorem kvar_A (c : Dev nD) (t : Fin cfg0.N) (h : t.val % 4 = 0) (i : Fin 4) (x l : Fin 128) :
    (outsAt0 m c t.val t.isLt).2.2.2.2.1 (ix3 i (⟨x.val, by omega⟩ : Fin 640) l)
      = varf (fun a => (k0_pay28 (prj m c t) : FVec Ideal S512x128 .f32) (ix2 (⟨384 + x.val, by omega⟩ : Fin 512) a)) i l := by
  rw [outsAt0_A m c t h]
  frame_out
  refine (View.read_writes_junk_apply_eq_canon (Val := Elt Ideal) (View.whole cc0_scratch0) _ _).symm.trans ?_
  exact low (T := fun x a => (k0_pay28 (prj m c t) : FVec Ideal S512x128 .f32) (ix2 (⟨384 + x.val, by omega⟩ : Fin 512) a)) (fun y l => (csc _ y l).trans (tail (HasTile.cons_low (HasTile.cons_low (HasTile.cons_low (tile (kt3 _) (kt2 _) (kt1 _) (kt0 _))))) (by decide) y l))
    (fun y l => (csc _ y l).trans (tail (HasTile.cons_low (HasTile.cons_low (tile (kt3 _) (kt2 _) (kt1 _) (kt0 _)))) (by decide) y l))
    (fun y l => (c180 _ y l).trans (tail (HasTile.cons_low (tile (kt3 _) (kt2 _) (kt1 _) (kt0 _))) (by decide) y l))
    (fun y l => (c178 _ y l).trans (tail (tile (kt3 _) (kt2 _) (kt1 _) (kt0 _)) (by decide) y l)) i x l

/-- What the point leaves in the first 128 rows of the key scratch: the tile's last 128 rows. -/
theorem kvar_B (c : Dev nD) (t : Fin cfg0.N) (h : ¬t.val % 4 = 0) (i : Fin 4) (x l : Fin 128) :
    (outsAt0 m c t.val t.isLt).2.2.2.2.1 (ix3 i (⟨x.val, by omega⟩ : Fin 640) l)
      = varf (fun a => (k0_pay28 (prj m c t) : FVec Ideal S512x128 .f32) (ix2 (⟨384 + x.val, by omega⟩ : Fin 512) a)) i l := by
  rw [outsAt0_B m c t h]
  frame_out
  refine (View.read_writes_junk_apply_eq_canon (Val := Elt Ideal) (View.whole cc0_scratch0) _ _).symm.trans ?_
  exact low (T := fun x a => (k0_pay28 (prj m c t) : FVec Ideal S512x128 .f32) (ix2 (⟨384 + x.val, by omega⟩ : Fin 512) a)) (fun y l => (csc _ y l).trans (tail (HasTile.cons_low (HasTile.cons_low (HasTile.cons_low (tile (kt3 _) (kt2 _) (kt1 _) (kt0 _))))) (by decide) y l))
    (fun y l => (csc _ y l).trans (tail (HasTile.cons_low (HasTile.cons_low (tile (kt3 _) (kt2 _) (kt1 _) (kt0 _)))) (by decide) y l))
    (fun y l => (c180 _ y l).trans (tail (HasTile.cons_low (tile (kt3 _) (kt2 _) (kt1 _) (kt0 _))) (by decide) y l))
    (fun y l => (c178 _ y l).trans (tail (tile (kt3 _) (kt2 _) (kt1 _) (kt0 _)) (by decide) y l)) i x l

/-- What the point leaves in the first 128 rows of the value scratch: the tile's last 128 rows. -/
theorem vvar_A (c : Dev nD) (t : Fin cfg0.N) (h : t.val % 4 = 0) (i : Fin 4) (x l : Fin 128) :
    (outsAt0 m c t.val t.isLt).2.2.2.2.2.1 (ix3 i (⟨x.val, by omega⟩ : Fin 640) l)
      = varf (fun a => (k0_pay29 (prj m c t) : FVec Ideal S512x128 .f32) (ix2 (⟨384 + x.val, by omega⟩ : Fin 512) a)) i l := by
  rw [outsAt0_A m c t h]
  frame_out
  refine (View.read_writes_junk_apply_eq_canon (Val := Elt Ideal) (View.whole cc0_scratch1) _ _).symm.trans ?_
  exact low (T := fun x a => (k0_pay29 (prj m c t) : FVec Ideal S512x128 .f32) (ix2 (⟨384 + x.val, by omega⟩ : Fin 512) a)) (fun y l => (csc _ y l).trans (tail (HasTile.cons_low (HasTile.cons_low (HasTile.cons_low (tile (vt3 _) (vt2 _) (vt1 _) (vt0 _))))) (by decide) y l))
    (fun y l => (csc _ y l).trans (tail (HasTile.cons_low (HasTile.cons_low (tile (vt3 _) (vt2 _) (vt1 _) (vt0 _)))) (by decide) y l))
    (fun y l => (csc _ y l).trans (tail (HasTile.cons_low (tile (vt3 _) (vt2 _) (vt1 _) (vt0 _))) (by decide) y l))
    (fun y l => (c179 _ y l).trans (tail (tile (vt3 _) (vt2 _) (vt1 _) (vt0 _)) (by decide) y l)) i x l

/-- What the point leaves in the first 128 rows of the value scratch: the tile's last 128 rows. -/
theorem vvar_B (c : Dev nD) (t : Fin cfg0.N) (h : ¬t.val % 4 = 0) (i : Fin 4) (x l : Fin 128) :
    (outsAt0 m c t.val t.isLt).2.2.2.2.2.1 (ix3 i (⟨x.val, by omega⟩ : Fin 640) l)
      = varf (fun a => (k0_pay29 (prj m c t) : FVec Ideal S512x128 .f32) (ix2 (⟨384 + x.val, by omega⟩ : Fin 512) a)) i l := by
  rw [outsAt0_B m c t h]
  frame_out
  refine (View.read_writes_junk_apply_eq_canon (Val := Elt Ideal) (View.whole cc0_scratch1) _ _).symm.trans ?_
  exact low (T := fun x a => (k0_pay29 (prj m c t) : FVec Ideal S512x128 .f32) (ix2 (⟨384 + x.val, by omega⟩ : Fin 512) a)) (fun y l => (csc _ y l).trans (tail (HasTile.cons_low (HasTile.cons_low (HasTile.cons_low (tile (vt3 _) (vt2 _) (vt1 _) (vt0 _))))) (by decide) y l))
    (fun y l => (csc _ y l).trans (tail (HasTile.cons_low (HasTile.cons_low (tile (vt3 _) (vt2 _) (vt1 _) (vt0 _)))) (by decide) y l))
    (fun y l => (csc _ y l).trans (tail (HasTile.cons_low (tile (vt3 _) (vt2 _) (vt1 _) (vt0 _))) (by decide) y l))
    (fun y l => (c179 _ y l).trans (tail (tile (vt3 _) (vt2 _) (vt1 _) (vt0 _)) (by decide) y l)) i x l

/-- What the point leaves in the first 16 rows of the pooled mixer's scratch: the tile's last 16 rows. -/
theorem uext_A (c : Dev nD) (t : Fin cfg0.N) (h : t.val % 4 = 0) (x : Fin 16) (e : Fin 512) :
    (outsAt0 m c t.val t.isLt).2.2.2.2.2.2 (ix2 (⟨x.val, by omega⟩ : Fin 528) e) = urow m c t ⟨512 + x.val, by omega⟩ e := by
  rw [outsAt0_A m c t h]
  frame_out
  refine (View.read_writes_junk_apply_eq_canon (Val := Elt Ideal) (View.whole cc0_scratch2) _ _).symm.trans ?_
  refine (u_low (R := fun x e => urow m c t ⟨512 + x.val % 16, by omega⟩ e) (fun y e => (uc_at _ y e).trans
    ((u_cov (R := urow m c t) (lo := 16) (u_tile (fun y e => (us_at _ y e).trans (uT m c t y e)) fun x e h1 h2 => absurd h2 (by omega))
      (by decide) (by decide) (by decide) y e).trans ?_)) ⟨x.val, by omega⟩ e x.isLt).trans ?_
  · congr 1
    · exact Fin.ext (by show 512 + y.val = 512 + y.val % 16; omega)
    · exact Fin.ext (by show 0 + e.val = e.val; omega)
  · congr 1
    exact Fin.ext (by show 512 + x.val % 16 = 512 + x.val; omega)

/-- What the point leaves in the first 16 rows of the pooled mixer's scratch: the tile's last 16 rows. -/
theorem uext_B (c : Dev nD) (t : Fin cfg0.N) (h : ¬t.val % 4 = 0) (x : Fin 16) (e : Fin 512) :
    (outsAt0 m c t.val t.isLt).2.2.2.2.2.2 (ix2 (⟨x.val, by omega⟩ : Fin 528) e) = urow m c t ⟨512 + x.val, by omega⟩ e := by
  rw [outsAt0_B m c t h]
  frame_out
  refine (View.read_writes_junk_apply_eq_canon (Val := Elt Ideal) (View.whole cc0_scratch2) _ _).symm.trans ?_
  refine (u_low (R := fun x e => urow m c t ⟨512 + x.val % 16, by omega⟩ e) (fun y e => (uc_at _ y e).trans
    ((u_cov (R := urow m c t) (lo := 16) (u_tile (fun y e => (us_at _ y e).trans (uT m c t y e)) fun x e h1 h2 => absurd h2 (by omega))
      (by decide) (by decide) (by decide) y e).trans ?_)) ⟨x.val, by omega⟩ e x.isLt).trans ?_
  · congr 1
    · exact Fin.ext (by show 512 + y.val = 512 + y.val % 16; omega)
    · exact Fin.ext (by show 0 + e.val = e.val; omega)
  · congr 1
    exact Fin.ext (by show 512 + x.val % 16 = 512 + x.val; omega)

/-- What the point before left in the first 128 rows is the rows before the tile. -/
theorem kvar_prev (c : Dev nD) (t : Fin cfg0.N) (h : ¬t.val % 4 = 0) (p : t.val - 1 < cfg0.N) (i : Fin 4) (x l : Fin 128) :
    (outsAt0 m c (t.val - 1) p).2.2.2.2.1 (ix3 i (⟨x.val, by omega⟩ : Fin 640) l) = varf (krow m c t ⟨x.val, by omega⟩) i l := by
  have e : (outsAt0 m c (t.val - 1) p).2.2.2.2.1 (ix3 i (⟨x.val, by omega⟩ : Fin 640) l)
      = varf (fun a => (k0_pay28 (prj m c ⟨t.val - 1, p⟩) : FVec Ideal S512x128 .f32) (ix2 (⟨384 + x.val, by omega⟩ : Fin 512) a)) i l := by
    by_cases h' : (t.val - 1) % 4 = 0
    · exact kvar_A m c ⟨t.val - 1, p⟩ h' i x l
    · exact kvar_B m c ⟨t.val - 1, p⟩ h' i x l
  refine e.trans (congrArg (fun q => varf q i l) ((kT m c ⟨t.val - 1, p⟩ ⟨384 + x.val, by omega⟩).trans (funext fun a => ?_)))
  unfold krow
  have e1 : seq ⟨t.val - 1, p⟩ = seq t := Fin.ext (by show (t.val - 1) / 4 = t.val / 4; omega)
  rw [e1]
  congr 1
  exact Fin.ext (by show 512 * ((t.val - 1) % 4) + (128 + (384 + x.val)) = 512 * (t.val % 4) + x.val; omega)

/-- What the point before left in the first 128 rows is the rows before the tile. -/
theorem vvar_prev (c : Dev nD) (t : Fin cfg0.N) (h : ¬t.val % 4 = 0) (p : t.val - 1 < cfg0.N) (i : Fin 4) (x l : Fin 128) :
    (outsAt0 m c (t.val - 1) p).2.2.2.2.2.1 (ix3 i (⟨x.val, by omega⟩ : Fin 640) l) = varf (vrow m c t ⟨x.val, by omega⟩) i l := by
  have e : (outsAt0 m c (t.val - 1) p).2.2.2.2.2.1 (ix3 i (⟨x.val, by omega⟩ : Fin 640) l)
      = varf (fun a => (k0_pay29 (prj m c ⟨t.val - 1, p⟩) : FVec Ideal S512x128 .f32) (ix2 (⟨384 + x.val, by omega⟩ : Fin 512) a)) i l := by
    by_cases h' : (t.val - 1) % 4 = 0
    · exact vvar_A m c ⟨t.val - 1, p⟩ h' i x l
    · exact vvar_B m c ⟨t.val - 1, p⟩ h' i x l
  refine e.trans (congrArg (fun q => varf q i l) ((vT m c ⟨t.val - 1, p⟩ ⟨384 + x.val, by omega⟩).trans (funext fun a => ?_)))
  unfold vrow
  have e1 : seq ⟨t.val - 1, p⟩ = seq t := Fin.ext (by show (t.val - 1) / 4 = t.val / 4; omega)
  rw [e1]
  congr 1
  exact Fin.ext (by show 512 * ((t.val - 1) % 4) + (128 + (384 + x.val)) = 512 * (t.val % 4) + x.val; omega)

/-- What the point before left in the first 16 rows is the rows before the tile. -/
theorem uext_prev (c : Dev nD) (t : Fin cfg0.N) (h : ¬t.val % 4 = 0) (p : t.val - 1 < cfg0.N) (x : Fin 16) (e : Fin 512) :
    (outsAt0 m c (t.val - 1) p).2.2.2.2.2.2 (ix2 (⟨x.val, by omega⟩ : Fin 528) e) = urow m c t ⟨x.val, by omega⟩ e := by
  have e0 : (outsAt0 m c (t.val - 1) p).2.2.2.2.2.2 (ix2 (⟨x.val, by omega⟩ : Fin 528) e) = urow m c ⟨t.val - 1, p⟩ ⟨512 + x.val, by omega⟩ e := by
    by_cases h' : (t.val - 1) % 4 = 0
    · exact uext_A m c ⟨t.val - 1, p⟩ h' x e
    · exact uext_B m c ⟨t.val - 1, p⟩ h' x e
  refine e0.trans ?_
  unfold urow
  have e1 : seq ⟨t.val - 1, p⟩ = seq t := Fin.ext (by show (t.val - 1) / 4 = t.val / 4; omega)
  rw [e1]
  congr 1
  exact Fin.ext (by show 512 * ((t.val - 1) % 4) + (512 + x.val) = 512 * (t.val % 4) + x.val; omega)

end Cert.FrontIdeal.Out
-- ==== Proof.FrontLoads.lean ====
module

public import proofs.«01_k».proof.Proof.FrontState

@[expose] public section

set_option maxRecDepth 16384

noncomputable section

namespace Cert.FrontIdeal.Out

open Idealize.ShloMosaic Idealize.ShloMosaic.TcCoe Idealize.SL.Sem
open Idealize.ShloMosaic.Pipeline (Dat)
open Cert.FrontIdeal Cert.FrontIdeal.Gen Cert.FrontIdeal.Pay Cert.FrontIdeal.Scr Cert.Layer

variable (m : (ℓ : Loc nD τ sig) → Buf (Elt Ideal) ℓ)

/-- The biases, over the argument array. -/
def BB (c : Dev nD) (z : Fin 2) (h : Fin 8) (r : Fin 128) (s : Fin 256) : EReal :=
  (show FVec Ideal S2x8x128x256 .f32 from m ((c : Thread nD τ).loc main_arg2)) (ix4 z h r s)
/-- The sinks, over the argument array. -/
def SK (c : Dev nD) (h : Fin 8) : EReal := (show FVec Ideal S1x8 .f32 from m ((c : Thread nD τ).loc main_arg8)) (ix2 0 h)
/-- The pooled mixer's weights, over the argument array. -/
def WP (c : Dev nD) (g : Fin 4) (a e : Fin 128) : EReal := (show FVec Ideal S1x4x128x128 .f32 from m ((c : Thread nD τ).loc main_arg6)) (ix4 0 g a e)
/-- The pooled mixer's scale, over the argument array. -/
def SCL (c : Dev nD) (e : Fin 512) : EReal := (show FVec Ideal S1x512 .f32 from m ((c : Thread nD τ).loc main_arg7)) (ix2 0 e)

/-- The mixer's output at row `r` of the tile, column `e`. -/
def mixP (c : Dev nD) (t : Fin cfg0.N) (r : Fin 512) (e : Fin 1024) : EReal :=
  mixS (PP m c (seq t)) (BB m c) (SK m c) (WP m c) (SCL m c) ⟨512 * (t.val % 4) + r.val, by omega⟩ e

/-- The scaled query of row `r` of block `j`. -/
def qrow (c : Dev nD) (t : Fin cfg0.N) (j : ℕ) (hj : j < 4) (r : Fin 128) (e : Fin 512) : EReal :=
  PP m c (seq t) ⟨16 + (512 * (t.val % 4) + (128 * j + r.val)), by omega⟩ ⟨512 + e.val, by omega⟩ * Ideal.ofBits .f32 0x3E000000#32
/-- The key window of block `j`. -/
def kwin (c : Dev nD) (t : Fin cfg0.N) (j : ℕ) (hj : j < 4) (s : Fin 256) (a : Fin 128) : EReal :=
  padr (PP m c (seq t)) ⟨512 * (t.val % 4) + (128 * j + s.val), by omega⟩ ⟨1024 + a.val, by omega⟩
/-- The value window of block `j`. -/
def vwin (c : Dev nD) (t : Fin cfg0.N) (j : ℕ) (hj : j < 4) (s : Fin 256) (a : Fin 128) : EReal :=
  padr (PP m c (seq t)) ⟨512 * (t.val % 4) + (128 * j + s.val), by omega⟩ ⟨1152 + a.val, by omega⟩
/-- The bias of row `r` of block `j`. -/
def bwin (c : Dev nD) (t : Fin cfg0.N) (j : ℕ) (r : Fin 128) (h : Fin 8) (s : Fin 256) : EReal :=
  BB m c (if t.val % 4 = 0 ∧ j = 0 then 0 else 1) h r s

/-- A block's attention is the mixer's output in its column. -/
theorem mixP_att (c : Dev nD) (t : Fin cfg0.N) (j : ℕ) (hj : j < 4) (r : Fin 128) (zr : Fin 512) (zc : Fin 1024) (e : Fin 512)
    (h1 : zr.val = 128 * j + r.val) (h2 : zc.val = 512 + e.val) :
    headOut (qrow m c t j hj r) (kwin m c t j hj) (vwin m c t j hj) (bwin m c t j r) (SK m c) e = mixP m c t zr zc :=
  (attS_eq (PP m c (seq t)) (BB m c) (SK m c) ⟨512 * (t.val % 4) + zr.val, by omega⟩ (t.val % 4) j r (by omega) hj
    (by show 512 * (t.val % 4) + zr.val = 512 * (t.val % 4) + (128 * j + r.val); omega) e).trans (mixS_att _ _ _ _ _ _ zc e h2)

/-- The scaled queries are the sequence's. -/
theorem qv (c : Dev nD) (t : Fin cfg0.N) (y e : Fin 512) :
    (k0_pay27 (k0_pay26 (iblk m c 1 t) (iblk m c 2 t) (iblk m c 3 t) (iblk m c 4 t)) (Scalar.ofBits .f32 0x3E000000#32) : FVec Ideal S512x512 .bf16) (ix2 y e)
      = (PP m c (seq t) ⟨16 + (512 * (t.val % 4) + y.val), by omega⟩ ⟨512 + e.val, by omega⟩ * Ideal.ofBits .f32 0x3E000000#32 : EReal) :=
  (q_at _ _ _ _ y e).trans (congrArg (fun q : EReal => (q * Ideal.ofBits .f32 0x3E000000#32 : EReal)) (prj_at m c t y _))

/-- The scaled query of a row of a block. -/
theorem qvj (c : Dev nD) (t : Fin cfg0.N) (j : ℕ) (hj : j < 4) (r : Fin 128) {y e e' : Fin 512} (hy : y.val = 128 * j + r.val) (he : e = e') :
    (k0_pay27 (k0_pay26 (iblk m c 1 t) (iblk m c 2 t) (iblk m c 3 t) (iblk m c 4 t)) (Scalar.ofBits .f32 0x3E000000#32) : FVec Ideal S512x512 .bf16) (ix2 y e)
      = qrow m c t j hj r e' := by
  subst he
  refine (qv m c t y e).trans ?_
  unfold qrow
  congr 2
  exact Fin.ext (by show 16 + (512 * (t.val % 4) + y.val) = 16 + (512 * (t.val % 4) + (128 * j + r.val)); omega)

/-- The same with the tile's operands read back from their buffers. -/
theorem qvg (c : Dev nD) (t : Fin cfg0.N) (j : ℕ) (hj : j < 4) (r : Fin 128) {X1 : FVec Ideal S1x512x1024 .f32} {X2 X3 : FVec Ideal S1x1024 .f32}
    {X4 : FVec Ideal S1024x1280 .bf16} (h1 : X1 = iblk m c 1 t) (h2 : X2 = iblk m c 2 t) (h3 : X3 = iblk m c 3 t) (h4 : X4 = iblk m c 4 t)
    {y e e' : Fin 512} (hy : y.val = 128 * j + r.val) (he : e = e') :
    (k0_pay27 (k0_pay26 X1 X2 X3 X4) (Scalar.ofBits .f32 0x3E000000#32) : FVec Ideal S512x512 .bf16) (ix2 y e) = qrow m c t j hj r e' := by
  subst h1 h2 h3 h4
  exact qvj m c t j hj r hy he

/-- A block read back whole from its buffer. -/
theorem ldw1 (c : Dev nD) (t : Fin cfg0.N) (h : ∀ a, (![0, 0, 0] : Fin 3 → ℕ) a + (![1, 512, 1024] : Fin 3 → ℕ) a ≤ S1x512x1024.size a) :
    View.ld (S := S1x512x1024) (View.read (Elt Ideal) (ms0_1 t).view ((hs0_1 t).unread (iblk m c 1 t))) (Rect.unit (s := S1x512x1024) ![0, 0, 0] ![1, 512, 1024] h) = iblk m c 1 t :=
  (View.ld_unit_zero (S := S1x512x1024) (by decide) h _).trans ((hs0_1 t).read_unread _)
/-- A block read back whole from its buffer. -/
theorem ldw2 (c : Dev nD) (t : Fin cfg0.N) (h : ∀ a, (![0, 0] : Fin 2 → ℕ) a + (![1, 1024] : Fin 2 → ℕ) a ≤ S1x1024.size a) :
    View.ld (S := S1x1024) (View.read (Elt Ideal) (ms0_2 t).view ((hs0_2 t).unread (iblk m c 2 t))) (Rect.unit (s := S1x1024) ![0, 0] ![1, 1024] h) = iblk m c 2 t :=
  (View.ld_unit_zero (S := S1x1024) (by decide) h _).trans ((hs0_2 t).read_unread _)
/-- A block read back whole from its buffer. -/
theorem ldw3 (c : Dev nD) (t : Fin cfg0.N) (h : ∀ a, (![0, 0] : Fin 2 → ℕ) a + (![1, 1024] : Fin 2 → ℕ) a ≤ S1x1024.size a) :
    View.ld (S := S1x1024) (View.read (Elt Ideal) (ms0_3 t).view ((hs0_3 t).unread (iblk m c 3 t))) (Rect.unit (s := S1x1024) ![0, 0] ![1, 1024] h) = iblk m c 3 t :=
  (View.ld_unit_zero (S := S1x1024) (by decide) h _).trans ((hs0_3 t).read_unread _)
/-- A block read back whole from its buffer. -/
theorem ldw4 (c : Dev nD) (t : Fin cfg0.N) (h : ∀ a, (![0, 0] : Fin 2 → ℕ) a + (![1024, 1280] : Fin 2 → ℕ) a ≤ S1024x1280.size a) :
    View.ld (S := S1024x1280) (View.read (Elt Ideal) (ms0_4 t).view ((hs0_4 t).unread (iblk m c 4 t))) (Rect.unit (s := S1024x1280) ![0, 0] ![1024, 1280] h) = iblk m c 4 t :=
  (View.ld_unit_zero (S := S1024x1280) (by decide) h _).trans ((hs0_4 t).read_unread _)

/-- A load of one head's bias. -/
theorem bvo (c : Dev nD) (t : Fin cfg0.N) (z h : ℕ) (hz : z < 2) (hh : h < 8) {off : Fin 4 → ℕ} (ho : off = ![z, h, 0, 0])
    (hin : ∀ a, off a + (![1, 1, 128, 256] : Fin 4 → ℕ) a ≤ S2x8x128x256.size a) (r : Fin 128) (s : Fin 256) :
    (View.ld (Val := Elt Ideal) (S := S2x8x128x256) (e' := .f32) (iblk m c 7 t) (Rect.unit (s := S2x8x128x256) off ![1, 1, 128, 256] hin) (ix4 (0 : Fin 1) (0 : Fin 1) r s) : EReal)
      = BB m c ⟨z, hz⟩ ⟨h, hh⟩ r s := by
  subst ho
  refine (congrArg (show FVec Ideal S2x8x128x256 .f32 from iblk m c 7 t) (?_ : _ = ix4 (⟨z, hz⟩ : Fin 2) (⟨h, hh⟩ : Fin 8) r s)).trans (blk7 m c t _ _ r s)
  funext d
  match d with
  | ⟨0, _⟩ => exact Fin.ext (by show z + 1 * 0 = z; omega)
  | ⟨1, _⟩ => exact Fin.ext (by show h + 1 * 0 = h; omega)
  | ⟨2, _⟩ => exact Fin.ext (by show 0 + 1 * r.val = r.val; omega)
  | ⟨3, _⟩ => exact Fin.ext (by show 0 + 1 * s.val = s.val; omega)

/-- A later block's bias is the second one. -/
theorem bv1 (c : Dev nD) (t : Fin cfg0.N) (h : ℕ) (hh : h < 8) (j : ℕ) (hj : j ≠ 0)
    {hin : ∀ a, (![1, h, 0, 0] : Fin 4 → ℕ) a + (![1, 1, 128, 256] : Fin 4 → ℕ) a ≤ S2x8x128x256.size a} (r : Fin 128) (s : Fin 256) :
    (View.ld (Val := Elt Ideal) (S := S2x8x128x256) (e' := .f32) (iblk m c 7 t) (Rect.unit (s := S2x8x128x256) ![1, h, 0, 0] ![1, 1, 128, 256] hin) (ix4 (0 : Fin 1) (0 : Fin 1) r s) : EReal)
      = bwin m c t j r ⟨h, hh⟩ s := by
  refine (bvo m c t 1 h (by decide) hh rfl hin r s).trans ?_
  unfold bwin
  rw [if_neg (fun q => hj q.2)]
  rfl

/-- The first block's bias is the first one at a sequence's first tile and the second one later. -/
theorem bv0 (c : Dev nD) (t : Fin cfg0.N) {h : ℕ} (hh : h < 8) {off : Fin 4 → ℕ} (ho : off = ![if t.val % 4 = 0 then 0 else 1, h, 0, 0])
    {hin : ∀ a, off a + (![1, 1, 128, 256] : Fin 4 → ℕ) a ≤ S2x8x128x256.size a} (r : Fin 128) (s : Fin 256) :
    (View.ld (Val := Elt Ideal) (S := S2x8x128x256) (e' := .f32) (iblk m c 7 t) (Rect.unit (s := S2x8x128x256) off ![1, 1, 128, 256] hin) (ix4 (0 : Fin 1) (0 : Fin 1) r s) : EReal)
      = bwin m c t 0 r ⟨h, hh⟩ s := by
  refine (bvo m c t (if t.val % 4 = 0 then 0 else 1) h (by split <;> decide) hh ho hin r s).trans ?_
  unfold bwin
  by_cases q : t.val % 4 = 0
  · congr 1
    exact Fin.ext (by simp [q])
  · congr 1
    exact Fin.ext (by simp [q])

/-- One head's sink. -/
theorem sv (c : Dev nD) (t : Fin cfg0.N) (h : ℕ) (hh : h < 8)
    {hin : ∀ a, (![0, h] : Fin 2 → ℕ) a + (![1, 1] : Fin 2 → ℕ) a ≤ S1x8.size a} {x : (Rect.unit (s := S1x8) ![0, h] ![1, 1] hin).shape.Idx} :
    (View.ld (Val := Elt Ideal) (S := S1x8) (e' := .f32) (iblk m c 0 t) (Rect.unit (s := S1x8) ![0, h] ![1, 1] hin) x : EReal) = SK m c ⟨h, hh⟩ := by
  refine (congrArg (show FVec Ideal S1x8 .f32 from iblk m c 0 t) (?_ : _ = ix2 (0 : Fin 1) (⟨h, hh⟩ : Fin 8))).trans (blk0 m c t _)
  funext d
  match d with
  | ⟨0, _⟩ => exact Subsingleton.elim (α := Fin 1) _ _
  | ⟨1, _⟩ =>
    have : (x 1).val < 1 := (x 1).isLt
    exact Fin.ext (by show h + 1 * (x 1).val = h; omega)

/-- One group's weight. -/
theorem wv (c : Dev nD) (t : Fin cfg0.N) (g : ℕ) (hg : g < 4)
    {hin : ∀ a, (![g, 0, 0] : Fin 3 → ℕ) a + (![1, 128, 128] : Fin 3 → ℕ) a ≤ S4x128x128.size a} (x e : Fin 128) :
    (View.ld (Val := Elt Ideal) (S := S4x128x128) (e' := .bf16) (iblk m c 5 t) (Rect.unit (s := S4x128x128) ![g, 0, 0] ![1, 128, 128] hin) (ix3 (0 : Fin 1) x e) : EReal)
      = WP m c ⟨g, hg⟩ x e := by
  refine (congrArg (show FVec Ideal S4x128x128 .bf16 from iblk m c 5 t) (?_ : _ = ix3 (⟨g, hg⟩ : Fin 4) x e)).trans (blk5 m c t _ x e)
  funext d
  match d with
  | ⟨0, _⟩ => exact Fin.ext (by show g + 1 * 0 = g; omega)
  | ⟨1, _⟩ => exact Fin.ext (by show 0 + 1 * x.val = x.val; omega)
  | ⟨2, _⟩ => exact Fin.ext (by show 0 + 1 * e.val = e.val; omega)

/-- The `i`-th row back from row `r` of the tile. -/
def back (c : Dev nD) (t : Fin cfg0.N) (r : Fin 512) (i : Fin 16) (e : Fin 512) : EReal :=
  PP m c (seq t) ⟨16 + (512 * (t.val % 4) + r.val) - i.val, by omega⟩ ⟨e.val, by omega⟩

/-- A row of the pooled mixer's scratch is a row back. -/
theorem uback (c : Dev nD) (t : Fin cfg0.N) (r : Fin 512) (i : Fin 16) (a : ℕ) (ha : a + i.val = 16) (e e' : Fin 512) (he : e.val = e'.val) :
    urow m c t ⟨a + r.val, by omega⟩ e = back m c t r i e' := by
  unfold urow back
  obtain rfl : e = e' := Fin.ext he
  congr 1
  exact Fin.ext (by show 512 * (t.val % 4) + (a + r.val) = 16 + (512 * (t.val % 4) + r.val) - i.val; omega)

/-- The tile's own row. -/
theorem uback0 (c : Dev nD) (t : Fin cfg0.N) (r e : Fin 512) :
    (k0_pay25 (iblk m c 1 t) (iblk m c 2 t) (iblk m c 3 t) (iblk m c 4 t) : FVec Ideal S512x512 .f32) (ix2 r e) = back m c t r 0 e :=
  (uT m c t r e).trans (uback m c t r 0 16 rfl e e rfl)

/-- The pooled columns are the mixer's output. -/
theorem mixP_pool (c : Dev nD) (t : Fin cfg0.N) (r : Fin 512) (e : Fin 512) (zr : Fin 512) (zc : Fin 1024) (h1 : zr.val = r.val) (h2 : zc.val = e.val) :
    poolz (back m c t r) (WP m c) (SCL m c) e = mixP m c t zr zc := by
  obtain rfl : zr = r := Fin.ext h1
  exact mixS_pool (PP m c (seq t)) (BB m c) (SK m c) (WP m c) (SCL m c) ⟨512 * (t.val % 4) + zr.val, by omega⟩ zc e h2

/-- An index of a piece of the attention's columns. -/
theorem ex_att (x : S1x128x128.Idx) : ∃ r l : Fin 128, x = ix3 (0 : Fin 1) r l :=
  ⟨x 1, x 2, (eq_ix3 x).trans (congrArg (fun a : Fin 1 => ix3 a (x 1) (x 2)) (Subsingleton.elim _ _))⟩

/-- An index of the piece of the pooled columns. -/
theorem ex_pool (x : S1x512x512.Idx) : ∃ r l : Fin 512, x = ix3 (0 : Fin 1) r l :=
  ⟨x 1, x 2, (eq_ix3 x).trans (congrArg (fun a : Fin 1 => ix3 a (x 1) (x 2)) (Subsingleton.elim _ _))⟩

/-- Where head 0's bias of the first block lies. -/
theorem off1 : ∀ t : Fin cfg0.N, k0_off1 (grid0.coords t) = ![if t.val % 4 = 0 then 0 else 1, 0, 0, 0] :=
  (by decide +kernel : ∀ t : Fin grid0.N, _)

/-- Where head 1's bias of the first block lies. -/
theorem off2 : ∀ t : Fin cfg0.N, k0_off2 (grid0.coords t) = ![if t.val % 4 = 0 then 0 else 1, 1, 0, 0] :=
  (by decide +kernel : ∀ t : Fin grid0.N, _)

/-- Where head 2's bias of the first block lies. -/
theorem off3 : ∀ t : Fin cfg0.N, k0_off3 (grid0.coords t) = ![if t.val % 4 = 0 then 0 else 1, 2, 0, 0] :=
  (by decide +kernel : ∀ t : Fin grid0.N, _)

/-- Where head 3's bias of the first block lies. -/
theorem off4 : ∀ t : Fin cfg0.N, k0_off4 (grid0.coords t) = ![if t.val % 4 = 0 then 0 else 1, 3, 0, 0] :=
  (by decide +kernel : ∀ t : Fin grid0.N, _)

/-- Where head 4's bias of the first block lies. -/
theorem off5 : ∀ t : Fin cfg0.N, k0_off5 (grid0.coords t) = ![if t.val % 4 = 0 then 0 else 1, 4, 0, 0] :=
  (by decide +kernel : ∀ t : Fin grid0.N, _)

/-- Where head 5's bias of the first block lies. -/
theorem off6 : ∀ t : Fin cfg0.N, k0_off6 (grid0.coords t) = ![if t.val % 4 = 0 then 0 else 1, 5, 0, 0] :=
  (by decide +kernel : ∀ t : Fin grid0.N, _)

/-- Where head 6's bias of the first block lies. -/
theorem off7 : ∀ t : Fin cfg0.N, k0_off7 (grid0.coords t) = ![if t.val % 4 = 0 then 0 else 1, 6, 0, 0] :=
  (by decide +kernel : ∀ t : Fin grid0.N, _)

/-- Where head 7's bias of the first block lies. -/
theorem off8 : ∀ t : Fin cfg0.N, k0_off8 (grid0.coords t) = ![if t.val % 4 = 0 then 0 else 1, 7, 0, 0] :=
  (by decide +kernel : ∀ t : Fin grid0.N, _)

/-- What a continuing point finds in the first 128 rows of the scratch. -/
theorem kbase (c : Dev nD) (t : Fin cfg0.N) (h : ¬t.val % 4 = 0) (p : t.val - 1 < cfg0.N) :
    HasLow (View.whole cc0_scratch0) ((Memref.isWhole_whole cc0_scratch0).unread (outsAt0 m c (t.val - 1) p).2.2.2.2.1) [] fun x => krow m c t ⟨x.val, by omega⟩ := fun i x l =>
  (congrFun ((Memref.isWhole_whole cc0_scratch0).read_unread (outsAt0 m c (t.val - 1) p).2.2.2.2.1) _).trans (kvar_prev m c t h p i x l)

/-- What a continuing point finds in the first 128 rows of the scratch. -/
theorem vbase (c : Dev nD) (t : Fin cfg0.N) (h : ¬t.val % 4 = 0) (p : t.val - 1 < cfg0.N) :
    HasLow (View.whole cc0_scratch1) ((Memref.isWhole_whole cc0_scratch1).unread (outsAt0 m c (t.val - 1) p).2.2.2.2.2.1) [] fun x => vrow m c t ⟨x.val, by omega⟩ := fun i x l =>
  (congrFun ((Memref.isWhole_whole cc0_scratch1).read_unread (outsAt0 m c (t.val - 1) p).2.2.2.2.2.1) _).trans (vvar_prev m c t h p i x l)

/-- What a continuing point finds in the first 16 rows of the pooled mixer's scratch. -/
theorem ubase (c : Dev nD) (t : Fin cfg0.N) (h : ¬t.val % 4 = 0) (p : t.val - 1 < cfg0.N) (x : Fin 528) (e : Fin 512) (hx : x.val < 16) :
    (View.whole cc0_scratch2).read (Elt Ideal) ((View.whole cc0_scratch2).writes (Elt Ideal) ((Memref.isWhole_whole cc0_scratch2).unread (outsAt0 m c (t.val - 1) p).2.2.2.2.2.2) []) (ix2 x e)
      = urow m c t x e :=
  (congrFun ((Memref.isWhole_whole cc0_scratch2).read_unread (outsAt0 m c (t.val - 1) p).2.2.2.2.2.2) _).trans (uext_prev m c t h p ⟨x.val, hx⟩ e)

/-- A cast to the same shape is the same. -/
theorem sc16 (X : FVec Ideal S16x512 .f32) (h : S16x512.numel = S16x512.numel) (y : Fin 16) (e : Fin 512) :
    (shapeCast S16x512 X h : FVec Ideal S16x512 .f32) (ix2 y e) = X (ix2 y e) := by
  pointwise

/-- A meta row of the pooled columns is a sequence's first tile's row from before. -/
theorem umeta (c : Dev nD) (t : Fin cfg0.N) (h : t.val % 4 = 0) (y : Fin 16) (e : Fin 512) :
    PP m c (seq t) ⟨y.val, by omega⟩ ⟨0 + e.val, by omega⟩ = urow m c t ⟨y.val, by omega⟩ e := by
  unfold urow
  congr 1
  · exact Fin.ext (by show y.val = 512 * (t.val % 4) + y.val; omega)
  · exact Fin.ext (by show 0 + e.val = e.val; omega)

/-- A position of the mixer's block lies in the attention piece stored last or the earlier pieces decide it. -/
theorem cons_att {R C : ℕ} {h : ∀ a, (![0, R, C] : Fin 3 → ℕ) a + (![1, 128, 128] : Fin 3 → ℕ) a ≤ S1x512x1024.size a}
    {w : (Rect.unit (s := S1x512x1024) ![0, R, C] ![1, 128, 128] h).shape.Idx → Elt Ideal .bf16} {L : List (View.Piece (Elt Ideal) S1x512x1024 .bf16)}
    {z : S1x512x1024.Idx} {G : EReal} (hw : ∀ r l : Fin 128, (z 1).val = R + r.val → (z 2).val = C + l.val → w (ix3 (0 : Fin 1) r l) = G)
    (hL : ¬ (R ≤ (z 1).val ∧ (z 1).val < R + 128 ∧ C ≤ (z 2).val ∧ (z 2).val < C + 128) → View.canon L z = G) :
    View.canon ((⟨Rect.unit (s := S1x512x1024) ![0, R, C] ![1, 128, 128] h, w⟩ : View.Piece (Elt Ideal) S1x512x1024 .bf16) :: L) z = G := by
  by_cases hz : R ≤ (z 1).val ∧ (z 1).val < R + 128 ∧ C ≤ (z 2).val ∧ (z 2).val < C + 128
  · have e : (Rect.unit (s := S1x512x1024) ![0, R, C] ![1, 128, 128] h).emb (ix3 (0 : Fin 1) (⟨(z 1).val - R, by omega⟩ : Fin 128) (⟨(z 2).val - C, by omega⟩ : Fin 128)) = z := by
      funext a
      match a with
      | ⟨0, _⟩ => exact Subsingleton.elim (α := Fin 1) _ _
      | ⟨1, _⟩ => exact Fin.ext (by show R + 1 * ((z 1).val - R) = (z 1).val; omega)
      | ⟨2, _⟩ => exact Fin.ext (by show C + 1 * ((z 2).val - C) = (z 2).val; omega)
    refine (congrArg (View.canon _) e.symm).trans ((View.canon_cons_emb _ w L _).trans (hw _ _ ?_ ?_))
    · show (z 1).val = R + ((z 1).val - R); omega
    · show (z 2).val = C + ((z 2).val - C); omega
  · refine (View.canon_cons_of_not_mem _ L fun hm => hz ?_).trans (hL hz)
    obtain ⟨x, hx⟩ := (Rect.unit (s := S1x512x1024) ![0, R, C] ![1, 128, 128] h).exists_idx_of_mem hm
    obtain ⟨r, l, rfl⟩ := ex_att x
    have e1 : (z 1).val = R + 1 * r.val := congrArg (fun y : S1x512x1024.Idx => (y 1).val) hx.symm
    have e2 : (z 2).val = C + 1 * l.val := congrArg (fun y : S1x512x1024.Idx => (y 2).val) hx.symm
    omega

/-- The same of the piece of the pooled columns. -/
theorem cons_pool {R C : ℕ} {h : ∀ a, (![0, R, C] : Fin 3 → ℕ) a + (![1, 512, 512] : Fin 3 → ℕ) a ≤ S1x512x1024.size a}
    {w : (Rect.unit (s := S1x512x1024) ![0, R, C] ![1, 512, 512] h).shape.Idx → Elt Ideal .bf16} {L : List (View.Piece (Elt Ideal) S1x512x1024 .bf16)}
    {z : S1x512x1024.Idx} {G : EReal} (hw : ∀ r l : Fin 512, (z 1).val = R + r.val → (z 2).val = C + l.val → w (ix3 (0 : Fin 1) r l) = G)
    (hL : ¬ (R ≤ (z 1).val ∧ (z 1).val < R + 512 ∧ C ≤ (z 2).val ∧ (z 2).val < C + 512) → View.canon L z = G) :
    View.canon ((⟨Rect.unit (s := S1x512x1024) ![0, R, C] ![1, 512, 512] h, w⟩ : View.Piece (Elt Ideal) S1x512x1024 .bf16) :: L) z = G := by
  by_cases hz : R ≤ (z 1).val ∧ (z 1).val < R + 512 ∧ C ≤ (z 2).val ∧ (z 2).val < C + 512
  · have e : (Rect.unit (s := S1x512x1024) ![0, R, C] ![1, 512, 512] h).emb (ix3 (0 : Fin 1) (⟨(z 1).val - R, by omega⟩ : Fin 512) (⟨(z 2).val - C, by omega⟩ : Fin 512)) = z := by
      funext a
      match a with
      | ⟨0, _⟩ => exact Subsingleton.elim (α := Fin 1) _ _
      | ⟨1, _⟩ => exact Fin.ext (by show R + 1 * ((z 1).val - R) = (z 1).val; omega)
      | ⟨2, _⟩ => exact Fin.ext (by show C + 1 * ((z 2).val - C) = (z 2).val; omega)
    refine (congrArg (View.canon _) e.symm).trans ((View.canon_cons_emb _ w L _).trans (hw _ _ ?_ ?_))
    · show (z 1).val = R + ((z 1).val - R); omega
    · show (z 2).val = C + ((z 2).val - C); omega
  · refine (View.canon_cons_of_not_mem _ L fun hm => hz ?_).trans (hL hz)
    obtain ⟨x, hx⟩ := (Rect.unit (s := S1x512x1024) ![0, R, C] ![1, 512, 512] h).exists_idx_of_mem hm
    obtain ⟨r, l, rfl⟩ := ex_pool x
    have e1 : (z 1).val = R + 1 * r.val := congrArg (fun y : S1x512x1024.Idx => (y 1).val) hx.symm
    have e2 : (z 2).val = C + 1 * l.val := congrArg (fun y : S1x512x1024.Idx => (y 2).val) hx.symm
    omega

/-- The pieces cover the mixer's block. -/
theorem cover (a b : ℕ) (ha : a < 512) (hb : b < 1024)
    (n33 : ¬ (384 ≤ a ∧ a < 384 + 128 ∧ 896 ≤ b ∧ b < 896 + 128))
    (n32 : ¬ (384 ≤ a ∧ a < 384 + 128 ∧ 768 ≤ b ∧ b < 768 + 128))
    (n31 : ¬ (384 ≤ a ∧ a < 384 + 128 ∧ 640 ≤ b ∧ b < 640 + 128))
    (n30 : ¬ (384 ≤ a ∧ a < 384 + 128 ∧ 512 ≤ b ∧ b < 512 + 128))
    (n23 : ¬ (256 ≤ a ∧ a < 256 + 128 ∧ 896 ≤ b ∧ b < 896 + 128))
    (n22 : ¬ (256 ≤ a ∧ a < 256 + 128 ∧ 768 ≤ b ∧ b < 768 + 128))
    (n21 : ¬ (256 ≤ a ∧ a < 256 + 128 ∧ 640 ≤ b ∧ b < 640 + 128))
    (n20 : ¬ (256 ≤ a ∧ a < 256 + 128 ∧ 512 ≤ b ∧ b < 512 + 128))
    (n13 : ¬ (128 ≤ a ∧ a < 128 + 128 ∧ 896 ≤ b ∧ b < 896 + 128))
    (n12 : ¬ (128 ≤ a ∧ a < 128 + 128 ∧ 768 ≤ b ∧ b < 768 + 128))
    (n11 : ¬ (128 ≤ a ∧ a < 128 + 128 ∧ 640 ≤ b ∧ b < 640 + 128))
    (n10 : ¬ (128 ≤ a ∧ a < 128 + 128 ∧ 512 ≤ b ∧ b < 512 + 128))
    (n03 : ¬ (0 ≤ a ∧ a < 0 + 128 ∧ 896 ≤ b ∧ b < 896 + 128))
    (n02 : ¬ (0 ≤ a ∧ a < 0 + 128 ∧ 768 ≤ b ∧ b < 768 + 128))
    (n01 : ¬ (0 ≤ a ∧ a < 0 + 128 ∧ 640 ≤ b ∧ b < 640 + 128))
    (n00 : ¬ (0 ≤ a ∧ a < 0 + 128 ∧ 512 ≤ b ∧ b < 512 + 128))
    (nu : ¬ (0 ≤ a ∧ a < 0 + 512 ∧ 0 ≤ b ∧ b < 0 + 512)) : False := by
  by_cases hu : b < 512
  · exact nu ⟨by omega, by omega, by omega, by omega⟩
  rcases (by omega : a < 128 ∨ (128 ≤ a ∧ a < 256) ∨ (256 ≤ a ∧ a < 384) ∨ 384 ≤ a) with h | h | h | h <;>
    rcases (by omega : b < 640 ∨ (640 ≤ b ∧ b < 768) ∨ (768 ≤ b ∧ b < 896) ∨ 896 ≤ b) with g | g | g | g
  · exact n00 ⟨by omega, by omega, by omega, by omega⟩
  · exact n01 ⟨by omega, by omega, by omega, by omega⟩
  · exact n02 ⟨by omega, by omega, by omega, by omega⟩
  · exact n03 ⟨by omega, by omega, by omega, by omega⟩
  · exact n10 ⟨by omega, by omega, by omega, by omega⟩
  · exact n11 ⟨by omega, by omega, by omega, by omega⟩
  · exact n12 ⟨by omega, by omega, by omega, by omega⟩
  · exact n13 ⟨by omega, by omega, by omega, by omega⟩
  · exact n20 ⟨by omega, by omega, by omega, by omega⟩
  · exact n21 ⟨by omega, by omega, by omega, by omega⟩
  · exact n22 ⟨by omega, by omega, by omega, by omega⟩
  · exact n23 ⟨by omega, by omega, by omega, by omega⟩
  · exact n30 ⟨by omega, by omega, by omega, by omega⟩
  · exact n31 ⟨by omega, by omega, by omega, by omega⟩
  · exact n32 ⟨by omega, by omega, by omega, by omega⟩
  · exact n33 ⟨by omega, by omega, by omega, by omega⟩

end Cert.FrontIdeal.Out
-- ==== Proof.FrontAtt.lean ====
module

public import proofs.«01_k».proof.Proof.Gen.FrontIdeal.Skeleton
public import proofs.«01_k».proof.Proof.AttSpec
public import Idealize.ShloMosaic.Lib.Pointwise

@[expose] public section

set_option maxRecDepth 16384

noncomputable section

namespace Cert.FrontIdeal.Pay

open Idealize.ShloMosaic Idealize.ShloMosaic.TcCoe Idealize.SL.Sem Cert.FrontIdeal Cert.FrontIdeal.Gen Cert.Layer

/-- Rows 0 to 127 of heads 0 and 1: the two heads' attention, added. -/
theorem att_0_0 (Q : FVec Ideal S512x512 .bf16) (K0 K1 V0 V1 : FVec Ideal S1x256x128 .bf16) (B0 B1 : FVec Ideal S1x1x128x256 .f32) (s0 s1 : Ideal .f32) (r l : Fin 128) :
    (k0_pay61 (k0_pay59 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K0 B0 s0 V0) (k0_pay60 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K1 B1) s1 V1 : FVec Ideal S1x128x128 .bf16) (ix3 0 r l)
      = attK (fun s => (∑ a : Fin 128, Q (ix2 (⟨0 + r.val, by omega⟩ : Fin 512) (⟨0 + a.val, by omega⟩ : Fin 512)) * K0 (ix3 0 s a)) + B0 (ix4 0 0 r s)) s0 (fun s => V0 (ix3 0 s l))
        + attK (fun s => (∑ a : Fin 128, Q (ix2 (⟨0 + r.val, by omega⟩ : Fin 512) (⟨0 + a.val, by omega⟩ : Fin 512)) * K1 (ix3 0 s a)) + B1 (ix4 0 0 r s)) s1 (fun s => V1 (ix3 0 s l)) := by
  pointwise [k0_pay57, k0_pay58, k0_pay59, k0_pay60, k0_pay61, attK, sden, sexp, smax]

/-- Rows 0 to 127 of heads 2 and 3: the two heads' attention, added. -/
theorem att_0_1 (Q : FVec Ideal S512x512 .bf16) (K0 K1 V0 V1 : FVec Ideal S1x256x128 .bf16) (B2 B3 : FVec Ideal S1x1x128x256 .f32) (s2 s3 : Ideal .f32) (r l : Fin 128) :
    (k0_pay67 (k0_pay66 (k0_pay58 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K1) s2 (k0_pay63 (k0_pay57 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K0) B2 s2) (k0_pay64 (k0_pay57 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K0) B2 s2) (k0_pay65 (k0_pay57 (concatenate S256x128 0 [⟨S128x128, extractStridedSlice S128x128 ![0, 0] Q slices_S512x512_o0_0_S128x128⟩, ⟨S128x128, extractStridedSlice S128x128 ![0, 128] Q slices_S512x512_o0_128_S128x128⟩] concatenates_S128x128_S128x128_S256x128_d0) K0) B2 s2) V0 B3 s3 V1) : FVec Ideal S1x128x128 .bf16) (ix3 0 r l)
      = attK (fun s => (∑ a : Fin 128, Q (ix2 (⟨0 + r.val, by omega⟩ : Fin 512) (⟨128 + a.val, by omega⟩ : Fin 512)) * K0 (ix3 0 s a)) + B2 (ix4 0 0 r s)) s2 (fun s => V0 (ix3 0 s l))
        + attK (fun s => (∑ a : Fin 128, Q (ix2 (⟨0 + r.val, by omega⟩ : Fin 512) (⟨128 + a.val, by omega⟩ : Fin 512)) * K1 (ix3 0 s a)) + B3 (ix4 0 0 r s)) s3 (fun s => V1 (ix3 0 s l)) := by
  pointwise [k0_pay57, k0_pay58, k0_pay62, k0_pay63, k0_pay64, k0_pay65, k0_pay66, k0_pay67, attK, sden, sexp, smax]

/-- Rows 0 to 127 of heads 4 and 5: the two heads' attention, added. -/
theorem att_0_2 (Q : FVec Ideal S512x512 .bf16) (K2 K3 V2 V3 : FVec Ideal S1x256x128 .bf16) (B4 B5 : FVec Ideal S1x1x128x256 .f32) (s4 s5 : Ideal .f32) (r l : Fin 128) :
    (k0_pay76 (k0_pay70 Q K3) (k0_pay74 Q K2 B4 s4 V2) (k0_pay75 Q K2 B4 s4) B5 s5 V3 : FVec Ideal S1x128x128 .bf16) (ix3 0 r l)
      = attK (fun s => (∑ a : Fin 128, Q (ix2 (⟨0 + r.val, by omega⟩ : Fin 512) (⟨256 + a.val, by omega⟩ : Fin 512)) * K2 (ix3 0 s a)) + B4 (ix4 0 0 r s)) s4 (fun s => V2 (ix3 0 s l))
        + attK (fun s => (∑ a : Fin 128, Q (ix2 (⟨0 + r.val, by omega⟩ : Fin 512) (⟨256 + a.val, by omega⟩ : Fin 512)) * K3 (ix3 0 s a)) + B5 (ix4 0 0 r s)) s5 (fun s => V3 (ix3 0 s l)) := by
  pointwise [k0_pay68, k0_pay69, k0_pay70, k0_pay71, k0_pay72, k0_pay73, k0_pay74, k0_pay75, k0_pay76, attK, sden, sexp, smax]

/-- Rows 0 to 127 of heads 6 and 7: the two heads' attention, added. -/
theorem att_0_3 (Q : FVec Ideal S512x512 .bf16) (K2 K3 V2 V3 : FVec Ideal S1x256x128 .bf16) (B6 B7 : FVec Ideal S1x1x128x256 .f32) (s6 s7 : Ideal .f32) (r l : Fin 128) :
    (k0_pay84 (k0_pay78 (k0_pay77 (k0_pay69 Q K2) B6) s6 V2) (k0_pay82 (k0_pay70 Q K3) B7 s7) (k0_pay83 (k0_pay70 Q K3) B7 s7) V3 : FVec Ideal S1x128x128 .bf16) (ix3 0 r l)
      = attK (fun s => (∑ a : Fin 128, Q (ix2 (⟨0 + r.val, by omega⟩ : Fin 512) (⟨384 + a.val, by omega⟩ : Fin 512)) * K2 (ix3 0 s a)) + B6 (ix4 0 0 r s)) s6 (fun s => V2 (ix3 0 s l))
        + attK (fun s => (∑ a : Fin 128, Q (ix2 (⟨0 + r.val, by omega⟩ : Fin 512) (⟨384 + a.val, by omega⟩ : Fin 512)) * K3 (ix3 0 s a)) + B7 (ix4 0 0 r s)) s7 (fun s => V3 (ix3 0 s l)) := by
  pointwise [k0_pay68, k0_pay69, k0_pay70, k0_pay77, k0_pay78, k0_pay79, k0_pay80, k0_pay81, k0_pay82, k0_pay83, k0_pay84, attK, sden, sexp, smax]

/-- Rows 128 to 255 of heads 0 and 1: the two heads' attention, added. -/
theorem att_1_0 (Q : FVec Ideal S512x512 .bf16) (K0 K1 V0 V1 : FVec Ideal S1x256x128 .bf16) (B0 B1 : FVec Ideal S1x1x128x256 .f32) (s0 s1 : Ideal .f32) (r l : Fin 128) :
    (k0_pay92 (k0_pay87 Q K1) (k0_pay90 Q K0 B0 s0) (k0_pay91 Q K0 B0 s0) V0 B1 s1 V1 : FVec Ideal S1x128x128 .bf16) (ix3 0 r l)
      = attK (fun s => (∑ a : Fin 128, Q (ix2 (⟨128 + r.val, by omega⟩ : Fin 512) (⟨0 + a.val, by omega⟩ : Fin 512)) * K0 (ix3 0 s a)) + B0 (ix4 0 0 r s)) s0 (fun s => V0 (ix3 0 s l))
        + attK (fun s => (∑ a : Fin 128, Q (ix2 (⟨128 + r.val, by omega⟩ : Fin 512) (⟨0 + a.val, by omega⟩ : Fin 512)) * K1 (ix3 0 s a)) + B1 (ix4 0 0 r s)) s1 (fun s => V1 (ix3 0 s l)) := by
  pointwise [k0_pay85, k0_pay86, k0_pay87, k0_pay88, k0_pay89, k0_pay90, k0_pay91, k0_pay92, attK, sden, sexp, smax]

/-- Rows 128 to 255 of heads 2 and 3: the two heads' attention, added. -/
theorem att_1_1 (Q : FVec Ideal S512x512 .bf16) (K0 K1 V0 V1 : FVec Ideal S1x256x128 .bf16) (B2 B3 : FVec Ideal S1x1x128x256 .f32) (s2 s3 : Ideal .f32) (r l : Fin 128) :
    (k0_pay97 (k0_pay93 (k0_pay86 Q K0) B2 s2 V0) s3 (k0_pay95 (k0_pay87 Q K1) B3 s3) (k0_pay96 (k0_pay87 Q K1) B3 s3) V1 : FVec Ideal S1x128x128 .bf16) (ix3 0 r l)
      = attK (fun s => (∑ a : Fin 128, Q (ix2 (⟨128 + r.val, by omega⟩ : Fin 512) (⟨128 + a.val, by omega⟩ : Fin 512)) * K0 (ix3 0 s a)) + B2 (ix4 0 0 r s)) s2 (fun s => V0 (ix3 0 s l))
        + attK (fun s => (∑ a : Fin 128, Q (ix2 (⟨128 + r.val, by omega⟩ : Fin 512) (⟨128 + a.val, by omega⟩ : Fin 512)) * K1 (ix3 0 s a)) + B3 (ix4 0 0 r s)) s3 (fun s => V1 (ix3 0 s l)) := by
  pointwise [k0_pay85, k0_pay86, k0_pay87, k0_pay93, k0_pay94, k0_pay95, k0_pay96, k0_pay97, attK, sden, sexp, smax]

/-- Rows 128 to 255 of heads 4 and 5: the two heads' attention, added. -/
theorem att_1_2 (Q : FVec Ideal S512x512 .bf16) (K2 K3 V2 V3 : FVec Ideal S1x256x128 .bf16) (B4 B5 : FVec Ideal S1x1x128x256 .f32) (s4 s5 : Ideal .f32) (r l : Fin 128) :
    (k0_pay111 (k0_pay104 (k0_pay101 Q K2 B4) s4 (k0_pay102 Q K2 B4) (k0_pay103 s4) V2) (k0_pay108 (k0_pay100 Q K3) B5 s5) (k0_pay109 (k0_pay100 Q K3) B5 s5 V3) k0_pay110 : FVec Ideal S1x128x128 .bf16) (ix3 0 r l)
      = attK (fun s => (∑ a : Fin 128, Q (ix2 (⟨128 + r.val, by omega⟩ : Fin 512) (⟨256 + a.val, by omega⟩ : Fin 512)) * K2 (ix3 0 s a)) + B4 (ix4 0 0 r s)) s4 (fun s => V2 (ix3 0 s l))
        + attK (fun s => (∑ a : Fin 128, Q (ix2 (⟨128 + r.val, by omega⟩ : Fin 512) (⟨256 + a.val, by omega⟩ : Fin 512)) * K3 (ix3 0 s a)) + B5 (ix4 0 0 r s)) s5 (fun s => V3 (ix3 0 s l)) := by
  pointwise [k0_pay98, k0_pay99, k0_pay100, k0_pay101, k0_pay102, k0_pay103, k0_pay104, k0_pay105, k0_pay106, k0_pay107, k0_pay108, k0_pay109, k0_pay110, k0_pay111, attK, sden, sexp, smax]

/-- Rows 128 to 255 of heads 6 and 7: the two heads' attention, added. -/
theorem att_1_3 (Q : FVec Ideal S512x512 .bf16) (K2 K3 V2 V3 : FVec Ideal S1x256x128 .bf16) (B6 B7 : FVec Ideal S1x1x128x256 .f32) (s6 s7 : Ideal .f32) (r l : Fin 128) :
    (k0_pay114 (k0_pay112 (k0_pay99 Q K2) B6 s6 V2) (k0_pay113 (k0_pay100 Q K3) B7) s7 V3 : FVec Ideal S1x128x128 .bf16) (ix3 0 r l)
      = attK (fun s => (∑ a : Fin 128, Q (ix2 (⟨128 + r.val, by omega⟩ : Fin 512) (⟨384 + a.val, by omega⟩ : Fin 512)) * K2 (ix3 0 s a)) + B6 (ix4 0 0 r s)) s6 (fun s => V2 (ix3 0 s l))
        + attK (fun s => (∑ a : Fin 128, Q (ix2 (⟨128 + r.val, by omega⟩ : Fin 512) (⟨384 + a.val, by omega⟩ : Fin 512)) * K3 (ix3 0 s a)) + B7 (ix4 0 0 r s)) s7 (fun s => V3 (ix3 0 s l)) := by
  pointwise [k0_pay98, k0_pay99, k0_pay100, k0_pay112, k0_pay113, k0_pay114, attK, sden, sexp, smax]

/-- Rows 256 to 383 of heads 0 and 1: the two heads' attention, added. -/
theorem att_2_0 (Q : FVec Ideal S512x512 .bf16) (K0 K1 V0 V1 : FVec Ideal S1x256x128 .bf16) (B0 B1 : FVec Ideal S1x1x128x256 .f32) (s0 s1 : Ideal .f32) (r l : Fin 128) :
    (k0_pay125 (k0_pay119 (k0_pay118 Q K0) B0 s0 V0) (k0_pay122 (k0_pay117 Q K1) B1 s1) (k0_pay123 (k0_pay117 Q K1) B1 s1) (k0_pay124 (k0_pay117 Q K1) B1 s1) V1 : FVec Ideal S1x128x128 .bf16) (ix3 0 r l)
      = attK (fun s => (∑ a : Fin 128, Q (ix2 (⟨256 + r.val, by omega⟩ : Fin 512) (⟨0 + a.val, by omega⟩ : Fin 512)) * K0 (ix3 0 s a)) + B0 (ix4 0 0 r s)) s0 (fun s => V0 (ix3 0 s l))
        + attK (fun s => (∑ a : Fin 128, Q (ix2 (⟨256 + r.val, by omega⟩ : Fin 512) (⟨0 + a.val, by omega⟩ : Fin 512)) * K1 (ix3 0 s a)) + B1 (ix4 0 0 r s)) s1 (fun s => V1 (ix3 0 s l)) := by
  pointwise [k0_pay115, k0_pay116, k0_pay117, k0_pay118, k0_pay119, k0_pay120, k0_pay121, k0_pay122, k0_pay123, k0_pay124, k0_pay125, attK, sden, sexp, smax]

/-- Rows 256 to 383 of heads 2 and 3: the two heads' attention, added. -/
theorem att_2_1 (Q : FVec Ideal S512x512 .bf16) (K0 K1 V0 V1 : FVec Ideal S1x256x128 .bf16) (B2 B3 : FVec Ideal S1x1x128x256 .f32) (s2 s3 : Ideal .f32) (r l : Fin 128) :
    (k0_pay131 (k0_pay117 Q K1) (k0_pay129 (k0_pay116 Q K0) B2 s2 V0) (k0_pay130 (k0_pay116 Q K0) B2 s2) B3 s3 V1 : FVec Ideal S1x128x128 .bf16) (ix3 0 r l)
      = attK (fun s => (∑ a : Fin 128, Q (ix2 (⟨256 + r.val, by omega⟩ : Fin 512) (⟨128 + a.val, by omega⟩ : Fin 512)) * K0 (ix3 0 s a)) + B2 (ix4 0 0 r s)) s2 (fun s => V0 (ix3 0 s l))
        + attK (fun s => (∑ a : Fin 128, Q (ix2 (⟨256 + r.val, by omega⟩ : Fin 512) (⟨128 + a.val, by omega⟩ : Fin 512)) * K1 (ix3 0 s a)) + B3 (ix4 0 0 r s)) s3 (fun s => V1 (ix3 0 s l)) := by
  pointwise [k0_pay115, k0_pay116, k0_pay117, k0_pay126, k0_pay127, k0_pay128, k0_pay129, k0_pay130, k0_pay131, attK, sden, sexp, smax]

/-- Rows 256 to 383 of heads 4 and 5: the two heads' attention, added. -/
theorem att_2_2 (Q : FVec Ideal S512x512 .bf16) (K2 K3 V2 V3 : FVec Ideal S1x256x128 .bf16) (B4 B5 : FVec Ideal S1x1x128x256 .f32) (s4 s5 : Ideal .f32) (r l : Fin 128) :
    (k0_pay138 (k0_pay135 (k0_pay133 Q K2) B4 s4 V2) (k0_pay136 (k0_pay132 Q) K3 B5) s5 (k0_pay137 (k0_pay132 Q) K3 B5) V3 : FVec Ideal S1x128x128 .bf16) (ix3 0 r l)
      = attK (fun s => (∑ a : Fin 128, Q (ix2 (⟨256 + r.val, by omega⟩ : Fin 512) (⟨256 + a.val, by omega⟩ : Fin 512)) * K2 (ix3 0 s a)) + B4 (ix4 0 0 r s)) s4 (fun s => V2 (ix3 0 s l))
        + attK (fun s => (∑ a : Fin 128, Q (ix2 (⟨256 + r.val, by omega⟩ : Fin 512) (⟨256 + a.val, by omega⟩ : Fin 512)) * K3 (ix3 0 s a)) + B5 (ix4 0 0 r s)) s5 (fun s => V3 (ix3 0 s l)) := by
  pointwise [k0_pay132, k0_pay133, k0_pay134, k0_pay135, k0_pay136, k0_pay137, k0_pay138, attK, sden, sexp, smax]

/-- Rows 256 to 383 of heads 6 and 7: the two heads' attention, added. -/
theorem att_2_3 (Q : FVec Ideal S512x512 .bf16) (K2 K3 V2 V3 : FVec Ideal S1x256x128 .bf16) (B6 B7 : FVec Ideal S1x1x128x256 .f32) (s6 s7 : Ideal .f32) (r l : Fin 128) :
    (k0_pay143 (k0_pay134 (k0_pay132 Q) K3) (k0_pay141 (k0_pay133 Q K2) B6 s6) (k0_pay142 (k0_pay133 Q K2) B6 s6) V2 B7 s7 V3 : FVec Ideal S1x128x128 .bf16) (ix3 0 r l)
      = attK (fun s => (∑ a : Fin 128, Q (ix2 (⟨256 + r.val, by omega⟩ : Fin 512) (⟨384 + a.val, by omega⟩ : Fin 512)) * K2 (ix3 0 s a)) + B6 (ix4 0 0 r s)) s6 (fun s => V2 (ix3 0 s l))
        + attK (fun s => (∑ a : Fin 128, Q (ix2 (⟨256 + r.val, by omega⟩ : Fin 512) (⟨384 + a.val, by omega⟩ : Fin 512)) * K3 (ix3 0 s a)) + B7 (ix4 0 0 r s)) s7 (fun s => V3 (ix3 0 s l)) := by
  pointwise [k0_pay132, k0_pay133, k0_pay134, k0_pay139, k0_pay140, k0_pay141, k0_pay142, k0_pay143, attK, sden, sexp, smax]

/-- Rows 384 to 511 of heads 0 and 1: the two heads' attention, added. -/
theorem att_3_0 (Q : FVec Ideal S512x512 .bf16) (K0 K1 V0 V1 : FVec Ideal S1x256x128 .bf16) (B0 B1 : FVec Ideal S1x1x128x256 .f32) (s0 s1 : Ideal .f32) (r l : Fin 128) :
    (k0_pay149 (k0_pay147 Q K0 B0 s0 V0) (k0_pay148 Q K1) B1 s1 V1 : FVec Ideal S1x128x128 .bf16) (ix3 0 r l)
      = attK (fun s => (∑ a : Fin 128, Q (ix2 (⟨384 + r.val, by omega⟩ : Fin 512) (⟨0 + a.val, by omega⟩ : Fin 512)) * K0 (ix3 0 s a)) + B0 (ix4 0 0 r s)) s0 (fun s => V0 (ix3 0 s l))
        + attK (fun s => (∑ a : Fin 128, Q (ix2 (⟨384 + r.val, by omega⟩ : Fin 512) (⟨0 + a.val, by omega⟩ : Fin 512)) * K1 (ix3 0 s a)) + B1 (ix4 0 0 r s)) s1 (fun s => V1 (ix3 0 s l)) := by
  pointwise [k0_pay144, k0_pay145, k0_pay146, k0_pay147, k0_pay148, k0_pay149, attK, sden, sexp, smax]

/-- Rows 384 to 511 of heads 2 and 3: the two heads' attention, added. -/
theorem att_3_1 (Q : FVec Ideal S512x512 .bf16) (K0 K1 V0 V1 : FVec Ideal S1x256x128 .bf16) (B2 B3 : FVec Ideal S1x1x128x256 .f32) (s2 s3 : Ideal .f32) (r l : Fin 128) :
    (k0_pay160 (k0_pay153 (k0_pay150 (k0_pay145 Q K0) B2) s2 (k0_pay151 (k0_pay145 Q K0) B2) (k0_pay152 s2) V0) (k0_pay157 (k0_pay146 Q K1) B3 s3) (k0_pay158 (k0_pay146 Q K1) B3 s3 V1) k0_pay159 : FVec Ideal S1x128x128 .bf16) (ix3 0 r l)
      = attK (fun s => (∑ a : Fin 128, Q (ix2 (⟨384 + r.val, by omega⟩ : Fin 512) (⟨128 + a.val, by omega⟩ : Fin 512)) * K0 (ix3 0 s a)) + B2 (ix4 0 0 r s)) s2 (fun s => V0 (ix3 0 s l))
        + attK (fun s => (∑ a : Fin 128, Q (ix2 (⟨384 + r.val, by omega⟩ : Fin 512) (⟨128 + a.val, by omega⟩ : Fin 512)) * K1 (ix3 0 s a)) + B3 (ix4 0 0 r s)) s3 (fun s => V1 (ix3 0 s l)) := by
  pointwise [k0_pay144, k0_pay145, k0_pay146, k0_pay150, k0_pay151, k0_pay152, k0_pay153, k0_pay154, k0_pay155, k0_pay156, k0_pay157, k0_pay158, k0_pay159, k0_pay160, attK, sden, sexp, smax]

/-- Rows 384 to 511 of heads 4 and 5: the two heads' attention, added. -/
theorem att_3_2 (Q : FVec Ideal S512x512 .bf16) (K2 K3 V2 V3 : FVec Ideal S1x256x128 .bf16) (B4 B5 : FVec Ideal S1x1x128x256 .f32) (s4 s5 : Ideal .f32) (r l : Fin 128) :
    (k0_pay169 (k0_pay163 Q K3) (k0_pay167 Q K2 B4 s4) (k0_pay168 Q K2 B4 s4) V2 B5 s5 V3 : FVec Ideal S1x128x128 .bf16) (ix3 0 r l)
      = attK (fun s => (∑ a : Fin 128, Q (ix2 (⟨384 + r.val, by omega⟩ : Fin 512) (⟨256 + a.val, by omega⟩ : Fin 512)) * K2 (ix3 0 s a)) + B4 (ix4 0 0 r s)) s4 (fun s => V2 (ix3 0 s l))
        + attK (fun s => (∑ a : Fin 128, Q (ix2 (⟨384 + r.val, by omega⟩ : Fin 512) (⟨256 + a.val, by omega⟩ : Fin 512)) * K3 (ix3 0 s a)) + B5 (ix4 0 0 r s)) s5 (fun s => V3 (ix3 0 s l)) := by
  pointwise [k0_pay161, k0_pay162, k0_pay163, k0_pay164, k0_pay165, k0_pay166, k0_pay167, k0_pay168, k0_pay169, attK, sden, sexp, smax]

/-- Rows 384 to 511 of heads 6 and 7: the two heads' attention, added. -/
theorem att_3_3 (Q : FVec Ideal S512x512 .bf16) (K2 K3 V2 V3 : FVec Ideal S1x256x128 .bf16) (B6 B7 : FVec Ideal S1x1x128x256 .f32) (s6 s7 : Ideal .f32) (r l : Fin 128) :
    (k0_pay177 (k0_pay171 (k0_pay170 (k0_pay162 Q K2)) B6 s6 V2) (k0_pay174 (k0_pay163 Q K3) B7 s7) (k0_pay175 (k0_pay163 Q K3) B7 s7) (k0_pay176 (k0_pay163 Q K3) B7 s7) V3 : FVec Ideal S1x128x128 .bf16) (ix3 0 r l)
      = attK (fun s => (∑ a : Fin 128, Q (ix2 (⟨384 + r.val, by omega⟩ : Fin 512) (⟨384 + a.val, by omega⟩ : Fin 512)) * K2 (ix3 0 s a)) + B6 (ix4 0 0 r s)) s6 (fun s => V2 (ix3 0 s l))
        + attK (fun s => (∑ a : Fin 128, Q (ix2 (⟨384 + r.val, by omega⟩ : Fin 512) (⟨384 + a.val, by omega⟩ : Fin 512)) * K3 (ix3 0 s a)) + B7 (ix4 0 0 r s)) s7 (fun s => V3 (ix3 0 s l)) := by
  pointwise [k0_pay161, k0_pay162, k0_pay163, k0_pay170, k0_pay171, k0_pay172, k0_pay173, k0_pay174, k0_pay175, k0_pay176, k0_pay177, attK, sden, sexp, smax]

end Cert.FrontIdeal.Pay
-- ==== Proof.FrontMixA.lean ====
module

public import proofs.«01_k».proof.Proof.FrontLoads
public import proofs.«01_k».proof.Proof.FrontAtt

@[expose] public section

set_option maxRecDepth 16384

noncomputable section

namespace Cert.FrontIdeal.Out

open Idealize.ShloMosaic Idealize.ShloMosaic.TcCoe Idealize.SL.Sem
open Cert.FrontIdeal Cert.FrontIdeal.Gen Cert.FrontIdeal.Pay Cert.FrontIdeal.Scr Cert.Layer

variable (m : (ℓ : Loc nD τ sig) → Buf (Elt Ideal) ℓ)

/-- The mixer's block at a point that begins a sequence, in rows 384 to 511 of the attention columns. -/
theorem mix_A3 (c : Dev nD) (t : Fin cfg0.N) (g0 : t.val % 4 = 0) (z : S1x512x1024.Idx) (hr : 384 ≤ (z 1).val) (hr' : (z 1).val < 512) (hc : 512 ≤ (z 2).val) :
    (outsAt0 m c t.val t.isLt).1 z = mixP m c t (z 1) (z 2) := by
  rw [outsAt0_A m c t g0]
  frame_out
  refine cons_att (fun r l h1 h2 => ?_) fun n33 => ?_
  · try rw [(hs0_8 t).read_unread]
    refine (att_3_3 _ _ _ _ _ _ _ _ _ r l).trans ?_
    refine (att_pair (q := qrow m c t 3 (by decide) r) (kr := kwin m c t 3 (by decide)) (vr := vwin m c t 3 (by decide)) (B := bwin m c t 3 r) (sk := SK m c) 3 (by decide) l (fun a => qvj m c t 3 (by decide) r (by show 384 + r.val = 128 * 3 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 3 (by decide) r s) (fun s => bv1 m c t 7 (by decide) 3 (by decide) r s) (sv m c t 6 (by decide)) (sv m c t 7 (by decide))).trans ?_
    exact mixP_att m c t 3 (by decide) r _ _ _ h1 (h2.trans (by show 896 + l.val = 512 + (128 * 3 + l.val); omega))
  refine cons_att (fun r l h1 h2 => ?_) fun n32 => ?_
  · try rw [(hs0_8 t).read_unread]
    refine (att_3_2 _ _ _ _ _ _ _ _ _ r l).trans ?_
    refine (att_pair (q := qrow m c t 3 (by decide) r) (kr := kwin m c t 3 (by decide)) (vr := vwin m c t 3 (by decide)) (B := bwin m c t 3 r) (sk := SK m c) 2 (by decide) l (fun a => qvj m c t 3 (by decide) r (by show 384 + r.val = 128 * 3 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 3 (by decide) r s) (fun s => bv1 m c t 5 (by decide) 3 (by decide) r s) (sv m c t 4 (by decide)) (sv m c t 5 (by decide))).trans ?_
    exact mixP_att m c t 3 (by decide) r _ _ _ h1 (h2.trans (by show 768 + l.val = 512 + (128 * 2 + l.val); omega))
  refine cons_att (fun r l h1 h2 => ?_) fun n31 => ?_
  · try rw [(hs0_8 t).read_unread]
    refine (att_3_1 _ _ _ _ _ _ _ _ _ r l).trans ?_
    refine (att_pair (q := qrow m c t 3 (by decide) r) (kr := kwin m c t 3 (by decide)) (vr := vwin m c t 3 (by decide)) (B := bwin m c t 3 r) (sk := SK m c) 1 (by decide) l (fun a => qvj m c t 3 (by decide) r (by show 384 + r.val = 128 * 3 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 3 (by decide) r s) (fun s => bv1 m c t 3 (by decide) 3 (by decide) r s) (sv m c t 2 (by decide)) (sv m c t 3 (by decide))).trans ?_
    exact mixP_att m c t 3 (by decide) r _ _ _ h1 (h2.trans (by show 640 + l.val = 512 + (128 * 1 + l.val); omega))
  refine cons_att (fun r l h1 h2 => ?_) fun n30 => ?_
  · try rw [(hs0_8 t).read_unread]
    refine (att_3_0 _ _ _ _ _ _ _ _ _ r l).trans ?_
    refine (att_pair (q := qrow m c t 3 (by decide) r) (kr := kwin m c t 3 (by decide)) (vr := vwin m c t 3 (by decide)) (B := bwin m c t 3 r) (sk := SK m c) 0 (by decide) l (fun a => qvj m c t 3 (by decide) r (by show 384 + r.val = 128 * 3 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 3 (by decide) r s) (fun s => bv1 m c t 1 (by decide) 3 (by decide) r s) (sv m c t 0 (by decide)) (sv m c t 1 (by decide))).trans ?_
    exact mixP_att m c t 3 (by decide) r _ _ _ h1 (h2.trans (by show 512 + l.val = 512 + (128 * 0 + l.val); omega))
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in rows 256 to 383 of the attention columns. -/
theorem mix_A2 (c : Dev nD) (t : Fin cfg0.N) (g0 : t.val % 4 = 0) (z : S1x512x1024.Idx) (hr : 256 ≤ (z 1).val) (hr' : (z 1).val < 384) (hc : 512 ≤ (z 2).val) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => ?_) fun n23 => ?_
  · try rw [(hs0_8 t).read_unread]
    refine (att_2_3 _ _ _ _ _ _ _ _ _ r l).trans ?_
    refine (att_pair (q := qrow m c t 2 (by decide) r) (kr := kwin m c t 2 (by decide)) (vr := vwin m c t 2 (by decide)) (B := bwin m c t 2 r) (sk := SK m c) 3 (by decide) l (fun a => qvj m c t 2 (by decide) r (by show 256 + r.val = 128 * 2 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 2 (by decide) r s) (fun s => bv1 m c t 7 (by decide) 2 (by decide) r s) (sv m c t 6 (by decide)) (sv m c t 7 (by decide))).trans ?_
    exact mixP_att m c t 2 (by decide) r _ _ _ h1 (h2.trans (by show 896 + l.val = 512 + (128 * 3 + l.val); omega))
  refine cons_att (fun r l h1 h2 => ?_) fun n22 => ?_
  · try rw [(hs0_8 t).read_unread]
    refine (att_2_2 _ _ _ _ _ _ _ _ _ r l).trans ?_
    refine (att_pair (q := qrow m c t 2 (by decide) r) (kr := kwin m c t 2 (by decide)) (vr := vwin m c t 2 (by decide)) (B := bwin m c t 2 r) (sk := SK m c) 2 (by decide) l (fun a => qvj m c t 2 (by decide) r (by show 256 + r.val = 128 * 2 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 2 (by decide) r s) (fun s => bv1 m c t 5 (by decide) 2 (by decide) r s) (sv m c t 4 (by decide)) (sv m c t 5 (by decide))).trans ?_
    exact mixP_att m c t 2 (by decide) r _ _ _ h1 (h2.trans (by show 768 + l.val = 512 + (128 * 2 + l.val); omega))
  refine cons_att (fun r l h1 h2 => ?_) fun n21 => ?_
  · try rw [(hs0_8 t).read_unread]
    refine (att_2_1 _ _ _ _ _ _ _ _ _ r l).trans ?_
    refine (att_pair (q := qrow m c t 2 (by decide) r) (kr := kwin m c t 2 (by decide)) (vr := vwin m c t 2 (by decide)) (B := bwin m c t 2 r) (sk := SK m c) 1 (by decide) l (fun a => qvj m c t 2 (by decide) r (by show 256 + r.val = 128 * 2 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 2 (by decide) r s) (fun s => bv1 m c t 3 (by decide) 2 (by decide) r s) (sv m c t 2 (by decide)) (sv m c t 3 (by decide))).trans ?_
    exact mixP_att m c t 2 (by decide) r _ _ _ h1 (h2.trans (by show 640 + l.val = 512 + (128 * 1 + l.val); omega))
  refine cons_att (fun r l h1 h2 => ?_) fun n20 => ?_
  · try rw [(hs0_8 t).read_unread]
    refine (att_2_0 _ _ _ _ _ _ _ _ _ r l).trans ?_
    refine (att_pair (q := qrow m c t 2 (by decide) r) (kr := kwin m c t 2 (by decide)) (vr := vwin m c t 2 (by decide)) (B := bwin m c t 2 r) (sk := SK m c) 0 (by decide) l (fun a => qvj m c t 2 (by decide) r (by show 256 + r.val = 128 * 2 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 2 (by decide) r s) (fun s => bv1 m c t 1 (by decide) 2 (by decide) r s) (sv m c t 0 (by decide)) (sv m c t 1 (by decide))).trans ?_
    exact mixP_att m c t 2 (by decide) r _ _ _ h1 (h2.trans (by show 512 + l.val = 512 + (128 * 0 + l.val); omega))
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in rows 128 to 255 of the attention columns. -/
theorem mix_A1 (c : Dev nD) (t : Fin cfg0.N) (g0 : t.val % 4 = 0) (z : S1x512x1024.Idx) (hr : 128 ≤ (z 1).val) (hr' : (z 1).val < 256) (hc : 512 ≤ (z 2).val) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => ?_) fun n13 => ?_
  · try rw [(hs0_8 t).read_unread]
    refine (att_1_3 _ _ _ _ _ _ _ _ _ r l).trans ?_
    refine (att_pair (q := qrow m c t 1 (by decide) r) (kr := kwin m c t 1 (by decide)) (vr := vwin m c t 1 (by decide)) (B := bwin m c t 1 r) (sk := SK m c) 3 (by decide) l (fun a => qvj m c t 1 (by decide) r (by show 128 + r.val = 128 * 1 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 1 (by decide) r s) (fun s => bv1 m c t 7 (by decide) 1 (by decide) r s) (sv m c t 6 (by decide)) (sv m c t 7 (by decide))).trans ?_
    exact mixP_att m c t 1 (by decide) r _ _ _ h1 (h2.trans (by show 896 + l.val = 512 + (128 * 3 + l.val); omega))
  refine cons_att (fun r l h1 h2 => ?_) fun n12 => ?_
  · try rw [(hs0_8 t).read_unread]
    refine (att_1_2 _ _ _ _ _ _ _ _ _ r l).trans ?_
    refine (att_pair (q := qrow m c t 1 (by decide) r) (kr := kwin m c t 1 (by decide)) (vr := vwin m c t 1 (by decide)) (B := bwin m c t 1 r) (sk := SK m c) 2 (by decide) l (fun a => qvj m c t 1 (by decide) r (by show 128 + r.val = 128 * 1 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 1 (by decide) r s) (fun s => bv1 m c t 5 (by decide) 1 (by decide) r s) (sv m c t 4 (by decide)) (sv m c t 5 (by decide))).trans ?_
    exact mixP_att m c t 1 (by decide) r _ _ _ h1 (h2.trans (by show 768 + l.val = 512 + (128 * 2 + l.val); omega))
  refine cons_att (fun r l h1 h2 => ?_) fun n11 => ?_
  · try rw [(hs0_8 t).read_unread]
    refine (att_1_1 _ _ _ _ _ _ _ _ _ r l).trans ?_
    refine (att_pair (q := qrow m c t 1 (by decide) r) (kr := kwin m c t 1 (by decide)) (vr := vwin m c t 1 (by decide)) (B := bwin m c t 1 r) (sk := SK m c) 1 (by decide) l (fun a => qvj m c t 1 (by decide) r (by show 128 + r.val = 128 * 1 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 1 (by decide) r s) (fun s => bv1 m c t 3 (by decide) 1 (by decide) r s) (sv m c t 2 (by decide)) (sv m c t 3 (by decide))).trans ?_
    exact mixP_att m c t 1 (by decide) r _ _ _ h1 (h2.trans (by show 640 + l.val = 512 + (128 * 1 + l.val); omega))
  refine cons_att (fun r l h1 h2 => ?_) fun n10 => ?_
  · try rw [(hs0_8 t).read_unread]
    refine (att_1_0 _ _ _ _ _ _ _ _ _ r l).trans ?_
    refine (att_pair (q := qrow m c t 1 (by decide) r) (kr := kwin m c t 1 (by decide)) (vr := vwin m c t 1 (by decide)) (B := bwin m c t 1 r) (sk := SK m c) 0 (by decide) l (fun a => qvj m c t 1 (by decide) r (by show 128 + r.val = 128 * 1 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 1 (by decide) r s) (fun s => bv1 m c t 1 (by decide) 1 (by decide) r s) (sv m c t 0 (by decide)) (sv m c t 1 (by decide))).trans ?_
    exact mixP_att m c t 1 (by decide) r _ _ _ h1 (h2.trans (by show 512 + l.val = 512 + (128 * 0 + l.val); omega))
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in the first 128 rows of heads 6 and 7. -/
theorem mix_A03 (c : Dev nD) (t : Fin cfg0.N) (g0 : t.val % 4 = 0) (z : S1x512x1024.Idx) (hr' : (z 1).val < 128) (hc : 896 ≤ (z 2).val) (hc' : (z 2).val < 1024) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => ?_) fun n03 => ?_
  · try rw [(hs0_8 t).read_unread]
    refine (att_0_3 _ _ _ _ _ _ _ _ _ r l).trans ?_
    refine (att_pair (q := qrow m c t 0 (by decide) r) (kr := kwin m c t 0 (by decide)) (vr := vwin m c t 0 (by decide)) (B := bwin m c t 0 r) (sk := SK m c) 3 (by decide) l (fun a => qvj m c t 0 (by decide) r (by show 0 + r.val = 128 * 0 + r.val; omega) (Fin.ext (by show 384 + a.val = 128 * 3 + a.val; omega)))
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => bv0 m c t (h := 6) (by decide) (off7 t) r s) (fun s => bv0 m c t (h := 7) (by decide) (off8 t) r s) (sv m c t 6 (by decide)) (sv m c t 7 (by decide))).trans ?_
    exact mixP_att m c t 0 (by decide) r _ _ _ h1 (h2.trans (by show 896 + l.val = 512 + (128 * 3 + l.val); omega))
  refine cons_att (fun r l h1 h2 => absurd h2 (by omega)) fun n02 => ?_
  refine cons_att (fun r l h1 h2 => absurd h2 (by omega)) fun n01 => ?_
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in the first 128 rows of heads 4 and 5. -/
theorem mix_A02 (c : Dev nD) (t : Fin cfg0.N) (g0 : t.val % 4 = 0) (z : S1x512x1024.Idx) (hr' : (z 1).val < 128) (hc : 768 ≤ (z 2).val) (hc' : (z 2).val < 896) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => ?_) fun n02 => ?_
  · try rw [(hs0_8 t).read_unread]
    refine (att_0_2 _ _ _ _ _ _ _ _ _ r l).trans ?_
    refine (att_pair (q := qrow m c t 0 (by decide) r) (kr := kwin m c t 0 (by decide)) (vr := vwin m c t 0 (by decide)) (B := bwin m c t 0 r) (sk := SK m c) 2 (by decide) l (fun a => qvj m c t 0 (by decide) r (by show 0 + r.val = 128 * 0 + r.val; omega) (Fin.ext (by show 256 + a.val = 128 * 2 + a.val; omega)))
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => bv0 m c t (h := 4) (by decide) (off5 t) r s) (fun s => bv0 m c t (h := 5) (by decide) (off6 t) r s) (sv m c t 4 (by decide)) (sv m c t 5 (by decide))).trans ?_
    exact mixP_att m c t 0 (by decide) r _ _ _ h1 (h2.trans (by show 768 + l.val = 512 + (128 * 2 + l.val); omega))
  refine cons_att (fun r l h1 h2 => absurd h2 (by omega)) fun n01 => ?_
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in the first 128 rows of heads 2 and 3. -/
theorem mix_A01 (c : Dev nD) (t : Fin cfg0.N) (g0 : t.val % 4 = 0) (z : S1x512x1024.Idx) (hr' : (z 1).val < 128) (hc : 640 ≤ (z 2).val) (hc' : (z 2).val < 768) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => absurd h2 (by omega)) fun n02 => ?_
  refine cons_att (fun r l h1 h2 => ?_) fun n01 => ?_
  · try rw [(hs0_8 t).read_unread]
    refine (att_0_1 _ _ _ _ _ _ _ _ _ r l).trans ?_
    refine (att_pair (q := qrow m c t 0 (by decide) r) (kr := kwin m c t 0 (by decide)) (vr := vwin m c t 0 (by decide)) (B := bwin m c t 0 r) (sk := SK m c) 1 (by decide) l (fun a => qvg m c t 0 (by decide) r (ldw1 m c t _) (ldw2 m c t _) (ldw3 m c t _) (ldw4 m c t _) (by show 0 + r.val = 128 * 0 + r.val; omega) (Fin.ext (by show 128 + a.val = 128 * 1 + a.val; omega)))
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => bv0 m c t (h := 2) (by decide) (off3 t) r s) (fun s => bv0 m c t (h := 3) (by decide) (off4 t) r s) (sv m c t 2 (by decide)) (sv m c t 3 (by decide))).trans ?_
    exact mixP_att m c t 0 (by decide) r _ _ _ h1 (h2.trans (by show 640 + l.val = 512 + (128 * 1 + l.val); omega))
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in the first 128 rows of heads 0 and 1. -/
theorem mix_A00 (c : Dev nD) (t : Fin cfg0.N) (g0 : t.val % 4 = 0) (z : S1x512x1024.Idx) (hr' : (z 1).val < 128) (hc : 512 ≤ (z 2).val) (hc' : (z 2).val < 640) :
    (outsAt0 m c t.val t.isLt).1 z = mixP m c t (z 1) (z 2) := by
  rw [outsAt0_A m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => absurd h2 (by omega)) fun n02 => ?_
  refine cons_att (fun r l h1 h2 => absurd h2 (by omega)) fun n01 => ?_
  refine cons_att (fun r l h1 h2 => ?_) fun n00 => ?_
  · try rw [(hs0_8 t).read_unread]
    refine (att_0_0 _ _ _ _ _ _ _ _ _ r l).trans ?_
    refine (att_pair (q := qrow m c t 0 (by decide) r) (kr := kwin m c t 0 (by decide)) (vr := vwin m c t 0 (by decide)) (B := bwin m c t 0 r) (sk := SK m c) 0 (by decide) l (fun a => qvg m c t 0 (by decide) r (ldw1 m c t _) (ldw2 m c t _) (ldw3 m c t _) (ldw4 m c t _) (by show 0 + r.val = 128 * 0 + r.val; omega) (Fin.ext (by show 0 + a.val = 128 * 0 + a.val; omega)))
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s a => win_row (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (low (fun y l => (km3 _ y l).trans (congrArg (fun q => varf q 3 l) (kM m c t g0 (fun y a => ldM m c t (seq t) _ y a (by omega)) y))) (fun y l => (km2 _ y l).trans (congrArg (fun q => varf q 2 l) (kM m c t g0 (fun y a => ldM m c t (seq t) _ y a (by omega)) y))) (fun y l => (km1 _ y l).trans (congrArg (fun q => varf q 1 l) (kM m c t g0 (fun y a => ldM m c t (seq t) _ y a (by omega)) y))) (fun y l => (km0 _ y l).trans (congrArg (fun q => varf q 0 l) (kM m c t g0 (fun y a => ldM m c t (seq t) _ y a (by omega)) y))))))))) (by decide) (by decide) s a)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => win_row (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (low (fun y l => (vm3 _ y l).trans (congrArg (fun q => varf q 3 l) (vM m c t g0 (fun y a => ldM m c t (seq t) _ y a (by omega)) y))) (fun y l => (vm2 _ y l).trans (congrArg (fun q => varf q 2 l) (vM m c t g0 (fun y a => ldM m c t (seq t) _ y a (by omega)) y))) (fun y l => (vm1 _ y l).trans (congrArg (fun q => varf q 1 l) (vM m c t g0 (fun y a => ldM m c t (seq t) _ y a (by omega)) y))) (fun y l => (vm0 _ y l).trans (congrArg (fun q => varf q 0 l) (vM m c t g0 (fun y a => ldM m c t (seq t) _ y a (by omega)) y))))))))) (by decide) (by decide) s l)
      (fun s => bv0 m c t (h := 0) (by decide) (off1 t) r s) (fun s => bv0 m c t (h := 1) (by decide) (off2 t) r s) (sv m c t 0 (by decide)) (sv m c t 1 (by decide))).trans ?_
    exact mixP_att m c t 0 (by decide) r _ _ _ h1 (h2.trans (by show 512 + l.val = 512 + (128 * 0 + l.val); omega))
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that begins a sequence, in the pooled columns. -/
theorem mix_Au (c : Dev nD) (t : Fin cfg0.N) (g0 : t.val % 4 = 0) (z : S1x512x1024.Idx) (hc : (z 2).val < 512) :
    (outsAt0 m c t.val t.isLt).1 z = mixP m c t (z 1) (z 2) := by
  rw [outsAt0_A m c t g0]
  frame_out
  refine cons_att (fun r l h1 h2 => absurd h2 (by omega)) fun n33 => ?_
  refine cons_att (fun r l h1 h2 => absurd h2 (by omega)) fun n32 => ?_
  refine cons_att (fun r l h1 h2 => absurd h2 (by omega)) fun n31 => ?_
  refine cons_att (fun r l h1 h2 => absurd h2 (by omega)) fun n30 => ?_
  refine cons_att (fun r l h1 h2 => absurd h2 (by omega)) fun n23 => ?_
  refine cons_att (fun r l h1 h2 => absurd h2 (by omega)) fun n22 => ?_
  refine cons_att (fun r l h1 h2 => absurd h2 (by omega)) fun n21 => ?_
  refine cons_att (fun r l h1 h2 => absurd h2 (by omega)) fun n20 => ?_
  refine cons_att (fun r l h1 h2 => absurd h2 (by omega)) fun n13 => ?_
  refine cons_att (fun r l h1 h2 => absurd h2 (by omega)) fun n12 => ?_
  refine cons_att (fun r l h1 h2 => absurd h2 (by omega)) fun n11 => ?_
  refine cons_att (fun r l h1 h2 => absurd h2 (by omega)) fun n10 => ?_
  refine cons_att (fun r l h1 h2 => absurd h2 (by omega)) fun n03 => ?_
  refine cons_att (fun r l h1 h2 => absurd h2 (by omega)) fun n02 => ?_
  refine cons_att (fun r l h1 h2 => absurd h2 (by omega)) fun n01 => ?_
  refine cons_att (fun r l h1 h2 => absurd h2 (by omega)) fun n00 => ?_
  refine cons_pool (fun r l h1 h2 => ?_) fun nu => ?_
  · try rw [(hs0_8 t).read_unread]
    refine (pool_at (f := back m c t r) (w := WP m c) (sc := SCL m c) (fun e => g0_at (f := back m c t r) (w := WP m c 0) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ (Nat.zero_add _)))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 1 15 rfl _ _ (Nat.zero_add _)))
        (fun x e => wv m c t 0 (by decide) x e) e)
      (fun e => g1_at (f := back m c t r) (w := WP m c 1) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 1 15 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 2 14 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 3 13 rfl _ _ rfl))
        (fun x e => wv m c t 1 (by decide) x e) e)
      (fun e => g2_at (f := back m c t r) (w := WP m c 2) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 1 15 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 2 14 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 3 13 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 4 12 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 5 11 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 6 10 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 7 9 rfl _ _ rfl))
        (fun x e => wv m c t 2 (by decide) x e) e)
      (fun e => g3_at (f := back m c t r) (w := WP m c 3) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 1 15 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 2 14 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 3 13 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 4 12 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 5 11 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 6 10 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 7 9 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 8 8 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 9 7 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 10 6 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 11 5 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 12 4 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 13 3 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 14 2 rfl _ _ rfl))
        (fun x => (u_cov (lo := 0) (u_tile (R := urow m c t) (fun y e => (us_at _ y e).trans (uT m c t y e)) fun x e _ hx => u_low (R := urow m c t) (fun y e => (sc16 _ _ y e).trans ((ldM m c t (seq t) _ y e (by omega)).trans (umeta m c t g0 y e))) x e hx) (by decide) (by decide) (by decide) r x).trans (uback m c t r 15 1 rfl _ _ rfl))
        (fun x e => wv m c t 3 (by decide) x e) e)
      (fun e => blk6 m c t e) l).trans ?_
    exact mixP_pool m c t r l _ _ (h1.trans (Nat.zero_add _)) (h2.trans (Nat.zero_add _))
  exact (cover (z 1).val (z 2).val (z 1).isLt (z 2).isLt n33 n32 n31 n30 n23 n22 n21 n20 n13 n12 n11 n10 n03 n02 n01 n00 nu).elim

/-- The mixer's block at a point that begins a sequence. -/
theorem mix_A (c : Dev nD) (t : Fin cfg0.N) (g0 : t.val % 4 = 0) (z : S1x512x1024.Idx) :
    (outsAt0 m c t.val t.isLt).1 z = mixP m c t (z 1) (z 2) := by
  have hz : (z 1).val < 512 := (z 1).isLt
  by_cases hu : (z 2).val < 512
  · exact mix_Au m c t g0 z hu
  rcases (by omega : (z 1).val < 128 ∨ (128 ≤ (z 1).val ∧ (z 1).val < 256) ∨ (256 ≤ (z 1).val ∧ (z 1).val < 384) ∨ 384 ≤ (z 1).val) with h | h | h | h
  · rcases (by have h2 : (z 2).val < 1024 := (z 2).isLt; omega : (z 2).val < 640 ∨ (640 ≤ (z 2).val ∧ (z 2).val < 768) ∨ (768 ≤ (z 2).val ∧ (z 2).val < 896) ∨ (896 ≤ (z 2).val ∧ (z 2).val < 1024)) with k | k | k | k
    · exact mix_A00 m c t g0 z h (by omega) k
    · exact mix_A01 m c t g0 z h k.1 k.2
    · exact mix_A02 m c t g0 z h k.1 k.2
    · exact mix_A03 m c t g0 z h k.1 k.2
  · exact mix_A1 m c t g0 z h.1 h.2 (by omega)
  · exact mix_A2 m c t g0 z h.1 h.2 (by omega)
  · exact mix_A3 m c t g0 z h hz (by omega)

end Cert.FrontIdeal.Out
-- ==== Proof.FrontMixB.lean ====
module

public import proofs.«01_k».proof.Proof.FrontLoads
public import proofs.«01_k».proof.Proof.FrontAtt

@[expose] public section

set_option maxRecDepth 16384

noncomputable section

namespace Cert.FrontIdeal.Out

open Idealize.ShloMosaic Idealize.ShloMosaic.TcCoe Idealize.SL.Sem
open Cert.FrontIdeal Cert.FrontIdeal.Gen Cert.FrontIdeal.Pay Cert.FrontIdeal.Scr Cert.Layer

variable (m : (ℓ : Loc nD τ sig) → Buf (Elt Ideal) ℓ)

/-- The mixer's block at a point that continues a sequence, in rows 384 to 511 of the attention columns. -/
theorem mix_B3 (c : Dev nD) (t : Fin cfg0.N) (g0 : ¬t.val % 4 = 0) (z : S1x512x1024.Idx) (hr : 384 ≤ (z 1).val) (hr' : (z 1).val < 512) (hc : 512 ≤ (z 2).val) :
    (outsAt0 m c t.val t.isLt).1 z = mixP m c t (z 1) (z 2) := by
  rw [outsAt0_B m c t g0]
  frame_out
  refine cons_att (fun r l h1 h2 => ?_) fun n33 => ?_
  · try rw [(hs0_8 t).read_unread]
    refine (att_3_3 _ _ _ _ _ _ _ _ _ r l).trans ?_
    refine (att_pair (q := qrow m c t 3 (by decide) r) (kr := kwin m c t 3 (by decide)) (vr := vwin m c t 3 (by decide)) (B := bwin m c t 3 r) (sk := SK m c) 3 (by decide) l (fun a => qvj m c t 3 (by decide) r (by show 384 + r.val = 128 * 3 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 3 (by decide) r s) (fun s => bv1 m c t 7 (by decide) 3 (by decide) r s) (sv m c t 6 (by decide)) (sv m c t 7 (by decide))).trans ?_
    exact mixP_att m c t 3 (by decide) r _ _ _ h1 (h2.trans (by show 896 + l.val = 512 + (128 * 3 + l.val); omega))
  refine cons_att (fun r l h1 h2 => ?_) fun n32 => ?_
  · try rw [(hs0_8 t).read_unread]
    refine (att_3_2 _ _ _ _ _ _ _ _ _ r l).trans ?_
    refine (att_pair (q := qrow m c t 3 (by decide) r) (kr := kwin m c t 3 (by decide)) (vr := vwin m c t 3 (by decide)) (B := bwin m c t 3 r) (sk := SK m c) 2 (by decide) l (fun a => qvj m c t 3 (by decide) r (by show 384 + r.val = 128 * 3 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 3 (by decide) r s) (fun s => bv1 m c t 5 (by decide) 3 (by decide) r s) (sv m c t 4 (by decide)) (sv m c t 5 (by decide))).trans ?_
    exact mixP_att m c t 3 (by decide) r _ _ _ h1 (h2.trans (by show 768 + l.val = 512 + (128 * 2 + l.val); omega))
  refine cons_att (fun r l h1 h2 => ?_) fun n31 => ?_
  · try rw [(hs0_8 t).read_unread]
    refine (att_3_1 _ _ _ _ _ _ _ _ _ r l).trans ?_
    refine (att_pair (q := qrow m c t 3 (by decide) r) (kr := kwin m c t 3 (by decide)) (vr := vwin m c t 3 (by decide)) (B := bwin m c t 3 r) (sk := SK m c) 1 (by decide) l (fun a => qvj m c t 3 (by decide) r (by show 384 + r.val = 128 * 3 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 3 (by decide) r s) (fun s => bv1 m c t 3 (by decide) 3 (by decide) r s) (sv m c t 2 (by decide)) (sv m c t 3 (by decide))).trans ?_
    exact mixP_att m c t 3 (by decide) r _ _ _ h1 (h2.trans (by show 640 + l.val = 512 + (128 * 1 + l.val); omega))
  refine cons_att (fun r l h1 h2 => ?_) fun n30 => ?_
  · try rw [(hs0_8 t).read_unread]
    refine (att_3_0 _ _ _ _ _ _ _ _ _ r l).trans ?_
    refine (att_pair (q := qrow m c t 3 (by decide) r) (kr := kwin m c t 3 (by decide)) (vr := vwin m c t 3 (by decide)) (B := bwin m c t 3 r) (sk := SK m c) 0 (by decide) l (fun a => qvj m c t 3 (by decide) r (by show 384 + r.val = 128 * 3 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 3 (by decide) r s) (fun s => bv1 m c t 1 (by decide) 3 (by decide) r s) (sv m c t 0 (by decide)) (sv m c t 1 (by decide))).trans ?_
    exact mixP_att m c t 3 (by decide) r _ _ _ h1 (h2.trans (by show 512 + l.val = 512 + (128 * 0 + l.val); omega))
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in rows 256 to 383 of the attention columns. -/
theorem mix_B2 (c : Dev nD) (t : Fin cfg0.N) (g0 : ¬t.val % 4 = 0) (z : S1x512x1024.Idx) (hr : 256 ≤ (z 1).val) (hr' : (z 1).val < 384) (hc : 512 ≤ (z 2).val) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => ?_) fun n23 => ?_
  · try rw [(hs0_8 t).read_unread]
    refine (att_2_3 _ _ _ _ _ _ _ _ _ r l).trans ?_
    refine (att_pair (q := qrow m c t 2 (by decide) r) (kr := kwin m c t 2 (by decide)) (vr := vwin m c t 2 (by decide)) (B := bwin m c t 2 r) (sk := SK m c) 3 (by decide) l (fun a => qvj m c t 2 (by decide) r (by show 256 + r.val = 128 * 2 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 2 (by decide) r s) (fun s => bv1 m c t 7 (by decide) 2 (by decide) r s) (sv m c t 6 (by decide)) (sv m c t 7 (by decide))).trans ?_
    exact mixP_att m c t 2 (by decide) r _ _ _ h1 (h2.trans (by show 896 + l.val = 512 + (128 * 3 + l.val); omega))
  refine cons_att (fun r l h1 h2 => ?_) fun n22 => ?_
  · try rw [(hs0_8 t).read_unread]
    refine (att_2_2 _ _ _ _ _ _ _ _ _ r l).trans ?_
    refine (att_pair (q := qrow m c t 2 (by decide) r) (kr := kwin m c t 2 (by decide)) (vr := vwin m c t 2 (by decide)) (B := bwin m c t 2 r) (sk := SK m c) 2 (by decide) l (fun a => qvj m c t 2 (by decide) r (by show 256 + r.val = 128 * 2 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 2 (by decide) r s) (fun s => bv1 m c t 5 (by decide) 2 (by decide) r s) (sv m c t 4 (by decide)) (sv m c t 5 (by decide))).trans ?_
    exact mixP_att m c t 2 (by decide) r _ _ _ h1 (h2.trans (by show 768 + l.val = 512 + (128 * 2 + l.val); omega))
  refine cons_att (fun r l h1 h2 => ?_) fun n21 => ?_
  · try rw [(hs0_8 t).read_unread]
    refine (att_2_1 _ _ _ _ _ _ _ _ _ r l).trans ?_
    refine (att_pair (q := qrow m c t 2 (by decide) r) (kr := kwin m c t 2 (by decide)) (vr := vwin m c t 2 (by decide)) (B := bwin m c t 2 r) (sk := SK m c) 1 (by decide) l (fun a => qvj m c t 2 (by decide) r (by show 256 + r.val = 128 * 2 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 2 (by decide) r s) (fun s => bv1 m c t 3 (by decide) 2 (by decide) r s) (sv m c t 2 (by decide)) (sv m c t 3 (by decide))).trans ?_
    exact mixP_att m c t 2 (by decide) r _ _ _ h1 (h2.trans (by show 640 + l.val = 512 + (128 * 1 + l.val); omega))
  refine cons_att (fun r l h1 h2 => ?_) fun n20 => ?_
  · try rw [(hs0_8 t).read_unread]
    refine (att_2_0 _ _ _ _ _ _ _ _ _ r l).trans ?_
    refine (att_pair (q := qrow m c t 2 (by decide) r) (kr := kwin m c t 2 (by decide)) (vr := vwin m c t 2 (by decide)) (B := bwin m c t 2 r) (sk := SK m c) 0 (by decide) l (fun a => qvj m c t 2 (by decide) r (by show 256 + r.val = 128 * 2 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 2 (by decide) r s) (fun s => bv1 m c t 1 (by decide) 2 (by decide) r s) (sv m c t 0 (by decide)) (sv m c t 1 (by decide))).trans ?_
    exact mixP_att m c t 2 (by decide) r _ _ _ h1 (h2.trans (by show 512 + l.val = 512 + (128 * 0 + l.val); omega))
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in rows 128 to 255 of the attention columns. -/
theorem mix_B1 (c : Dev nD) (t : Fin cfg0.N) (g0 : ¬t.val % 4 = 0) (z : S1x512x1024.Idx) (hr : 128 ≤ (z 1).val) (hr' : (z 1).val < 256) (hc : 512 ≤ (z 2).val) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => ?_) fun n13 => ?_
  · try rw [(hs0_8 t).read_unread]
    refine (att_1_3 _ _ _ _ _ _ _ _ _ r l).trans ?_
    refine (att_pair (q := qrow m c t 1 (by decide) r) (kr := kwin m c t 1 (by decide)) (vr := vwin m c t 1 (by decide)) (B := bwin m c t 1 r) (sk := SK m c) 3 (by decide) l (fun a => qvj m c t 1 (by decide) r (by show 128 + r.val = 128 * 1 + r.val; omega) (Fin.ext (by show 384 + a.val = 128 * 3 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 6 (by decide) 1 (by decide) r s) (fun s => bv1 m c t 7 (by decide) 1 (by decide) r s) (sv m c t 6 (by decide)) (sv m c t 7 (by decide))).trans ?_
    exact mixP_att m c t 1 (by decide) r _ _ _ h1 (h2.trans (by show 896 + l.val = 512 + (128 * 3 + l.val); omega))
  refine cons_att (fun r l h1 h2 => ?_) fun n12 => ?_
  · try rw [(hs0_8 t).read_unread]
    refine (att_1_2 _ _ _ _ _ _ _ _ _ r l).trans ?_
    refine (att_pair (q := qrow m c t 1 (by decide) r) (kr := kwin m c t 1 (by decide)) (vr := vwin m c t 1 (by decide)) (B := bwin m c t 1 r) (sk := SK m c) 2 (by decide) l (fun a => qvj m c t 1 (by decide) r (by show 128 + r.val = 128 * 1 + r.val; omega) (Fin.ext (by show 256 + a.val = 128 * 2 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 4 (by decide) 1 (by decide) r s) (fun s => bv1 m c t 5 (by decide) 1 (by decide) r s) (sv m c t 4 (by decide)) (sv m c t 5 (by decide))).trans ?_
    exact mixP_att m c t 1 (by decide) r _ _ _ h1 (h2.trans (by show 768 + l.val = 512 + (128 * 2 + l.val); omega))
  refine cons_att (fun r l h1 h2 => ?_) fun n11 => ?_
  · try rw [(hs0_8 t).read_unread]
    refine (att_1_1 _ _ _ _ _ _ _ _ _ r l).trans ?_
    refine (att_pair (q := qrow m c t 1 (by decide) r) (kr := kwin m c t 1 (by decide)) (vr := vwin m c t 1 (by decide)) (B := bwin m c t 1 r) (sk := SK m c) 1 (by decide) l (fun a => qvj m c t 1 (by decide) r (by show 128 + r.val = 128 * 1 + r.val; omega) (Fin.ext (by show 128 + a.val = 128 * 1 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 2 (by decide) 1 (by decide) r s) (fun s => bv1 m c t 3 (by decide) 1 (by decide) r s) (sv m c t 2 (by decide)) (sv m c t 3 (by decide))).trans ?_
    exact mixP_att m c t 1 (by decide) r _ _ _ h1 (h2.trans (by show 640 + l.val = 512 + (128 * 1 + l.val); omega))
  refine cons_att (fun r l h1 h2 => ?_) fun n10 => ?_
  · try rw [(hs0_8 t).read_unread]
    refine (att_1_0 _ _ _ _ _ _ _ _ _ r l).trans ?_
    refine (att_pair (q := qrow m c t 1 (by decide) r) (kr := kwin m c t 1 (by decide)) (vr := vwin m c t 1 (by decide)) (B := bwin m c t 1 r) (sk := SK m c) 0 (by decide) l (fun a => qvj m c t 1 (by decide) r (by show 128 + r.val = 128 * 1 + r.val; omega) (Fin.ext (by show 0 + a.val = 128 * 0 + a.val; omega)))
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s a => win_tile (R := krow m c t) (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (by decide) (by decide) (by decide) s a)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => win_tile (R := vrow m c t) (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (by decide) (by decide) (by decide) s l)
      (fun s => bv1 m c t 0 (by decide) 1 (by decide) r s) (fun s => bv1 m c t 1 (by decide) 1 (by decide) r s) (sv m c t 0 (by decide)) (sv m c t 1 (by decide))).trans ?_
    exact mixP_att m c t 1 (by decide) r _ _ _ h1 (h2.trans (by show 512 + l.val = 512 + (128 * 0 + l.val); omega))
  refine cons_att (fun r l h1 h2 => absurd h1 (by omega)) fun n03 => ?_
  refine cons_att (fun r l h1 h2 => absurd h1 (by omega)) fun n02 => ?_
  refine cons_att (fun r l h1 h2 => absurd h1 (by omega)) fun n01 => ?_
  refine cons_att (fun r l h1 h2 => absurd h1 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in the first 128 rows of heads 6 and 7. -/
theorem mix_B03 (c : Dev nD) (t : Fin cfg0.N) (g0 : ¬t.val % 4 = 0) (z : S1x512x1024.Idx) (hr' : (z 1).val < 128) (hc : 896 ≤ (z 2).val) (hc' : (z 2).val < 1024) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => ?_) fun n03 => ?_
  · try rw [(hs0_8 t).read_unread]
    refine (att_0_3 _ _ _ _ _ _ _ _ _ r l).trans ?_
    refine (att_pair (q := qrow m c t 0 (by decide) r) (kr := kwin m c t 0 (by decide)) (vr := vwin m c t 0 (by decide)) (B := bwin m c t 0 r) (sk := SK m c) 3 (by decide) l (fun a => qvj m c t 0 (by decide) r (by show 0 + r.val = 128 * 0 + r.val; omega) (Fin.ext (by show 384 + a.val = 128 * 3 + a.val; omega)))
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => bv0 m c t (h := 6) (by decide) (off7 t) r s) (fun s => bv0 m c t (h := 7) (by decide) (off8 t) r s) (sv m c t 6 (by decide)) (sv m c t 7 (by decide))).trans ?_
    exact mixP_att m c t 0 (by decide) r _ _ _ h1 (h2.trans (by show 896 + l.val = 512 + (128 * 3 + l.val); omega))
  refine cons_att (fun r l h1 h2 => absurd h2 (by omega)) fun n02 => ?_
  refine cons_att (fun r l h1 h2 => absurd h2 (by omega)) fun n01 => ?_
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in the first 128 rows of heads 4 and 5. -/
theorem mix_B02 (c : Dev nD) (t : Fin cfg0.N) (g0 : ¬t.val % 4 = 0) (z : S1x512x1024.Idx) (hr' : (z 1).val < 128) (hc : 768 ≤ (z 2).val) (hc' : (z 2).val < 896) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => ?_) fun n02 => ?_
  · try rw [(hs0_8 t).read_unread]
    refine (att_0_2 _ _ _ _ _ _ _ _ _ r l).trans ?_
    refine (att_pair (q := qrow m c t 0 (by decide) r) (kr := kwin m c t 0 (by decide)) (vr := vwin m c t 0 (by decide)) (B := bwin m c t 0 r) (sk := SK m c) 2 (by decide) l (fun a => qvj m c t 0 (by decide) r (by show 0 + r.val = 128 * 0 + r.val; omega) (Fin.ext (by show 256 + a.val = 128 * 2 + a.val; omega)))
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => bv0 m c t (h := 4) (by decide) (off5 t) r s) (fun s => bv0 m c t (h := 5) (by decide) (off6 t) r s) (sv m c t 4 (by decide)) (sv m c t 5 (by decide))).trans ?_
    exact mixP_att m c t 0 (by decide) r _ _ _ h1 (h2.trans (by show 768 + l.val = 512 + (128 * 2 + l.val); omega))
  refine cons_att (fun r l h1 h2 => absurd h2 (by omega)) fun n01 => ?_
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in the first 128 rows of heads 2 and 3. -/
theorem mix_B01 (c : Dev nD) (t : Fin cfg0.N) (g0 : ¬t.val % 4 = 0) (z : S1x512x1024.Idx) (hr' : (z 1).val < 128) (hc : 640 ≤ (z 2).val) (hc' : (z 2).val < 768) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => absurd h2 (by omega)) fun n02 => ?_
  refine cons_att (fun r l h1 h2 => ?_) fun n01 => ?_
  · try rw [(hs0_8 t).read_unread]
    refine (att_0_1 _ _ _ _ _ _ _ _ _ r l).trans ?_
    refine (att_pair (q := qrow m c t 0 (by decide) r) (kr := kwin m c t 0 (by decide)) (vr := vwin m c t 0 (by decide)) (B := bwin m c t 0 r) (sk := SK m c) 1 (by decide) l (fun a => qvg m c t 0 (by decide) r (ldw1 m c t _) (ldw2 m c t _) (ldw3 m c t _) (ldw4 m c t _) (by show 0 + r.val = 128 * 0 + r.val; omega) (Fin.ext (by show 128 + a.val = 128 * 1 + a.val; omega)))
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => bv0 m c t (h := 2) (by decide) (off3 t) r s) (fun s => bv0 m c t (h := 3) (by decide) (off4 t) r s) (sv m c t 2 (by decide)) (sv m c t 3 (by decide))).trans ?_
    exact mixP_att m c t 0 (by decide) r _ _ _ h1 (h2.trans (by show 640 + l.val = 512 + (128 * 1 + l.val); omega))
  refine cons_att (fun r l h1 h2 => absurd h2 (by omega)) fun n00 => ?_
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in the first 128 rows of heads 0 and 1. -/
theorem mix_B00 (c : Dev nD) (t : Fin cfg0.N) (g0 : ¬t.val % 4 = 0) (z : S1x512x1024.Idx) (hr' : (z 1).val < 128) (hc : 512 ≤ (z 2).val) (hc' : (z 2).val < 640) :
    (outsAt0 m c t.val t.isLt).1 z = mixP m c t (z 1) (z 2) := by
  rw [outsAt0_B m c t g0]
  frame_out
  refine cons_att (fun r l h1 h2 => absurd h1 (by omega)) fun n33 => ?_
  refine cons_att (fun r l h1 h2 => absurd h1 (by omega)) fun n32 => ?_
  refine cons_att (fun r l h1 h2 => absurd h1 (by omega)) fun n31 => ?_
  refine cons_att (fun r l h1 h2 => absurd h1 (by omega)) fun n30 => ?_
  refine cons_att (fun r l h1 h2 => absurd h1 (by omega)) fun n23 => ?_
  refine cons_att (fun r l h1 h2 => absurd h1 (by omega)) fun n22 => ?_
  refine cons_att (fun r l h1 h2 => absurd h1 (by omega)) fun n21 => ?_
  refine cons_att (fun r l h1 h2 => absurd h1 (by omega)) fun n20 => ?_
  refine cons_att (fun r l h1 h2 => absurd h1 (by omega)) fun n13 => ?_
  refine cons_att (fun r l h1 h2 => absurd h1 (by omega)) fun n12 => ?_
  refine cons_att (fun r l h1 h2 => absurd h1 (by omega)) fun n11 => ?_
  refine cons_att (fun r l h1 h2 => absurd h1 (by omega)) fun n10 => ?_
  refine cons_att (fun r l h1 h2 => absurd h2 (by omega)) fun n03 => ?_
  refine cons_att (fun r l h1 h2 => absurd h2 (by omega)) fun n02 => ?_
  refine cons_att (fun r l h1 h2 => absurd h2 (by omega)) fun n01 => ?_
  refine cons_att (fun r l h1 h2 => ?_) fun n00 => ?_
  · try rw [(hs0_8 t).read_unread]
    refine (att_0_0 _ _ _ _ _ _ _ _ _ r l).trans ?_
    refine (att_pair (q := qrow m c t 0 (by decide) r) (kr := kwin m c t 0 (by decide)) (vr := vwin m c t 0 (by decide)) (B := bwin m c t 0 r) (sk := SK m c) 0 (by decide) l (fun a => qvg m c t 0 (by decide) r (ldw1 m c t _) (ldw2 m c t _) (ldw3 m c t _) (ldw4 m c t _) (by show 0 + r.val = 128 * 0 + r.val; omega) (Fin.ext (by show 0 + a.val = 128 * 0 + a.val; omega)))
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s a => win_ld (R := krow m c t) (HasRow.mk' (tile (fun y l => (kt3 _ y l).trans (congrArg (fun q => varf q 3 l) (kT m c t y))) (fun y l => (kt2 _ y l).trans (congrArg (fun q => varf q 2 l) (kT m c t y))) (fun y l => (kt1 _ y l).trans (congrArg (fun q => varf q 1 l) (kT m c t y))) (fun y l => (kt0 _ y l).trans (congrArg (fun q => varf q 0 l) (kT m c t y)))) (HasLow.cons_tile (HasLow.cons_tile (HasLow.cons_tile (HasLow.cons_tile (kbase m c t g0 _)))))) (by decide) (by decide) s a)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => win_ld (R := vrow m c t) (HasRow.mk' (tile (fun y l => (vt3 _ y l).trans (congrArg (fun q => varf q 3 l) (vT m c t y))) (fun y l => (vt2 _ y l).trans (congrArg (fun q => varf q 2 l) (vT m c t y))) (fun y l => (vt1 _ y l).trans (congrArg (fun q => varf q 1 l) (vT m c t y))) (fun y l => (vt0 _ y l).trans (congrArg (fun q => varf q 0 l) (vT m c t y)))) (HasLow.cons_tile (HasLow.cons_tile (HasLow.cons_tile (HasLow.cons_tile (vbase m c t g0 _)))))) (by decide) (by decide) s l)
      (fun s => bv0 m c t (h := 0) (by decide) (off1 t) r s) (fun s => bv0 m c t (h := 1) (by decide) (off2 t) r s) (sv m c t 0 (by decide)) (sv m c t 1 (by decide))).trans ?_
    exact mixP_att m c t 0 (by decide) r _ _ _ h1 (h2.trans (by show 512 + l.val = 512 + (128 * 0 + l.val); omega))
  refine cons_pool (fun r l h1 h2 => absurd h2 (by omega)) fun nu => ?_
  exact (cover (z 1).val (z 2).val (z 1).isLt (z 2).isLt n33 n32 n31 n30 n23 n22 n21 n20 n13 n12 n11 n10 n03 n02 n01 n00 nu).elim

/-- The mixer's block at a point that continues a sequence, in the pooled columns. -/
theorem mix_Bu (c : Dev nD) (t : Fin cfg0.N) (g0 : ¬t.val % 4 = 0) (z : S1x512x1024.Idx) (hc : (z 2).val < 512) :
    (outsAt0 m c t.val t.isLt).1 z = mixP m c t (z 1) (z 2) := by
  rw [outsAt0_B m c t g0]
  frame_out
  refine cons_att (fun r l h1 h2 => absurd h2 (by omega)) fun n33 => ?_
  refine cons_att (fun r l h1 h2 => absurd h2 (by omega)) fun n32 => ?_
  refine cons_att (fun r l h1 h2 => absurd h2 (by omega)) fun n31 => ?_
  refine cons_att (fun r l h1 h2 => absurd h2 (by omega)) fun n30 => ?_
  refine cons_att (fun r l h1 h2 => absurd h2 (by omega)) fun n23 => ?_
  refine cons_att (fun r l h1 h2 => absurd h2 (by omega)) fun n22 => ?_
  refine cons_att (fun r l h1 h2 => absurd h2 (by omega)) fun n21 => ?_
  refine cons_att (fun r l h1 h2 => absurd h2 (by omega)) fun n20 => ?_
  refine cons_att (fun r l h1 h2 => absurd h2 (by omega)) fun n13 => ?_
  refine cons_att (fun r l h1 h2 => absurd h2 (by omega)) fun n12 => ?_
  refine cons_att (fun r l h1 h2 => absurd h2 (by omega)) fun n11 => ?_
  refine cons_att (fun r l h1 h2 => absurd h2 (by omega)) fun n10 => ?_
  refine cons_att (fun r l h1 h2 => absurd h2 (by omega)) fun n03 => ?_
  refine cons_att (fun r l h1 h2 => absurd h2 (by omega)) fun n02 => ?_
  refine cons_att (fun r l h1 h2 => absurd h2 (by omega)) fun n01 => ?_
  refine cons_att (fun r l h1 h2 => absurd h2 (by omega)) fun n00 => ?_
  refine cons_pool (fun r l h1 h2 => ?_) fun nu => ?_
  · try rw [(hs0_8 t).read_unread]
    refine (pool_at (f := back m c t r) (w := WP m c) (sc := SCL m c) (fun e => g0_at (f := back m c t r) (w := WP m c 0) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ (Nat.zero_add _)))
        (fun x => (u_ld (lo := 0) (u_tile (R := urow m c t) (fun y e => (us_at _ y e).trans (uT m c t y e)) fun x e _ hx => ubase m c t g0 _ x e hx) (by decide) (by decide) (by decide) r x).trans (uback m c t r 1 15 rfl _ _ (Nat.zero_add _)))
        (fun x e => wv m c t 0 (by decide) x e) e)
      (fun e => g1_at (f := back m c t r) (w := WP m c 1) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 1 15 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 2 14 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 3 13 rfl _ _ rfl))
        (fun x e => wv m c t 1 (by decide) x e) e)
      (fun e => g2_at (f := back m c t r) (w := WP m c 2) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 1 15 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 2 14 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 3 13 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 4 12 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 5 11 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 6 10 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 7 9 rfl _ _ rfl))
        (fun x e => wv m c t 2 (by decide) x e) e)
      (fun e => g3_at (f := back m c t r) (w := WP m c 3) (uback0 m c t r)
        (fun x => (u_cov (lo := 16) (u_tile (R := urow m c t) (fun y e => (us_at _ y e).trans (uT m c t y e)) fun x e h1 h2 => absurd h2 (by omega)) (by decide) (by decide) (by decide) r x).trans (uback m c t r 0 16 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 1 15 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 2 14 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 3 13 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 4 12 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 5 11 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 6 10 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 7 9 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 8 8 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 9 7 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 10 6 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 11 5 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 12 4 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 13 3 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 14 2 rfl _ _ rfl))
        (fun x => (u_ld (lo := 0) (u_tile (R := urow m c t) (fun y e => (us_at _ y e).trans (uT m c t y e)) fun x e _ hx => ubase m c t g0 _ x e hx) (by decide) (by decide) (by decide) r x).trans (uback m c t r 15 1 rfl _ _ rfl))
        (fun x e => wv m c t 3 (by decide) x e) e)
      (fun e => blk6 m c t e) l).trans ?_
    exact mixP_pool m c t r l _ _ (h1.trans (Nat.zero_add _)) (h2.trans (Nat.zero_add _))
  exact (cover (z 1).val (z 2).val (z 1).isLt (z 2).isLt n33 n32 n31 n30 n23 n22 n21 n20 n13 n12 n11 n10 n03 n02 n01 n00 nu).elim

/-- The mixer's block at a point that continues a sequence. -/
theorem mix_B (c : Dev nD) (t : Fin cfg0.N) (g0 : ¬t.val % 4 = 0) (z : S1x512x1024.Idx) :
    (outsAt0 m c t.val t.isLt).1 z = mixP m c t (z 1) (z 2) := by
  have hz : (z 1).val < 512 := (z 1).isLt
  by_cases hu : (z 2).val < 512
  · exact mix_Bu m c t g0 z hu
  rcases (by omega : (z 1).val < 128 ∨ (128 ≤ (z 1).val ∧ (z 1).val < 256) ∨ (256 ≤ (z 1).val ∧ (z 1).val < 384) ∨ 384 ≤ (z 1).val) with h | h | h | h
  · rcases (by have h2 : (z 2).val < 1024 := (z 2).isLt; omega : (z 2).val < 640 ∨ (640 ≤ (z 2).val ∧ (z 2).val < 768) ∨ (768 ≤ (z 2).val ∧ (z 2).val < 896) ∨ (896 ≤ (z 2).val ∧ (z 2).val < 1024)) with k | k | k | k
    · exact mix_B00 m c t g0 z h (by omega) k
    · exact mix_B01 m c t g0 z h k.1 k.2
    · exact mix_B02 m c t g0 z h k.1 k.2
    · exact mix_B03 m c t g0 z h k.1 k.2
  · exact mix_B1 m c t g0 z h.1 h.2 (by omega)
  · exact mix_B2 m c t g0 z h.1 h.2 (by omega)
  · exact mix_B3 m c t g0 z h hz (by omega)

end Cert.FrontIdeal.Out
-- ==== Proof.FrontVal.lean ====
module

public import proofs.«01_k».proof.Proof.FrontMixA
public import proofs.«01_k».proof.Proof.FrontMixB

@[expose] public section

set_option maxRecDepth 16384

noncomputable section

namespace Cert.FrontIdeal.Out

open Idealize.ShloMosaic Idealize.ShloMosaic.TcCoe Idealize.SL.Sem
open Idealize.ShloMosaic.Pipeline (Dat)
open Cert.FrontIdeal Cert.FrontIdeal.Gen Cert.FrontIdeal.Pay Cert.FrontIdeal.Scr Cert.Layer

variable (m : (ℓ : Loc nD τ sig) → Buf (Elt Ideal) ℓ)

/-- The mixer's whole result. -/
def mixW (c : Dev nD) : FVec Ideal S8x2048x1024 .bf16 := fun i => mixS (PP m c (i 0)) (BB m c) (SK m c) (WP m c) (SCL m c) (i 1) (i 2)
/-- The whole array of new keys: the last 128 rows of each sequence. -/
def nkW (c : Dev nD) : FVec Ideal S8x128x128 .f32 :=
  fun i => PP m c (i 0) ⟨1936 + (i 1).val, by have h : (i 1).val < 128 := (i 1).isLt; omega⟩ ⟨1024 + (i 2).val, by have h : (i 2).val < 128 := (i 2).isLt; omega⟩
/-- The whole array of new values: the last 128 rows of each sequence. -/
def nvW (c : Dev nD) : FVec Ideal S8x128x128 .f32 :=
  fun i => PP m c (i 0) ⟨1936 + (i 1).val, by have h : (i 1).val < 128 := (i 1).isLt; omega⟩ ⟨1152 + (i 2).val, by have h : (i 2).val < 128 := (i 2).isLt; omega⟩
/-- The whole array of new pooled-mixer rows: the last 16 rows of each sequence. -/
def npW (c : Dev nD) : FVec Ideal S8x16x512 .f32 :=
  fun i => PP m c (i 0) ⟨2048 + (i 1).val, by have h : (i 1).val < 16 := (i 1).isLt; omega⟩ ⟨(i 2).val, by have h : (i 2).val < 512 := (i 2).isLt; omega⟩

/-- The mixer's block at a point. -/
theorem mix_at (c : Dev nD) (t : Fin cfg0.N) (z : S1x512x1024.Idx) : (outsAt0 m c t.val t.isLt).1 z = mixP m c t (z 1) (z 2) := by
  by_cases h : t.val % 4 = 0
  · exact mix_A m c t h z
  · exact mix_B m c t h z

/-- The key rows a sequence's last point leaves. -/
theorem nk_pt (c : Dev nD) (t : Fin cfg0.N) (h : t.val % 4 = 3) (r a : Fin 128) :
    (outsAt0 m c t.val t.isLt).2.1 (ix3 0 r a) = PP m c (seq t) ⟨1936 + r.val, by omega⟩ ⟨1024 + a.val, by omega⟩ := by
  rw [outsAt0_B m c t (by omega)]
  frame_out
  refine (nk_at _ r a).trans ((k_at _ _ a).trans ((prj_at m c t _ _).trans ?_))
  congr 1
  exact Fin.ext (by show 16 + (512 * (t.val % 4) + (384 + r.val)) = 1936 + r.val; omega)

/-- The value rows a sequence's last point leaves. -/
theorem nv_pt (c : Dev nD) (t : Fin cfg0.N) (h : t.val % 4 = 3) (r a : Fin 128) :
    (outsAt0 m c t.val t.isLt).2.2.1 (ix3 0 r a) = PP m c (seq t) ⟨1936 + r.val, by omega⟩ ⟨1152 + a.val, by omega⟩ := by
  rw [outsAt0_B m c t (by omega)]
  frame_out
  refine (nv_at _ r a).trans ((v_at _ _ a).trans ((prj_at m c t _ _).trans ?_))
  congr 1
  exact Fin.ext (by show 16 + (512 * (t.val % 4) + (384 + r.val)) = 1936 + r.val; omega)

/-- The pooled-mixer rows a sequence's last point leaves. -/
theorem np_pt (c : Dev nD) (t : Fin cfg0.N) (h : t.val % 4 = 3) (r : Fin 16) (e : Fin 512) :
    (outsAt0 m c t.val t.isLt).2.2.2.1 (ix3 0 r e) = PP m c (seq t) ⟨2048 + r.val, by omega⟩ ⟨e.val, by omega⟩ := by
  rw [outsAt0_B m c t (by omega)]
  frame_out
  refine (np_at _ r e).trans ((u_at _ _ _ _ _ e).trans ((prj_at m c t _ _).trans ?_))
  congr 1
  exact Fin.ext (by show 16 + (512 * (t.val % 4) + (496 + r.val)) = 2048 + r.val; omega)

/-- The mixer's result after the run. -/
theorem final9 (c : Dev nD) : (dats m 0 c).arrAt 9 cfg0.N = mixW m c := by
  refine (dats m 0 c).arrAt_eq_of_covers 9 _ (by decide +kernel) fun t _ y => ?_
  blk_simp
  rw [after0_9]
  idx_vars y
  refine (mix_at m c t _).trans ?_
  refine (show mixP m c t y1 y2 = mixW m c (ix3 (seq t) (⟨512 * (t.val % 4) + y1.val, by omega⟩ : Fin 2048) y2) from rfl).trans (congrArg (mixW m c) ?_)
  blk_ext [idx t]

/-- The new keys after the run. -/
theorem final10 (c : Dev nD) : (dats m 0 c).arrAt 10 cfg0.N = nkW m c := by
  refine (dats m 0 c).arrAt_eq_of_covers 10 _ (by decide +kernel) fun t hf y => ?_
  have h3 := (flush0_10 t).mp hf
  blk_simp
  rw [after0_10]
  idx_vars y
  obtain rfl : y0 = 0 := Subsingleton.elim _ _
  refine (nk_pt m c t h3 y1 y2).trans ?_
  refine (show _ = nkW m c (ix3 (seq t) y1 y2) from rfl).trans (congrArg (nkW m c) ?_)
  blk_ext [idx t]

/-- The new values after the run. -/
theorem final11 (c : Dev nD) : (dats m 0 c).arrAt 11 cfg0.N = nvW m c := by
  refine (dats m 0 c).arrAt_eq_of_covers 11 _ (by decide +kernel) fun t hf y => ?_
  have h3 := (flush0_11 t).mp hf
  blk_simp
  rw [after0_11]
  idx_vars y
  obtain rfl : y0 = 0 := Subsingleton.elim _ _
  refine (nv_pt m c t h3 y1 y2).trans ?_
  refine (show _ = nvW m c (ix3 (seq t) y1 y2) from rfl).trans (congrArg (nvW m c) ?_)
  blk_ext [idx t]

/-- The new pooled-mixer rows after the run. -/
theorem final12 (c : Dev nD) : (dats m 0 c).arrAt 12 cfg0.N = npW m c := by
  refine (dats m 0 c).arrAt_eq_of_covers 12 _ (by decide +kernel) fun t hf y => ?_
  have h3 := (flush0_12 t).mp hf
  blk_simp
  rw [after0_12]
  idx_vars y
  obtain rfl : y0 = 0 := Subsingleton.elim _ _
  refine (np_pt m c t h3 y1 y2).trans ?_
  refine (show _ = npW m c (ix3 (seq t) y1 y2) from rfl).trans (congrArg (npW m c) ?_)
  blk_ext [idx t]

end Cert.FrontIdeal.Out
-- ==== Proof.FrontRows.lean ====
module

public import proofs.«01_k».proof.Proof.FrontSpec
public import proofs.«01_k».proof.Proof.Gen.FrontRefIdeal.Read

@[expose] public section

set_option maxRecDepth 16384

noncomputable section

namespace Cert.FrontRefIdeal.Rows

open Idealize.ShloMosaic Idealize.ShloMosaic.TcCoe Idealize.SL.Sem
open Cert.FrontRefIdeal Cert.FrontRefIdeal.Gen Cert.FrontRefIdeal.Read Cert.Layer

variable (x0 : FVec Ideal S8x2048x1024 .f32) (x1 : FVec Ideal S16x1280 .f32) (x2 : FVec Ideal S2x8x128x256 .f32) (x3 x4 : FVec Ideal S1024 .f32)
  (x5 : FVec Ideal S1x1024x1280 .f32) (x6 : FVec Ideal S1x4x128x128 .f32) (x7 : FVec Ideal S1x512 .f32) (x8 : FVec Ideal S1x8 .f32)

/-- The reference's normalised rows. -/
theorem emb_at (b : Fin 8) (t : Fin 2048) (d : Fin 1024) :
    val_main_v23 (F := Ideal) x0 x3 x4 (ix3 b t d) = ln (fun k => x0 (ix3 b t k)) (fun k => x3 (ix1 k)) (fun k => x4 (ix1 k)) d := by
  pointwise [val_main_cst, val_main_v0, val_main_v1, val_main_cst_0, val_main_v2, val_main_v3, val_main_v4, val_main_v5, val_main_v6, val_main_cst_1, val_main_v7, val_main_v8, val_main_cst_2, val_main_v9, val_main_v10, val_main_v11, val_main_v12, val_main_cst_3, val_main_v13, val_main_v14, val_main_v15, val_main_v16, val_main_v17, val_main_v18, val_main_v19, val_main_v20, val_main_v21, val_main_v22, val_main_v23, ln, mean, eps, width]

/-- The reference's projected rows. -/
theorem tok_at (b : Fin 8) (t : Fin 2048) (e : Fin 1280) :
    val_main_v27 (F := Ideal) x0 x3 x4 x5 (ix3 b t e) = prow (fun k => x0 (ix3 b t k)) (fun k => x3 (ix1 k)) (fun k => x4 (ix1 k)) (fun k e => x5 (ix3 0 k e)) e := by
  have h : val_main_v27 (F := Ideal) x0 x3 x4 x5 (ix3 b t e) = ∑ k : Fin 1024, val_main_v23 (F := Ideal) x0 x3 x4 (ix3 b t k) * x5 (ix3 0 k e) := by
    pointwise [val_main_v26, val_main_v27]
  refine h.trans ?_
  unfold prow
  exact Finset.sum_congr rfl fun k _ => congrArg (· * _) (emb_at x0 x3 x4 b t k)

/-- The projections of sequence `b`, over the reference's arguments. -/
def PR (b : Fin 8) : Fin 2064 → Fin 1280 → EReal :=
  projr (fun y e => x1 (ix2 y e)) (fun n k => x0 (ix3 b n k)) (fun k => x3 (ix1 k)) (fun k => x4 (ix1 k)) (fun k e => x5 (ix3 0 k e))

/-- The reference's projections: the meta rows, then the tokens'. -/
theorem proj_at (b : Fin 8) (n : Fin 2064) (e : Fin 1280) : val_main_v28 (F := Ideal) x0 x1 x3 x4 x5 (ix3 b n e) = PR x0 x1 x3 x4 x5 b n e := by
  have h : val_main_v28 (F := Ideal) x0 x1 x3 x4 x5 (ix3 b n e) = if h : n.val < 16 then x1 (ix2 ⟨n.val, h⟩ e) else val_main_v27 (F := Ideal) x0 x3 x4 x5 (ix3 b (⟨n.val - 16, by omega⟩ : Fin 2048) e) := by
    pointwise [val_main_v24, val_main_v25, val_main_v28]
  refine h.trans ?_
  unfold PR projr
  by_cases hn : n.val < 16
  · rw [dif_pos hn, dif_pos hn]
  · rw [dif_neg hn, dif_neg hn]; exact tok_at x0 x3 x4 x5 b _ e

/-- The reference's pooled-mixer columns. -/
theorem u_at (b : Fin 8) (n : Fin 2064) (e : Fin 512) : val_main_v29 (F := Ideal) x0 x1 x3 x4 x5 (ix3 b n e) = PR x0 x1 x3 x4 x5 b n ⟨e.val, by omega⟩ := by
  refine Eq.trans ?_ (proj_at x0 x1 x3 x4 x5 b n _)
  pointwise [val_main_v29]

/-- The reference's query columns. -/
theorem q_at (b : Fin 8) (n : Fin 2064) (e : Fin 512) : val_main_v30 (F := Ideal) x0 x1 x3 x4 x5 (ix3 b n e) = PR x0 x1 x3 x4 x5 b n ⟨512 + e.val, by omega⟩ := by
  refine Eq.trans ?_ (proj_at x0 x1 x3 x4 x5 b n _)
  pointwise [val_main_v30]

/-- The reference's key columns. -/
theorem k_at (b : Fin 8) (n : Fin 2064) (e : Fin 128) : val_main_v31 (F := Ideal) x0 x1 x3 x4 x5 (ix3 b n e) = PR x0 x1 x3 x4 x5 b n ⟨1024 + e.val, by omega⟩ := by
  refine Eq.trans ?_ (proj_at x0 x1 x3 x4 x5 b n _)
  pointwise [val_main_v31]

/-- The reference's value columns. -/
theorem v_at (b : Fin 8) (n : Fin 2064) (e : Fin 128) : val_main_v32 (F := Ideal) x0 x1 x3 x4 x5 (ix3 b n e) = PR x0 x1 x3 x4 x5 b n ⟨1152 + e.val, by omega⟩ := by
  refine Eq.trans ?_ (proj_at x0 x1 x3 x4 x5 b n _)
  pointwise [val_main_v32]

/-- The reference's last rows of these columns. -/
theorem nk_at (b : Fin 8) (r : Fin 128) (e : Fin 128) : val_main_v180 (F := Ideal) x0 x1 x3 x4 x5 (ix3 b r e) = PR x0 x1 x3 x4 x5 b ⟨1936 + r.val, by omega⟩ ⟨1024 + e.val, by omega⟩ := by
  refine Eq.trans ?_ (k_at x0 x1 x3 x4 x5 b _ e)
  pointwise [val_main_v180]

/-- The reference's last rows of these columns. -/
theorem nv_at (b : Fin 8) (r : Fin 128) (e : Fin 128) : val_main_v181 (F := Ideal) x0 x1 x3 x4 x5 (ix3 b r e) = PR x0 x1 x3 x4 x5 b ⟨1936 + r.val, by omega⟩ ⟨1152 + e.val, by omega⟩ := by
  refine Eq.trans ?_ (v_at x0 x1 x3 x4 x5 b _ e)
  pointwise [val_main_v181]

/-- The reference's last rows of these columns. -/
theorem np_at (b : Fin 8) (r : Fin 16) (e : Fin 512) : val_main_v182 (F := Ideal) x0 x1 x3 x4 x5 (ix3 b r e) = PR x0 x1 x3 x4 x5 b ⟨2048 + r.val, by omega⟩ ⟨e.val, by omega⟩ := by
  refine Eq.trans ?_ (u_at x0 x1 x3 x4 x5 b _ e)
  pointwise [val_main_v182]

/-- Group 0 of the reference's pooled mixer. -/
theorem g0_at (b : Fin 8) (R : Fin 2048) (e : Fin 128) : val_main_v45 (F := Ideal) x0 x1 x3 x4 x5 x6 (ix3 b R e)
    = ∑ x : Fin 128, (Ideal.div (val_main_v29 (F := Ideal) x0 x1 x3 x4 x5 (ix3 b (⟨16 + R.val, by omega⟩ : Fin 2064) (⟨x.val, by omega⟩ : Fin 512)) + val_main_v29 (F := Ideal) x0 x1 x3 x4 x5 (ix3 b (⟨15 + R.val, by omega⟩ : Fin 2064) (⟨x.val, by omega⟩ : Fin 512))) (Ideal.ofBits .f32 0x40000000#32)
        - val_main_v29 (F := Ideal) x0 x1 x3 x4 x5 (ix3 b (⟨16 + R.val, by omega⟩ : Fin 2064) (⟨x.val, by omega⟩ : Fin 512))) * x6 (ix4 0 0 x e) := by
  pointwise [val_main_v33, val_main_v34, val_main_cst_4, val_main_v35, val_main_v36, val_main_v37, val_main_v38, val_main_cst_5, val_main_v39, val_main_v40, val_main_v41, val_main_v42, val_main_v43, val_main_v44, val_main_v45]

/-- Group 1 of the reference's pooled mixer. -/
theorem g1_at (b : Fin 8) (R : Fin 2048) (e : Fin 128) : val_main_v62 (F := Ideal) x0 x1 x3 x4 x5 x6 (ix3 b R e)
    = ∑ x : Fin 128, (Ideal.div (val_main_v29 (F := Ideal) x0 x1 x3 x4 x5 (ix3 b (⟨16 + R.val, by omega⟩ : Fin 2064) (⟨128 + x.val, by omega⟩ : Fin 512)) + val_main_v29 (F := Ideal) x0 x1 x3 x4 x5 (ix3 b (⟨15 + R.val, by omega⟩ : Fin 2064) (⟨128 + x.val, by omega⟩ : Fin 512)) + val_main_v29 (F := Ideal) x0 x1 x3 x4 x5 (ix3 b (⟨14 + R.val, by omega⟩ : Fin 2064) (⟨128 + x.val, by omega⟩ : Fin 512)) + val_main_v29 (F := Ideal) x0 x1 x3 x4 x5 (ix3 b (⟨13 + R.val, by omega⟩ : Fin 2064) (⟨128 + x.val, by omega⟩ : Fin 512))) (Ideal.ofBits .f32 0x40800000#32)
        - val_main_v29 (F := Ideal) x0 x1 x3 x4 x5 (ix3 b (⟨16 + R.val, by omega⟩ : Fin 2064) (⟨128 + x.val, by omega⟩ : Fin 512))) * x6 (ix4 0 1 x e) := by
  pointwise [val_main_v46, val_main_v47, val_main_cst_6, val_main_v48, val_main_v49, val_main_v50, val_main_v51, val_main_v52, val_main_v53, val_main_v54, val_main_v55, val_main_cst_7, val_main_v56, val_main_v57, val_main_v58, val_main_v59, val_main_v60, val_main_v61, val_main_v62]

/-- Group 2 of the reference's pooled mixer. -/
theorem g2_at (b : Fin 8) (R : Fin 2048) (e : Fin 128) : val_main_v87 (F := Ideal) x0 x1 x3 x4 x5 x6 (ix3 b R e)
    = ∑ x : Fin 128, (Ideal.div (val_main_v29 (F := Ideal) x0 x1 x3 x4 x5 (ix3 b (⟨16 + R.val, by omega⟩ : Fin 2064) (⟨256 + x.val, by omega⟩ : Fin 512)) + val_main_v29 (F := Ideal) x0 x1 x3 x4 x5 (ix3 b (⟨15 + R.val, by omega⟩ : Fin 2064) (⟨256 + x.val, by omega⟩ : Fin 512)) + val_main_v29 (F := Ideal) x0 x1 x3 x4 x5 (ix3 b (⟨14 + R.val, by omega⟩ : Fin 2064) (⟨256 + x.val, by omega⟩ : Fin 512)) + val_main_v29 (F := Ideal) x0 x1 x3 x4 x5 (ix3 b (⟨13 + R.val, by omega⟩ : Fin 2064) (⟨256 + x.val, by omega⟩ : Fin 512)) + val_main_v29 (F := Ideal) x0 x1 x3 x4 x5 (ix3 b (⟨12 + R.val, by omega⟩ : Fin 2064) (⟨256 + x.val, by omega⟩ : Fin 512)) + val_main_v29 (F := Ideal) x0 x1 x3 x4 x5 (ix3 b (⟨11 + R.val, by omega⟩ : Fin 2064) (⟨256 + x.val, by omega⟩ : Fin 512)) + val_main_v29 (F := Ideal) x0 x1 x3 x4 x5 (ix3 b (⟨10 + R.val, by omega⟩ : Fin 2064) (⟨256 + x.val, by omega⟩ : Fin 512)) + val_main_v29 (F := Ideal) x0 x1 x3 x4 x5 (ix3 b (⟨9 + R.val, by omega⟩ : Fin 2064) (⟨256 + x.val, by omega⟩ : Fin 512))) (Ideal.ofBits .f32 0x41000000#32)
        - val_main_v29 (F := Ideal) x0 x1 x3 x4 x5 (ix3 b (⟨16 + R.val, by omega⟩ : Fin 2064) (⟨256 + x.val, by omega⟩ : Fin 512))) * x6 (ix4 0 2 x e) := by
  pointwise [val_main_v63, val_main_v64, val_main_cst_8, val_main_v65, val_main_v66, val_main_v67, val_main_v68, val_main_v69, val_main_v70, val_main_v71, val_main_v72, val_main_v73, val_main_v74, val_main_v75, val_main_v76, val_main_v77, val_main_v78, val_main_v79, val_main_v80, val_main_cst_9, val_main_v81, val_main_v82, val_main_v83, val_main_v84, val_main_v85, val_main_v86, val_main_v87]

/-- Group 3 of the reference's pooled mixer. -/
theorem g3_at (b : Fin 8) (R : Fin 2048) (e : Fin 128) : val_main_v128 (F := Ideal) x0 x1 x3 x4 x5 x6 (ix3 b R e)
    = ∑ x : Fin 128, (Ideal.div (val_main_v29 (F := Ideal) x0 x1 x3 x4 x5 (ix3 b (⟨16 + R.val, by omega⟩ : Fin 2064) (⟨384 + x.val, by omega⟩ : Fin 512)) + val_main_v29 (F := Ideal) x0 x1 x3 x4 x5 (ix3 b (⟨15 + R.val, by omega⟩ : Fin 2064) (⟨384 + x.val, by omega⟩ : Fin 512)) + val_main_v29 (F := Ideal) x0 x1 x3 x4 x5 (ix3 b (⟨14 + R.val, by omega⟩ : Fin 2064) (⟨384 + x.val, by omega⟩ : Fin 512)) + val_main_v29 (F := Ideal) x0 x1 x3 x4 x5 (ix3 b (⟨13 + R.val, by omega⟩ : Fin 2064) (⟨384 + x.val, by omega⟩ : Fin 512)) + val_main_v29 (F := Ideal) x0 x1 x3 x4 x5 (ix3 b (⟨12 + R.val, by omega⟩ : Fin 2064) (⟨384 + x.val, by omega⟩ : Fin 512)) + val_main_v29 (F := Ideal) x0 x1 x3 x4 x5 (ix3 b (⟨11 + R.val, by omega⟩ : Fin 2064) (⟨384 + x.val, by omega⟩ : Fin 512)) + val_main_v29 (F := Ideal) x0 x1 x3 x4 x5 (ix3 b (⟨10 + R.val, by omega⟩ : Fin 2064) (⟨384 + x.val, by omega⟩ : Fin 512)) + val_main_v29 (F := Ideal) x0 x1 x3 x4 x5 (ix3 b (⟨9 + R.val, by omega⟩ : Fin 2064) (⟨384 + x.val, by omega⟩ : Fin 512)) + val_main_v29 (F := Ideal) x0 x1 x3 x4 x5 (ix3 b (⟨8 + R.val, by omega⟩ : Fin 2064) (⟨384 + x.val, by omega⟩ : Fin 512)) + val_main_v29 (F := Ideal) x0 x1 x3 x4 x5 (ix3 b (⟨7 + R.val, by omega⟩ : Fin 2064) (⟨384 + x.val, by omega⟩ : Fin 512)) + val_main_v29 (F := Ideal) x0 x1 x3 x4 x5 (ix3 b (⟨6 + R.val, by omega⟩ : Fin 2064) (⟨384 + x.val, by omega⟩ : Fin 512)) + val_main_v29 (F := Ideal) x0 x1 x3 x4 x5 (ix3 b (⟨5 + R.val, by omega⟩ : Fin 2064) (⟨384 + x.val, by omega⟩ : Fin 512)) + val_main_v29 (F := Ideal) x0 x1 x3 x4 x5 (ix3 b (⟨4 + R.val, by omega⟩ : Fin 2064) (⟨384 + x.val, by omega⟩ : Fin 512)) + val_main_v29 (F := Ideal) x0 x1 x3 x4 x5 (ix3 b (⟨3 + R.val, by omega⟩ : Fin 2064) (⟨384 + x.val, by omega⟩ : Fin 512)) + val_main_v29 (F := Ideal) x0 x1 x3 x4 x5 (ix3 b (⟨2 + R.val, by omega⟩ : Fin 2064) (⟨384 + x.val, by omega⟩ : Fin 512)) + val_main_v29 (F := Ideal) x0 x1 x3 x4 x5 (ix3 b (⟨1 + R.val, by omega⟩ : Fin 2064) (⟨384 + x.val, by omega⟩ : Fin 512))) (Ideal.ofBits .f32 0x41800000#32)
        - val_main_v29 (F := Ideal) x0 x1 x3 x4 x5 (ix3 b (⟨16 + R.val, by omega⟩ : Fin 2064) (⟨384 + x.val, by omega⟩ : Fin 512))) * x6 (ix4 0 3 x e) := by
  pointwise [val_main_v88, val_main_v89, val_main_cst_10, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_cst_11, val_main_v122, val_main_v123, val_main_v124, val_main_v125, val_main_v126, val_main_v127, val_main_v128]

end Cert.FrontRefIdeal.Rows
-- ==== Proof.FrontRowsB.lean ====
module

public import proofs.«01_k».proof.Proof.FrontRows
public import proofs.«01_k».proof.Proof.AttSpec

@[expose] public section

set_option maxRecDepth 16384

noncomputable section

namespace Cert.FrontRefIdeal.Rows

open Idealize.ShloMosaic Idealize.ShloMosaic.TcCoe Idealize.SL.Sem
open Cert.FrontRefIdeal Cert.FrontRefIdeal.Gen Cert.FrontRefIdeal.Read Cert.Layer

variable (x0 : FVec Ideal S8x2048x1024 .f32) (x1 : FVec Ideal S16x1280 .f32) (x2 : FVec Ideal S2x8x128x256 .f32) (x3 x4 : FVec Ideal S1024 .f32)
  (x5 : FVec Ideal S1x1024x1280 .f32) (x6 : FVec Ideal S1x4x128x128 .f32) (x7 : FVec Ideal S1x512 .f32) (x8 : FVec Ideal S1x8 .f32)

/-- A padded row is zero or a row. -/
theorem pad_pos (r : Fin 2176) (h0 : r.val < 2176) (f : Fin 2064 → EReal) :
    (if h : 112 ≤ r.val ∧ r.val - 112 < 2064 then f ⟨r.val - 112, h.2⟩ else (FloatOps.sitofp (F := Ideal) .f32 0#32 : EReal))
      = if h : 112 ≤ r.val then f ⟨r.val - 112, by omega⟩ else 0 := by
  by_cases hr : 112 ≤ r.val
  · rw [dif_pos ⟨hr, by omega⟩, dif_pos hr]
  · rw [dif_neg (fun z => hr z.1), dif_neg hr]
    show (((0#32 : BitVec 32).toInt : ℝ) : EReal) = 0
    simp
/-- The padded query rows. -/
theorem qpad_at (b : Fin 8) (r : Fin 2176) (e : Fin 512) : val_main_v134 (F := Ideal) x0 x1 x3 x4 x5 (ix3 b r e) = padr (PR x0 x1 x3 x4 x5 b) r ⟨512 + e.val, by omega⟩ := by
  have h : val_main_v134 (F := Ideal) x0 x1 x3 x4 x5 (ix3 b r e) = if h : 112 ≤ r.val then val_main_v30 (F := Ideal) x0 x1 x3 x4 x5 (ix3 b (⟨r.val - 112, by omega⟩ : Fin 2064) e) else 0 := by
    pointwise [val_main_v134, val_main_call0_v0, val_main_c]
    generalize val_main_v30 (F := Ideal) x0 x1 x3 x4 x5 = y
    exact pad_pos r r.isLt (fun z => y (ix3 b z e))
  refine h.trans ?_
  unfold padr
  by_cases hr : r.val < 112
  · rw [dif_pos hr, dif_neg (by omega)]
  · rw [dif_neg hr, dif_pos (by omega)]; exact q_at x0 x1 x3 x4 x5 b _ e

/-- The padded key rows. -/
theorem kpad_at (b : Fin 8) (r : Fin 2176) (e : Fin 128) : val_main_v136 (F := Ideal) x0 x1 x3 x4 x5 (ix3 b r e) = padr (PR x0 x1 x3 x4 x5 b) r ⟨1024 + e.val, by omega⟩ := by
  have h : val_main_v136 (F := Ideal) x0 x1 x3 x4 x5 (ix3 b r e) = if h : 112 ≤ r.val then val_main_v31 (F := Ideal) x0 x1 x3 x4 x5 (ix3 b (⟨r.val - 112, by omega⟩ : Fin 2064) e) else 0 := by
    pointwise [val_main_v136, val_main_call1_v0, val_main_c_12]
    generalize val_main_v31 (F := Ideal) x0 x1 x3 x4 x5 = y
    exact pad_pos r r.isLt (fun z => y (ix3 b z e))
  refine h.trans ?_
  unfold padr
  by_cases hr : r.val < 112
  · rw [dif_pos hr, dif_neg (by omega)]
  · rw [dif_neg hr, dif_pos (by omega)]; exact k_at x0 x1 x3 x4 x5 b _ e

/-- The padded value rows. -/
theorem vpad_at (b : Fin 8) (r : Fin 2176) (e : Fin 128) : val_main_v138 (F := Ideal) x0 x1 x3 x4 x5 (ix3 b r e) = padr (PR x0 x1 x3 x4 x5 b) r ⟨1152 + e.val, by omega⟩ := by
  have h : val_main_v138 (F := Ideal) x0 x1 x3 x4 x5 (ix3 b r e) = if h : 112 ≤ r.val then val_main_v32 (F := Ideal) x0 x1 x3 x4 x5 (ix3 b (⟨r.val - 112, by omega⟩ : Fin 2064) e) else 0 := by
    pointwise [val_main_v138, val_main_call2_v0, val_main_c_13]
    generalize val_main_v32 (F := Ideal) x0 x1 x3 x4 x5 = y
    exact pad_pos r r.isLt (fun z => y (ix3 b z e))
  refine h.trans ?_
  unfold padr
  by_cases hr : r.val < 112
  · rw [dif_pos hr, dif_neg (by omega)]
  · rw [dif_neg hr, dif_pos (by omega)]; exact v_at x0 x1 x3 x4 x5 b _ e

/-- The query blocks. -/
theorem qb_at (b : Fin 8) (n : Fin 16) (q : Fin 128) (h : Fin 2) (g : Fin 4) (d : Fin 64) :
    val_main_v146 (F := Ideal) x0 x1 x3 x4 x5 (ix6 b n q h g d) = padr (PR x0 x1 x3 x4 x5 b) ⟨128 * (1 + n.val) + q.val, by omega⟩ ⟨512 + (256 * h.val + 64 * g.val + d.val), by omega⟩ := by
  refine Eq.trans ?_ (qpad_at x0 x1 x3 x4 x5 b (⟨128 * (1 + n.val) + q.val, by omega⟩ : Fin 2176) (⟨256 * h.val + 64 * g.val + d.val, by omega⟩ : Fin 512))
  pointwise [val_main_v135, val_main_v146]
  generalize val_main_v134 (F := Ideal) x0 x1 x3 x4 x5 = w
  exact congrArg₂ (fun y z => w (ix3 b y z)) (Fin.ext (by show (1 + n.val) * 128 + q.val = 128 * (1 + n.val) + q.val; omega))
    (Fin.ext (by show h.val * 256 + g.val * 64 + d.val = 256 * h.val + 64 * g.val + d.val; omega))

/-- The key windows: a block's 128 rows behind the 128 before. -/
theorem kk_at (b : Fin 8) (n : Fin 16) (s : Fin 256) (h : Fin 2) (d : Fin 64) :
    val_main_v142 (F := Ideal) x0 x1 x3 x4 x5 (ix5 b n s h d) = padr (PR x0 x1 x3 x4 x5 b) ⟨128 * n.val + s.val, by omega⟩ ⟨1024 + (64 * h.val + d.val), by omega⟩ := by
  refine Eq.trans ?_ (kpad_at x0 x1 x3 x4 x5 b (⟨128 * n.val + s.val, by omega⟩ : Fin 2176) (⟨64 * h.val + d.val, by omega⟩ : Fin 128))
  pointwise [val_main_v137, val_main_v140, val_main_v141, val_main_v142]
  have hc : (⟨h.val * 64 + d.val, by omega⟩ : Fin 128) = ⟨64 * h.val + d.val, by omega⟩ := Fin.ext (by show h.val * 64 + d.val = 64 * h.val + d.val; omega)
  by_cases hs : s.val < 128
  · rw [dif_pos hs]
    exact congrArg₂ (fun y z => val_main_v136 (F := Ideal) x0 x1 x3 x4 x5 (ix3 b y z)) (Fin.ext (by show n.val * 128 + s.val = 128 * n.val + s.val; omega)) hc
  · rw [dif_neg hs]
    exact congrArg₂ (fun y z => val_main_v136 (F := Ideal) x0 x1 x3 x4 x5 (ix3 b y z)) (Fin.ext (by show (1 + n.val) * 128 + (s.val - 128) = 128 * n.val + s.val; omega)) hc

/-- The value windows: a block's 128 rows behind the 128 before. -/
theorem vv_at (b : Fin 8) (n : Fin 16) (s : Fin 256) (h : Fin 2) (d : Fin 64) :
    val_main_v145 (F := Ideal) x0 x1 x3 x4 x5 (ix5 b n s h d) = padr (PR x0 x1 x3 x4 x5 b) ⟨128 * n.val + s.val, by omega⟩ ⟨1152 + (64 * h.val + d.val), by omega⟩ := by
  refine Eq.trans ?_ (vpad_at x0 x1 x3 x4 x5 b (⟨128 * n.val + s.val, by omega⟩ : Fin 2176) (⟨64 * h.val + d.val, by omega⟩ : Fin 128))
  pointwise [val_main_v139, val_main_v143, val_main_v144, val_main_v145]
  have hc : (⟨h.val * 64 + d.val, by omega⟩ : Fin 128) = ⟨64 * h.val + d.val, by omega⟩ := Fin.ext (by show h.val * 64 + d.val = 64 * h.val + d.val; omega)
  by_cases hs : s.val < 128
  · rw [dif_pos hs]
    exact congrArg₂ (fun y z => val_main_v138 (F := Ideal) x0 x1 x3 x4 x5 (ix3 b y z)) (Fin.ext (by show n.val * 128 + s.val = 128 * n.val + s.val; omega)) hc
  · rw [dif_neg hs]
    exact congrArg₂ (fun y z => val_main_v138 (F := Ideal) x0 x1 x3 x4 x5 (ix3 b y z)) (Fin.ext (by show (1 + n.val) * 128 + (s.val - 128) = 128 * n.val + s.val; omega)) hc

/-- The blocks' tables: the first block's, then the others'. -/
theorem tab_at (n : Fin 16) (h : Fin 8) (q : Fin 128) (s : Fin 256) :
    val_main_v154 (F := Ideal) x2 (ix4 n h q s) = x2 (ix4 (if n.val = 0 then 0 else 1) h q s) := by
  have e : val_main_v154 (F := Ideal) x2 (ix4 n h q s) = if k : n.val < 1 then val_main_v151 (F := Ideal) x2 (ix4 (⟨n.val, k⟩ : Fin 1) h q s) else val_main_v153 (F := Ideal) x2 (ix4 (⟨n.val - 1, by omega⟩ : Fin 15) h q s) := by
    pointwise [val_main_v154]
  refine e.trans ?_
  by_cases hn : n.val = 0
  · rw [dif_pos (show n.val < 1 by omega), if_pos hn]
    have e1 : ∀ y : Fin 1, val_main_v151 (F := Ideal) x2 (ix4 y h q s) = x2 (ix4 0 h q s) := fun y => by
      obtain rfl : y = 0 := Subsingleton.elim _ _
      pointwise [val_main_v151]
    exact e1 _
  · rw [dif_neg (show ¬ n.val < 1 by omega), if_neg hn]
    have e2 : ∀ y : Fin 15, val_main_v153 (F := Ideal) x2 (ix4 y h q s) = x2 (ix4 1 h q s) := fun y => by
      pointwise [val_main_v152, val_main_v153]
    exact e2 _

/-- The bias of block `n`: the first block's, or the others'. -/
theorem bias_at (b : Fin 8) (n : Fin 16) (h : Fin 2) (g : Fin 4) (q : Fin 128) (s : Fin 256) :
    val_main_v157 (F := Ideal) x2 (ix6 b n h g q s) = x2 (ix4 (if n.val = 0 then 0 else 1) (⟨4 * h.val + g.val, by omega⟩ : Fin 8) q s) := by
  have e5 : val_main_v155 (F := Ideal) x2 (ix5 n h g q s) = val_main_v154 (F := Ideal) x2 (ix4 n (⟨4 * h.val + g.val, by omega⟩ : Fin 8) q s) := by
    rw [val_main_v155_apply]
    refine congrArg (val_main_v154 (F := Ideal) x2) (funext fun a => Fin.ext ?_)
    match a with
    | ⟨0, _⟩ => show ((((n.val * 2 + h.val) * 4 + g.val) * 128 + q.val) * 256 + s.val) / 262144 = n.val; omega
    | ⟨1, _⟩ => show ((((n.val * 2 + h.val) * 4 + g.val) * 128 + q.val) * 256 + s.val) / 32768 % 8 = 4 * h.val + g.val; omega
    | ⟨2, _⟩ => show ((((n.val * 2 + h.val) * 4 + g.val) * 128 + q.val) * 256 + s.val) / 256 % 128 = q.val; omega
    | ⟨3, _⟩ => show ((((n.val * 2 + h.val) * 4 + g.val) * 128 + q.val) * 256 + s.val) % 256 = s.val; omega
  have i1 : idx_main_v157 (ix6 b n h g q s) = ix6 0 n h g q s := funext fun a => by match a with | ⟨0, _⟩ => rfl | ⟨1, _⟩ => rfl | ⟨2, _⟩ => rfl | ⟨3, _⟩ => rfl | ⟨4, _⟩ => rfl | ⟨5, _⟩ => rfl
  have i2 : idx_main_v156 (ix6 0 n h g q s) = ix5 n h g q s := funext fun a => by match a with | ⟨0, _⟩ => rfl | ⟨1, _⟩ => rfl | ⟨2, _⟩ => rfl | ⟨3, _⟩ => rfl | ⟨4, _⟩ => rfl
  rw [val_main_v157_apply, i1, val_main_v156_apply, i2]
  exact e5.trans (tab_at x2 n _ q s)

/-- The sink of head `4 h + g`. -/
theorem sink_at (h : Fin 2) (g : Fin 4) : val_main_v159 (F := Ideal) x8 (ix6 0 0 h g 0 0) = x8 (ix2 0 (⟨4 * h.val + g.val, by omega⟩ : Fin 8)) := by
  pointwise [val_main_v159]
  exact congrArg (fun y : Fin 8 => x8 (ix2 0 y)) (Fin.ext (by show h.val * 4 + g.val = 4 * h.val + g.val; omega))

/-- The scores. -/
theorem score_at (b : Fin 8) (n : Fin 16) (h : Fin 2) (g : Fin 4) (q : Fin 128) (s : Fin 256) :
    val_main_v158 (F := Ideal) x0 x1 x2 x3 x4 x5 (ix6 b n h g q s)
      = (∑ d : Fin 64, val_main_v142 (F := Ideal) x0 x1 x3 x4 x5 (ix5 b n s h d) * val_main_v146 (F := Ideal) x0 x1 x3 x4 x5 (ix6 b n q h g d)) * Ideal.ofBits .f32 0x3E000000#32
        + val_main_v157 (F := Ideal) x2 (ix6 b n h g q s) := by
  pointwise [val_main_v147, val_main_v148, val_main_cst_14, val_main_v149, val_main_v150, val_main_v158]

/-- The greatest score of a row. -/
theorem max_at (b : Fin 8) (n : Fin 16) (h : Fin 2) (g : Fin 4) (q : Fin 128) :
    val_main_v160 (F := Ideal) x0 x1 x2 x3 x4 x5 (ix5 b n h g q)
      = Finset.univ.fold max (Ideal.ofBits .f32 0xFF800000#32) (fun s : Fin 256 => val_main_v158 (F := Ideal) x0 x1 x2 x3 x4 x5 (ix6 b n h g q s)) := by
  unfold val_main_v160
  generalize val_main_v158 (F := Ideal) x0 x1 x2 x3 x4 x5 = y
  refine (Host.reduce_eq_fold_single (FloatOps.maximumf (F := Ideal) (φ := .f32)) y _ reducesTo_S8x16x2x4x128x256_S8x16x2x4x128_d5 (by decide) h_S_ _).trans ?_
  refine congrArg (fun f => Finset.univ.fold max (Ideal.ofBits .f32 0xFF800000#32) f) (funext fun s => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The greater of two. -/
theorem max_rfl (A B : EReal) : FloatOps.maximumf (F := Ideal) (φ := .f32) A B = max A B := rfl

/-- The greatest of the scores and the sink. -/
theorem smax_at (b : Fin 8) (n : Fin 16) (h : Fin 2) (g : Fin 4) (q : Fin 128) :
    val_main_v163 (F := Ideal) x0 x1 x2 x3 x4 x5 x8 (ix6 b n h g q 0) = smax (fun s => val_main_v158 (F := Ideal) x0 x1 x2 x3 x4 x5 (ix6 b n h g q s)) (x8 (ix2 0 (⟨4 * h.val + g.val, by omega⟩ : Fin 8))) := by
  have i1 : idx_main_v161 (ix6 b n h g q 0) = ix5 b n h g q := funext fun a => by match a with | ⟨0, _⟩ => rfl | ⟨1, _⟩ => rfl | ⟨2, _⟩ => rfl | ⟨3, _⟩ => rfl | ⟨4, _⟩ => rfl
  have i2 : idx_main_v162 (ix6 b n h g q 0) = ix6 0 0 h g 0 0 := funext fun a => by match a with | ⟨0, _⟩ => rfl | ⟨1, _⟩ => rfl | ⟨2, _⟩ => rfl | ⟨3, _⟩ => rfl | ⟨4, _⟩ => rfl | ⟨5, _⟩ => rfl
  rw [val_main_v163_apply, val_main_v161_apply, i1, val_main_v162_apply, i2, max_at, sink_at]
  unfold smax
  exact max_rfl _ _

/-- The exponential of a score. -/
theorem exp_at (b : Fin 8) (n : Fin 16) (h : Fin 2) (g : Fin 4) (q : Fin 128) (s : Fin 256) :
    val_main_v166 (F := Ideal) x0 x1 x2 x3 x4 x5 x8 (ix6 b n h g q s) = sexp (fun s => val_main_v158 (F := Ideal) x0 x1 x2 x3 x4 x5 (ix6 b n h g q s)) (x8 (ix2 0 (⟨4 * h.val + g.val, by omega⟩ : Fin 8))) s := by
  unfold sexp
  rw [← smax_at]
  pointwise [val_main_v164, val_main_v165, val_main_v166]

/-- A row's sum. -/
theorem red_at (y : FVec Ideal S8x16x2x4x128x256 .f32) (b : Fin 8) (n : Fin 16) (h : Fin 2) (g : Fin 4) (q : Fin 128) :
    Ideal.hostReduceAdd reducesTo_S8x16x2x4x128x256_S8x16x2x4x128_d5 y 0 (ix5 b n h g q) = ∑ s : Fin 256, y (ix6 b n h g q s) := by
  refine (Ideal.hostReduceAdd_single reducesTo_S8x16x2x4x128x256_S8x16x2x4x128_d5 (by decide) y 0 _).trans ((zero_add _).trans ?_)
  exact Finset.sum_congr rfl fun s _ => congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The sum of the exponentials, the sink's among them. -/
theorem den_at (b : Fin 8) (n : Fin 16) (h : Fin 2) (g : Fin 4) (q : Fin 128) :
    val_main_v172 (F := Ideal) x0 x1 x2 x3 x4 x5 x8 (ix6 b n h g q 0) = sden (fun s => val_main_v158 (F := Ideal) x0 x1 x2 x3 x4 x5 (ix6 b n h g q s)) (x8 (ix2 0 (⟨4 * h.val + g.val, by omega⟩ : Fin 8))) := by
  have e : val_main_v172 (F := Ideal) x0 x1 x2 x3 x4 x5 x8 (ix6 b n h g q 0) = (∑ s : Fin 256, val_main_v166 (F := Ideal) x0 x1 x2 x3 x4 x5 x8 (ix6 b n h g q s)) + Ideal.exp (val_main_v159 (F := Ideal) x8 (ix6 0 0 h g 0 0) - val_main_v163 (F := Ideal) x0 x1 x2 x3 x4 x5 x8 (ix6 b n h g q 0)) := by
    pointwise [val_main_cst_16, val_main_v167, val_main_v168, val_main_v169, val_main_v170, val_main_v171, val_main_v172]
    exact congrArg (· + _) (red_at _ b n h g q)
  rw [e, smax_at, sink_at]
  unfold sden
  simp only [exp_at]

/-- The weights. -/
theorem wgt_at (b : Fin 8) (n : Fin 16) (h : Fin 2) (g : Fin 4) (q : Fin 128) (s : Fin 256) :
    val_main_v174 (F := Ideal) x0 x1 x2 x3 x4 x5 x8 (ix6 b n h g q s) = Ideal.div (val_main_v166 (F := Ideal) x0 x1 x2 x3 x4 x5 x8 (ix6 b n h g q s)) (val_main_v172 (F := Ideal) x0 x1 x2 x3 x4 x5 x8 (ix6 b n h g q 0)) := by
  pointwise [val_main_v173, val_main_v174]

/-- The attention output of a token at a column. -/
theorem att_at (b : Fin 8) (R : Fin 2048) (e : Fin 512) :
    val_main_v177 (F := Ideal) x0 x1 x2 x3 x4 x5 x8 (ix3 b R e)
      = ∑ s : Fin 256, val_main_v145 (F := Ideal) x0 x1 x3 x4 x5 (ix5 b (⟨R.val / 128, by omega⟩ : Fin 16) s (⟨e.val / 256, by omega⟩ : Fin 2) (⟨e.val % 64, by omega⟩ : Fin 64))
          * val_main_v174 (F := Ideal) x0 x1 x2 x3 x4 x5 x8 (ix6 b (⟨R.val / 128, by omega⟩ : Fin 16) (⟨e.val / 256, by omega⟩ : Fin 2) (⟨e.val / 64 % 4, by omega⟩ : Fin 4) (⟨R.val % 128, by omega⟩ : Fin 128) s) := by
  pointwise [val_main_v175, val_main_v176, val_main_v177]

end Cert.FrontRefIdeal.Rows
-- ==== Proof.FrontReal.lean ====
module

public import proofs.«01_k».proof.Proof.FrontSpec
public import Idealize.ShloMosaic.Lib.IdealHost

@[expose] public section

set_option maxRecDepth 16384

noncomputable section

namespace Cert.Layer

open Idealize.ShloMosaic Idealize.ShloMosaic.TcCoe Idealize.SL.Sem

/-! ## The literals -/

theorem lit_eighth : Ideal.ofBits .f32 0x3E000000#32 = (((1 : ℝ) / 8 : ℝ) : EReal) := by
  simp [Ideal.ofBits, Ideal.ieee, -EReal.coe_mul]; norm_num
theorem lit_half : Ideal.ofBits .f32 0x3F000000#32 = (((1 : ℝ) / 2 : ℝ) : EReal) := by
  simp [Ideal.ofBits, Ideal.ieee, -EReal.coe_mul]; norm_num
theorem lit_quarter : Ideal.ofBits .f32 0x3E800000#32 = (((1 : ℝ) / 4 : ℝ) : EReal) := by
  simp [Ideal.ofBits, Ideal.ieee, -EReal.coe_mul]; norm_num
theorem lit_sixteenth : Ideal.ofBits .f32 0x3D800000#32 = (((1 : ℝ) / 16 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num
theorem lit_width : width = ((1024 : ℝ) : EReal) := by
  unfold width; simp [Ideal.ofBits, Ideal.ieee, -EReal.coe_mul]; norm_num
theorem lit_eps' : eps = ((10995116 / 1099511627776 : ℝ) : EReal) := by
  unfold eps; simp [Ideal.ofBits, Ideal.ieee, -EReal.coe_mul]; norm_num
theorem lit_eps : ∃ r : ℝ, 0 < r ∧ eps = (r : EReal) := ⟨_, by norm_num, lit_eps'⟩
theorem lit_bot : Ideal.ofBits .f32 0xFF800000#32 = ⊥ := by
  simp [Ideal.ofBits, Ideal.ieee]

/-- Dividing by the window is multiplying by its reciprocal. -/
theorem div_two (x : EReal) : Ideal.div x (Ideal.ofBits .f32 0x40000000#32) = x * Ideal.ofBits .f32 0x3F000000#32 := by
  rw [lit_two, lit_half, Ideal.div_coe (by norm_num)]
theorem div_four (x : EReal) : Ideal.div x (Ideal.ofBits .f32 0x40800000#32) = x * Ideal.ofBits .f32 0x3E800000#32 := by
  rw [lit_four, lit_quarter, Ideal.div_coe (by norm_num)]
theorem div_eight (x : EReal) : Ideal.div x (Ideal.ofBits .f32 0x41000000#32) = x * Ideal.ofBits .f32 0x3E000000#32 := by
  rw [lit_eight, lit_eighth, Ideal.div_coe (by norm_num)]
theorem div_sixteen (x : EReal) : Ideal.div x (Ideal.ofBits .f32 0x41800000#32) = x * Ideal.ofBits .f32 0x3D800000#32 := by
  rw [lit_sixteen, lit_sixteenth, Ideal.div_coe (by norm_num)]

/-! ## Real values -/

/-- The value is a real number. -/
def isR (x : EReal) : Prop := ∃ r : ℝ, x = (r : EReal)

theorem isR_coe (r : ℝ) : isR (r : EReal) := ⟨r, rfl⟩
theorem isR_zero : isR 0 := ⟨0, by norm_cast⟩
theorem isR_add {x y : EReal} (hx : isR x) (hy : isR y) : isR (x + y) := by
  obtain ⟨a, rfl⟩ := hx; obtain ⟨b, rfl⟩ := hy; exact ⟨a + b, by norm_cast⟩
theorem isR_sub {x y : EReal} (hx : isR x) (hy : isR y) : isR (x - y) := by
  obtain ⟨a, rfl⟩ := hx; obtain ⟨b, rfl⟩ := hy; exact ⟨a - b, by norm_cast⟩
theorem isR_mul {x y : EReal} (hx : isR x) (hy : isR y) : isR (x * y) := by
  obtain ⟨a, rfl⟩ := hx; obtain ⟨b, rfl⟩ := hy; exact ⟨a * b, by norm_cast⟩
/-- A sum of reals, cast term by term. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem isR_sum {ι : Type} {s : Finset ι} {f : ι → EReal} (h : ∀ i, isR (f i)) : isR (∑ i ∈ s, f i) := by
  choose g hg using h
  exact ⟨∑ i ∈ s, g i, by rw [coe_sum]; exact Finset.sum_congr rfl fun i _ => hg i⟩
/-- A value whose magnitude is below `+∞` is real. -/
theorem isR_of {x : EReal} (h1 : x ≠ ⊤) (h2 : x ≠ ⊥) : isR x := ⟨x.toReal, (EReal.coe_toReal h1 h2).symm⟩

theorem isR_mean {x : Fin 1024 → EReal} (hx : ∀ k, isR (x k)) : isR (mean x) := by
  unfold mean
  rw [lit_width, Ideal.div_coe (by norm_num)]
  exact isR_mul (isR_sum hx) (isR_coe _)

/-- A normalised row of reals is real: the variance is not negative, so the number under the root is positive. -/
theorem isR_ln {x g b : Fin 1024 → EReal} (hx : ∀ k, isR (x k)) (hg : ∀ k, isR (g k)) (hb : ∀ k, isR (b k)) (k : Fin 1024) :
    isR (ln x g b k) := by
  have hm := isR_mean hx
  obtain ⟨e, he, hE⟩ := lit_eps
  have hr : isR (Ideal.rsqrt (Ideal.div (∑ j, (x j - mean x) * (x j - mean x)) width + eps)) := by
    have hd : ∀ j, isR (x j - mean x) := fun j => isR_sub (hx j) hm
    choose d hd using hd
    have hs : (∑ j, (x j - mean x) * (x j - mean x)) = ((∑ j, d j * d j : ℝ) : EReal) := by
      rw [coe_sum]
      exact Finset.sum_congr rfl fun j _ => by rw [hd j]; norm_cast
    rw [hs, lit_width, Ideal.div_coe (by norm_num), hE, ← EReal.coe_mul, ← EReal.coe_add, Ideal.rsqrt_coe]
    have hp : 0 < (∑ j, d j * d j) * (1 / 1024) + e :=
      add_pos_of_nonneg_of_pos (mul_nonneg (Finset.sum_nonneg fun j _ => mul_self_nonneg _) (by norm_num)) he
    rw [if_neg (not_lt.mpr hp.le), if_neg hp.ne']
    exact isR_coe _
  unfold ln
  exact isR_add (isR_mul (isR_mul (isR_sub (hx k) hm) hr) (hg k)) (hb k)

theorem isR_projr {M : Fin 16 → Fin 1280 → EReal} {X : Fin 2048 → Fin 1024 → EReal} {g b : Fin 1024 → EReal} {w : Fin 1024 → Fin 1280 → EReal}
    (hM : ∀ i j, isR (M i j)) (hX : ∀ i j, isR (X i j)) (hg : ∀ k, isR (g k)) (hb : ∀ k, isR (b k)) (hw : ∀ i j, isR (w i j))
    (n : Fin 2064) (e : Fin 1280) : isR (projr M X g b w n e) := by
  unfold projr
  split
  · exact hM _ _
  · unfold prow
    exact isR_sum fun k => isR_mul (isR_ln (hX _) hg hb k) (hw k e)

theorem isR_padr {P : Fin 2064 → Fin 1280 → EReal} (hP : ∀ n e, isR (P n e)) (n : Fin 2176) (e : Fin 1280) : isR (padr P n e) := by
  unfold padr
  split
  · exact isR_zero
  · exact hP _ _

/-! ## The softmax -/

/-- The greatest of scores below `+∞` and a real sink is real. -/
theorem isR_smax {sc : Fin 256 → EReal} {sink : EReal} (hsc : ∀ s, sc s ≠ ⊤) (hsk : isR sink) : isR (smax sc sink) := by
  obtain ⟨k, rfl⟩ := hsk
  unfold smax
  have h1 : ∀ S : Finset (Fin 256), S.fold max (Ideal.ofBits .f32 0xFF800000#32) sc ≠ ⊤ := by
    intro S
    induction S using Finset.induction_on with
    | empty => rw [Finset.fold_empty, lit_bot]; exact bot_ne_top
    | insert a S ha ih =>
      rw [Finset.fold_insert ha]
      exact (max_lt (lt_top_iff_ne_top.mpr (hsc a)) (lt_top_iff_ne_top.mpr ih)).ne
  refine isR_of (max_lt (lt_top_iff_ne_top.mpr (h1 _)) (EReal.coe_lt_top k)).ne ?_
  exact (lt_of_lt_of_le (EReal.bot_lt_coe k) (le_max_right _ _)).ne'

/-- An exponential of a value below `+∞` less a real one is a nonnegative real. -/
theorem exp_sub_real {x m : EReal} (hx : x ≠ ⊤) (hm : isR m) : ∃ r : ℝ, 0 ≤ r ∧ Ideal.exp (x - m) = (r : EReal) := by
  obtain ⟨m, rfl⟩ := hm
  induction x using EReal.rec with
  | bot => exact ⟨0, le_rfl, by rw [EReal.bot_sub]; rw [Ideal.exp_bot]; norm_cast⟩
  | coe x => exact ⟨Real.exp (x - m), (Real.exp_pos _).le, by rw [← EReal.coe_sub, Ideal.exp_coe]⟩
  | top => exact absurd rfl hx

/-- The kernel's attention is the reference's, where no score is `+∞` and the sink and the values are real. -/
theorem att_eq {sc : Fin 256 → EReal} {sink : EReal} {v : Fin 256 → EReal} (hsc : ∀ s, sc s ≠ ⊤) (hsk : isR sink) (hv : ∀ s, isR (v s)) :
    attK sc sink v = attR sc sink v := by
  have hm := isR_smax hsc hsk
  have he : ∀ s, ∃ r : ℝ, 0 ≤ r ∧ sexp sc sink s = (r : EReal) := fun s => exp_sub_real (hsc s) hm
  choose e h0 he using he
  choose w hw using hv
  have hk : ∃ r : ℝ, 0 < r ∧ Ideal.exp (sink - smax sc sink) = (r : EReal) := by
    obtain ⟨k, rfl⟩ := hsk
    obtain ⟨m, hm⟩ := hm
    exact ⟨Real.exp (k - m), Real.exp_pos _, by rw [hm, ← EReal.coe_sub, Ideal.exp_coe]⟩
  obtain ⟨k, hk0, hk⟩ := hk
  have hd : sden sc sink = ((∑ s, e s + k : ℝ) : EReal) := by
    unfold sden
    rw [hk, EReal.coe_add, coe_sum]
    congr 1
    exact Finset.sum_congr rfl fun s _ => he s
  have hpos : (∑ s, e s + k : ℝ) ≠ 0 := (add_pos_of_nonneg_of_pos (Finset.sum_nonneg fun s _ => h0 s) hk0).ne'
  unfold attK attR
  rw [hd, Ideal.div_coe hpos, one_mul]
  have h1 : (∑ s, sexp sc sink s * v s) = ((∑ s, e s * w s : ℝ) : EReal) := by
    rw [coe_sum]
    exact Finset.sum_congr rfl fun s _ => by rw [he, hw, EReal.coe_mul]
  rw [h1, ← EReal.coe_mul, Finset.sum_mul, coe_sum]
  refine Finset.sum_congr rfl fun s _ => ?_
  rw [Ideal.div_coe hpos, he, hw, ← EReal.coe_mul, ← EReal.coe_mul]
  congr 1
  ring

/-- The reference's attention for token `R` at column `e`: scores scaled after their sum. -/
def attRS (P : Fin 2064 → Fin 1280 → EReal) (bias : Fin 2 → Fin 8 → Fin 128 → Fin 256 → EReal) (sk : Fin 8 → EReal) (R : Fin 2048) (e : Fin 512) : EReal :=
  attR (fun s => (∑ a : Fin 64, padr P ⟨128 * (R.val / 128) + s.val, by omega⟩ ⟨1024 + (64 * (e.val / 256) + a.val), by omega⟩
          * P ⟨16 + R.val, by omega⟩ ⟨512 + (64 * (e.val / 64) + a.val), by omega⟩) * Ideal.ofBits .f32 0x3E000000#32
        + bias (if R.val < 128 then 0 else 1) ⟨e.val / 64, by omega⟩ ⟨R.val % 128, by omega⟩ s)
    (sk ⟨e.val / 64, by omega⟩)
    (fun s => padr P ⟨128 * (R.val / 128) + s.val, by omega⟩ ⟨1152 + (64 * (e.val / 256) + e.val % 64), by omega⟩)

/-- Scaling the query first is scaling the sum, over reals. -/
theorem scale_sum {q k : Fin 64 → EReal} {c : EReal} (hq : ∀ a, isR (q a)) (hk : ∀ a, isR (k a)) (hc : isR c) :
    ∑ a, (q a * c) * k a = (∑ a, k a * q a) * c := by
  choose q' hq using hq
  choose k' hk using hk
  obtain ⟨c, rfl⟩ := hc
  have h1 : (∑ a, k a * q a) = ((∑ a, k' a * q' a : ℝ) : EReal) := by
    rw [coe_sum]
    exact Finset.sum_congr rfl fun a _ => by rw [hk, hq, EReal.coe_mul]
  rw [h1, ← EReal.coe_mul, Finset.sum_mul, coe_sum]
  refine Finset.sum_congr rfl fun a _ => ?_
  rw [hk, hq, ← EReal.coe_mul, ← EReal.coe_mul]
  congr 1
  ring

/-- A real and a value below `+∞` add up to one below `+∞`. -/
theorem add_ne_top {x y : EReal} (hx : isR x) (hy : y ≠ ⊤) : x + y ≠ ⊤ := by
  obtain ⟨x, rfl⟩ := hx
  induction y using EReal.rec with
  | bot => rw [EReal.add_bot]; exact bot_ne_top
  | coe y => rw [← EReal.coe_add]; exact EReal.coe_ne_top _
  | top => exact absurd rfl hy

/-- The kernel's attention is the reference's over real projections, a real sink and a bias below `+∞`. -/
theorem attS_ref {P : Fin 2064 → Fin 1280 → EReal} {bias : Fin 2 → Fin 8 → Fin 128 → Fin 256 → EReal} {sk : Fin 8 → EReal}
    (hP : ∀ n e, isR (P n e)) (hb : ∀ z h r s, bias z h r s ≠ ⊤) (hs : ∀ h, isR (sk h)) (R : Fin 2048) (e : Fin 512) :
    attS P bias sk R e = attRS P bias sk R e := by
  unfold attS headOut
  rw [att_eq (fun s => add_ne_top (isR_sum fun a => isR_mul (isR_mul (hP _ _) (lit_eighth ▸ isR_coe _)) (isR_padr hP _ _)) (hb _ _ _ _)) (hs _)
    (fun s => isR_padr hP _ _)]
  unfold attRS
  congr 1
  funext s
  rw [scale_sum (fun a => hP _ _) (fun a => isR_padr hP _ _) (lit_eighth ▸ isR_coe _)]

/-- The reference's mixer output: the pooled mixer's columns, then its attention's. -/
def mixR (P : Fin 2064 → Fin 1280 → EReal) (bias : Fin 2 → Fin 8 → Fin 128 → Fin 256 → EReal) (sk : Fin 8 → EReal)
    (W : Fin 4 → Fin 128 → Fin 128 → EReal) (sc : Fin 512 → EReal) (R : Fin 2048) (c : Fin 1024) : EReal :=
  if h : c.val < 512 then poolS P W sc R ⟨c.val, h⟩ else attRS P bias sk R ⟨c.val - 512, by omega⟩

/-- The two mixers agree over real projections, a real sink and a bias below `+∞`. -/
theorem mix_ref {P : Fin 2064 → Fin 1280 → EReal} {bias : Fin 2 → Fin 8 → Fin 128 → Fin 256 → EReal} {sk : Fin 8 → EReal}
    (W : Fin 4 → Fin 128 → Fin 128 → EReal) (sc : Fin 512 → EReal)
    (hP : ∀ n e, isR (P n e)) (hb : ∀ z h r s, bias z h r s ≠ ⊤) (hs : ∀ h, isR (sk h)) (R : Fin 2048) (c : Fin 1024) :
    mixS P bias sk W sc R c = mixR P bias sk W sc R c := by
  unfold mixS mixR
  split
  · rfl
  · exact attS_ref hP hb hs R _

end Cert.Layer
-- ==== Proof.FrontRowsC.lean ====
module

public import proofs.«01_k».proof.Proof.FrontRowsB
public import proofs.«01_k».proof.Proof.FrontReal
public import proofs.«01_k».proof.Proof.AttSpec

@[expose] public section

set_option maxRecDepth 16384

noncomputable section

namespace Cert.FrontRefIdeal.Rows

open Idealize.ShloMosaic Idealize.ShloMosaic.TcCoe Idealize.SL.Sem
open Cert.FrontRefIdeal Cert.FrontRefIdeal.Gen Cert.FrontRefIdeal.Read Cert.Layer

variable (x0 : FVec Ideal S8x2048x1024 .f32) (x1 : FVec Ideal S16x1280 .f32) (x2 : FVec Ideal S2x8x128x256 .f32) (x3 x4 : FVec Ideal S1024 .f32)
  (x5 : FVec Ideal S1x1024x1280 .f32) (x6 : FVec Ideal S1x4x128x128 .f32) (x7 : FVec Ideal S1x512 .f32) (x8 : FVec Ideal S1x8 .f32)

/-- The pooled mixer's rows, `i` rows back from token `R`. -/
def UU (b : Fin 8) (R : Fin 2048) : Fin 16 → Fin 512 → EReal := fun i c => PR x0 x1 x3 x4 x5 b ⟨16 + R.val - i.val, by omega⟩ ⟨c.val, by omega⟩
/-- The groups' weights. -/
def WW (g : Fin 4) (a e : Fin 128) : EReal := x6 (ix4 0 g a e)

/-- A row back. -/
theorem back_at (b : Fin 8) (R : Fin 2048) (i : Fin 16) (n : Fin 2064) (hn : n.val = 16 + R.val - i.val) (c : Fin 512) :
    val_main_v29 (F := Ideal) x0 x1 x3 x4 x5 (ix3 b n c) = UU x0 x1 x3 x4 x5 b R i c := by
  rw [u_at]
  unfold UU
  exact congrArg (fun y => PR x0 x1 x3 x4 x5 b y ⟨c.val, by omega⟩) (Fin.ext hn)

/-- Group 0 of the reference's pooled mixer. -/
theorem grp0_at (b : Fin 8) (R : Fin 2048) (e : Fin 128) :
    val_main_v45 (F := Ideal) x0 x1 x3 x4 x5 x6 (ix3 b R e) = grp0 (UU x0 x1 x3 x4 x5 b R) (WW x6 0) e := by
  rw [g0_at]
  unfold grp0
  refine Finset.sum_congr rfl fun x _ => ?_
  rw [div_two, back_at x0 x1 x3 x4 x5 b R 0 (⟨16 + R.val, by omega⟩ : Fin 2064) (by show 16 + R.val = 16 + R.val - 0; omega), back_at x0 x1 x3 x4 x5 b R 1 (⟨15 + R.val, by omega⟩ : Fin 2064) (by show 15 + R.val = 16 + R.val - 1; omega)]
  rfl

/-- Group 1 of the reference's pooled mixer. -/
theorem grp1_at (b : Fin 8) (R : Fin 2048) (e : Fin 128) :
    val_main_v62 (F := Ideal) x0 x1 x3 x4 x5 x6 (ix3 b R e) = grp1 (UU x0 x1 x3 x4 x5 b R) (WW x6 1) e := by
  rw [g1_at]
  unfold grp1
  refine Finset.sum_congr rfl fun x _ => ?_
  rw [div_four, back_at x0 x1 x3 x4 x5 b R 0 (⟨16 + R.val, by omega⟩ : Fin 2064) (by show 16 + R.val = 16 + R.val - 0; omega), back_at x0 x1 x3 x4 x5 b R 1 (⟨15 + R.val, by omega⟩ : Fin 2064) (by show 15 + R.val = 16 + R.val - 1; omega), back_at x0 x1 x3 x4 x5 b R 2 (⟨14 + R.val, by omega⟩ : Fin 2064) (by show 14 + R.val = 16 + R.val - 2; omega), back_at x0 x1 x3 x4 x5 b R 3 (⟨13 + R.val, by omega⟩ : Fin 2064) (by show 13 + R.val = 16 + R.val - 3; omega)]
  rfl

/-- Group 2 of the reference's pooled mixer. -/
theorem grp2_at (b : Fin 8) (R : Fin 2048) (e : Fin 128) :
    val_main_v87 (F := Ideal) x0 x1 x3 x4 x5 x6 (ix3 b R e) = grp2 (UU x0 x1 x3 x4 x5 b R) (WW x6 2) e := by
  rw [g2_at]
  unfold grp2
  refine Finset.sum_congr rfl fun x _ => ?_
  rw [div_eight, back_at x0 x1 x3 x4 x5 b R 0 (⟨16 + R.val, by omega⟩ : Fin 2064) (by show 16 + R.val = 16 + R.val - 0; omega), back_at x0 x1 x3 x4 x5 b R 1 (⟨15 + R.val, by omega⟩ : Fin 2064) (by show 15 + R.val = 16 + R.val - 1; omega), back_at x0 x1 x3 x4 x5 b R 2 (⟨14 + R.val, by omega⟩ : Fin 2064) (by show 14 + R.val = 16 + R.val - 2; omega), back_at x0 x1 x3 x4 x5 b R 3 (⟨13 + R.val, by omega⟩ : Fin 2064) (by show 13 + R.val = 16 + R.val - 3; omega), back_at x0 x1 x3 x4 x5 b R 4 (⟨12 + R.val, by omega⟩ : Fin 2064) (by show 12 + R.val = 16 + R.val - 4; omega), back_at x0 x1 x3 x4 x5 b R 5 (⟨11 + R.val, by omega⟩ : Fin 2064) (by show 11 + R.val = 16 + R.val - 5; omega), back_at x0 x1 x3 x4 x5 b R 6 (⟨10 + R.val, by omega⟩ : Fin 2064) (by show 10 + R.val = 16 + R.val - 6; omega), back_at x0 x1 x3 x4 x5 b R 7 (⟨9 + R.val, by omega⟩ : Fin 2064) (by show 9 + R.val = 16 + R.val - 7; omega)]
  rfl

/-- Group 3 of the reference's pooled mixer. -/
theorem grp3_at (b : Fin 8) (R : Fin 2048) (e : Fin 128) :
    val_main_v128 (F := Ideal) x0 x1 x3 x4 x5 x6 (ix3 b R e) = grp3 (UU x0 x1 x3 x4 x5 b R) (WW x6 3) e := by
  rw [g3_at]
  unfold grp3
  refine Finset.sum_congr rfl fun x _ => ?_
  rw [div_sixteen, back_at x0 x1 x3 x4 x5 b R 0 (⟨16 + R.val, by omega⟩ : Fin 2064) (by show 16 + R.val = 16 + R.val - 0; omega), back_at x0 x1 x3 x4 x5 b R 1 (⟨15 + R.val, by omega⟩ : Fin 2064) (by show 15 + R.val = 16 + R.val - 1; omega), back_at x0 x1 x3 x4 x5 b R 2 (⟨14 + R.val, by omega⟩ : Fin 2064) (by show 14 + R.val = 16 + R.val - 2; omega), back_at x0 x1 x3 x4 x5 b R 3 (⟨13 + R.val, by omega⟩ : Fin 2064) (by show 13 + R.val = 16 + R.val - 3; omega), back_at x0 x1 x3 x4 x5 b R 4 (⟨12 + R.val, by omega⟩ : Fin 2064) (by show 12 + R.val = 16 + R.val - 4; omega), back_at x0 x1 x3 x4 x5 b R 5 (⟨11 + R.val, by omega⟩ : Fin 2064) (by show 11 + R.val = 16 + R.val - 5; omega), back_at x0 x1 x3 x4 x5 b R 6 (⟨10 + R.val, by omega⟩ : Fin 2064) (by show 10 + R.val = 16 + R.val - 6; omega), back_at x0 x1 x3 x4 x5 b R 7 (⟨9 + R.val, by omega⟩ : Fin 2064) (by show 9 + R.val = 16 + R.val - 7; omega), back_at x0 x1 x3 x4 x5 b R 8 (⟨8 + R.val, by omega⟩ : Fin 2064) (by show 8 + R.val = 16 + R.val - 8; omega), back_at x0 x1 x3 x4 x5 b R 9 (⟨7 + R.val, by omega⟩ : Fin 2064) (by show 7 + R.val = 16 + R.val - 9; omega), back_at x0 x1 x3 x4 x5 b R 10 (⟨6 + R.val, by omega⟩ : Fin 2064) (by show 6 + R.val = 16 + R.val - 10; omega), back_at x0 x1 x3 x4 x5 b R 11 (⟨5 + R.val, by omega⟩ : Fin 2064) (by show 5 + R.val = 16 + R.val - 11; omega), back_at x0 x1 x3 x4 x5 b R 12 (⟨4 + R.val, by omega⟩ : Fin 2064) (by show 4 + R.val = 16 + R.val - 12; omega), back_at x0 x1 x3 x4 x5 b R 13 (⟨3 + R.val, by omega⟩ : Fin 2064) (by show 3 + R.val = 16 + R.val - 13; omega), back_at x0 x1 x3 x4 x5 b R 14 (⟨2 + R.val, by omega⟩ : Fin 2064) (by show 2 + R.val = 16 + R.val - 14; omega), back_at x0 x1 x3 x4 x5 b R 15 (⟨1 + R.val, by omega⟩ : Fin 2064) (by show 1 + R.val = 16 + R.val - 15; omega)]
  rfl

/-- The pooled mixer's columns. -/
theorem pool_at (b : Fin 8) (R : Fin 2048) (e : Fin 512) :
    val_main_v133 (F := Ideal) x0 x1 x3 x4 x5 x6 x7 (ix3 b R e) = poolS (PR x0 x1 x3 x4 x5 b) (WW x6) (fun e => x7 (ix2 0 e)) R e := by
  have h : val_main_v133 (F := Ideal) x0 x1 x3 x4 x5 x6 x7 (ix3 b R e)
      = (if h : e.val < 128 then val_main_v45 (F := Ideal) x0 x1 x3 x4 x5 x6 (ix3 b R (⟨e.val, by omega⟩ : Fin 128))
        else if h : e.val - 128 < 128 then val_main_v62 (F := Ideal) x0 x1 x3 x4 x5 x6 (ix3 b R (⟨e.val - 128, by omega⟩ : Fin 128))
        else if h : e.val - 128 - 128 < 128 then val_main_v87 (F := Ideal) x0 x1 x3 x4 x5 x6 (ix3 b R (⟨e.val - 128 - 128, by omega⟩ : Fin 128))
        else val_main_v128 (F := Ideal) x0 x1 x3 x4 x5 x6 (ix3 b R (⟨e.val - 128 - 128 - 128, by omega⟩ : Fin 128))) * x7 (ix2 0 e) := by
    pointwise [val_main_v129, val_main_v130, val_main_v131, val_main_v132, val_main_v133]
  rw [h]
  simp only [grp0_at, grp1_at, grp2_at, grp3_at]
  rfl

/-- The attention's weights and values. -/
theorem attR_at (b : Fin 8) (R : Fin 2048) (e : Fin 512) :
    val_main_v177 (F := Ideal) x0 x1 x2 x3 x4 x5 x8 (ix3 b R e)
      = attR (fun s => val_main_v158 (F := Ideal) x0 x1 x2 x3 x4 x5 (ix6 b (⟨R.val / 128, by omega⟩ : Fin 16) (⟨e.val / 256, by omega⟩ : Fin 2) (⟨e.val / 64 % 4, by omega⟩ : Fin 4) (⟨R.val % 128, by omega⟩ : Fin 128) s))
          (x8 (ix2 0 (⟨4 * (e.val / 256) + e.val / 64 % 4, by omega⟩ : Fin 8)))
          (fun s => padr (PR x0 x1 x3 x4 x5 b) ⟨128 * (R.val / 128) + s.val, by omega⟩ ⟨1152 + (64 * (e.val / 256) + e.val % 64), by omega⟩) := by
  rw [att_at]
  unfold attR
  refine Finset.sum_congr rfl fun s _ => ?_
  rw [wgt_at, exp_at, den_at, vv_at, mul_comm]

/-- A score. -/
theorem sc_at (b : Fin 8) (R : Fin 2048) (e : Fin 512) (s : Fin 256) :
    val_main_v158 (F := Ideal) x0 x1 x2 x3 x4 x5 (ix6 b (⟨R.val / 128, by omega⟩ : Fin 16) (⟨e.val / 256, by omega⟩ : Fin 2) (⟨e.val / 64 % 4, by omega⟩ : Fin 4) (⟨R.val % 128, by omega⟩ : Fin 128) s)
      = (∑ a : Fin 64, padr (PR x0 x1 x3 x4 x5 b) ⟨128 * (R.val / 128) + s.val, by omega⟩ ⟨1024 + (64 * (e.val / 256) + a.val), by omega⟩
          * PR x0 x1 x3 x4 x5 b ⟨16 + R.val, by omega⟩ ⟨512 + (64 * (e.val / 64) + a.val), by omega⟩) * Ideal.ofBits .f32 0x3E000000#32
        + x2 (ix4 (if R.val < 128 then 0 else 1) (⟨e.val / 64, by omega⟩ : Fin 8) (⟨R.val % 128, by omega⟩ : Fin 128) s) := by
  rw [score_at, bias_at]
  have hh : (⟨4 * (e.val / 256) + e.val / 64 % 4, by omega⟩ : Fin 8) = ⟨e.val / 64, by omega⟩ := Fin.ext (by show 4 * (e.val / 256) + e.val / 64 % 4 = e.val / 64; omega)
  have hz : (R.val / 128 = 0) = (R.val < 128) := propext (by omega)
  refine congrArg₂ (· + ·) (congrArg (· * _) (Finset.sum_congr rfl fun a _ => ?_)) ?_
  · rw [kk_at, qb_at]
    refine congrArg₂ (· * ·) rfl ?_
    unfold padr
    rw [dif_neg (by show ¬ 128 * (1 + R.val / 128) + R.val % 128 < 112; omega)]
    exact congrArg₂ (PR x0 x1 x3 x4 x5 b) (Fin.ext (by show 128 * (1 + R.val / 128) + R.val % 128 - 112 = 16 + R.val; omega))
      (Fin.ext (by show 512 + (256 * (e.val / 256) + 64 * (e.val / 64 % 4) + a.val) = 512 + (64 * (e.val / 64) + a.val); omega))
  · simp only [hz, hh]

/-- The attention's columns. -/
theorem attRS_at (b : Fin 8) (R : Fin 2048) (e : Fin 512) :
    val_main_v177 (F := Ideal) x0 x1 x2 x3 x4 x5 x8 (ix3 b R e)
      = attRS (PR x0 x1 x3 x4 x5 b) (fun z h r s => x2 (ix4 z h r s)) (fun h => x8 (ix2 0 h)) R e := by
  have hh : (⟨4 * (e.val / 256) + e.val / 64 % 4, by omega⟩ : Fin 8) = ⟨e.val / 64, by omega⟩ := Fin.ext (by show 4 * (e.val / 256) + e.val / 64 % 4 = e.val / 64; omega)
  rw [attR_at]
  unfold attRS
  simp only [sc_at, hh]

/-- The mixer's output as the reference computes it. -/
theorem mix_at (b : Fin 8) (R : Fin 2048) (c : Fin 1024) :
    val_main_v179 (F := Ideal) x0 x1 x2 x3 x4 x5 x6 x7 x8 (ix3 b R c)
      = mixR (PR x0 x1 x3 x4 x5 b) (fun z h r s => x2 (ix4 z h r s)) (fun h => x8 (ix2 0 h)) (WW x6) (fun e => x7 (ix2 0 e)) R c := by
  have h : val_main_v179 (F := Ideal) x0 x1 x2 x3 x4 x5 x6 x7 x8 (ix3 b R c)
      = if h : c.val < 512 then val_main_v133 (F := Ideal) x0 x1 x3 x4 x5 x6 x7 (ix3 b R (⟨c.val, h⟩ : Fin 512))
        else val_main_v177 (F := Ideal) x0 x1 x2 x3 x4 x5 x8 (ix3 b R (⟨c.val - 512, by omega⟩ : Fin 512)) := by
    pointwise [val_main_v178, val_main_v179]
  rw [h]
  unfold mixR
  by_cases hc : c.val < 512
  · rw [dif_pos hc, dif_pos hc]; exact pool_at x0 x1 x3 x4 x5 x6 x7 b R _
  · rw [dif_neg hc, dif_neg hc]; exact attRS_at x0 x1 x2 x3 x4 x5 x8 b R _

end Cert.FrontRefIdeal.Rows
-- ==== Proof.FrontRun.lean ====
module

public import proofs.«01_k».proof.Proof.FrontRowsC
public import Idealize.ShloMosaic.Lib.Claim

@[expose] public section

set_option maxRecDepth 16384

noncomputable section

namespace Cert.FrontRefIdeal.Rows

open Idealize.ShloMosaic Idealize.ShloMosaic.TcCoe Idealize.SL.Sem Idealize.ShloMosaic.StableHlo
open Cert.FrontRefIdeal Cert.FrontRefIdeal.Gen Cert.FrontRefIdeal.Read

/-- The reference's run: its results as the last stages of its arguments, its arguments unchanged. -/
theorem run_stage (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v179) = val_main_v179 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v180) = val_main_v180 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v181) = val_main_v181 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_v182) = val_main_v182 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun r h c => ⟨((h c).1.trans (val_main_v179_eq (launchContents m c))).trans (by simp only [launchContents_devRef]),
      ((h c).2.1.trans (val_main_v180_eq (launchContents m c))).trans (by simp only [launchContents_devRef]),
      ((h c).2.2.1.trans (val_main_v181_eq (launchContents m c))).trans (by simp only [launchContents_devRef]),
      ((h c).2.2.2.1.trans (val_main_v182_eq (launchContents m c))).trans (by simp only [launchContents_devRef]),
      (h c).2.2.2.2⟩)
    (Cert.FrontRefIdeal.Value.run m ρ)

end Cert.FrontRefIdeal.Rows
-- ==== Proof.FrontPre.lean ====
module

public import proofs.«01_k».proof.Pre_tame
public import proofs.«01_k».proof.Proof.FrontReal
public import Idealize.ShloMosaic.Lib.ReduceAll
public import Idealize.ShloMosaic.Lib.Decide

@[expose] public section

set_option maxRecDepth 16384

noncomputable section

namespace Cert.Pre_tame.Facts'

open Idealize.ShloMosaic Cert.Pre_tame

/-- The side conditions of the precondition. -/
theorem facts : Cert.Pre_tame.Facts where
  bcast_S_S8x2048x1024 := by decide
  reducesTo_S8x2048x1024_S_d0_1_2 := by decide
  h_S_ := by decide
  bcast_S_S16x1280 := by decide
  reducesTo_S16x1280_S_d0_1 := by decide
  bcast_S_S1024 := by decide
  reducesTo_S1024_S_d0 := by decide
  bcast_S_S1x1024x1280 := by decide
  reducesTo_S1x1024x1280_S_d0_1_2 := by decide
  bcast_S_S1x8 := by decide
  reducesTo_S1x8_S_d0_1 := by decide
  bcast_S_S2x8x128x256 := by decide
  reducesTo_S2x8x128x256_S_d0_1_2_3 := by decide

instance : Subsingleton S_.Idx := ⟨fun a b => funext fun i => i.elim0⟩

/-- The literal `+∞`. -/
theorem lit_top : Ideal.ofBits .f32 0x7F800000#32 = ⊤ := by
  simp [Ideal.ofBits, Ideal.ieee]

/-- A comparison that says yes. -/
theorem olt_one {a b : EReal} (h : FloatOps.cmpf (F := Ideal) (φ := .f32) .olt a b = 1#1) : a < b := by
  by_contra hn
  have : FloatOps.cmpf (F := Ideal) (φ := .f32) .olt a b = 0#1 := by
    show BitVec.ofBool (decide (a < b)) = 0#1
    rw [decide_eq_false hn]; rfl
  rw [this] at h
  exact absurd h (by decide)

/-- Both parts of a conjunction that says yes. -/
theorem and_one {a b : BitVec 1} (h : a &&& b = 1#1) : a = 1#1 ∧ b = 1#1 := by
  revert a b; decide

/-- An array all of whose magnitudes are below `+∞` is real. -/
theorem real_of {s : Shape} {axes : List (Fin s.rank)} (x : FVec Ideal s .f32) (hb : S_.BroadcastsInDim s (![] : Fin 0 → Fin s.rank)) (hr : s.ReducesTo axes S_) (hu : 0 < S_.numel)
    (j : S_.Idx) (e : Host.reduce IntOp.andi (cmpf (F := Ideal) .olt (Host.absf x) (broadcastInDim s ![] hb (constant S_ .f32 0x7F800000#32))) (constantI S_ 1 1#1) hr hu j = 1#1)
    (i : s.Idx) : Layer.isR (x i) := by
  have h : FloatOps.cmpf (F := Ideal) (φ := .f32) .olt (max (x i) (-(x i))) (Ideal.ofBits .f32 0x7F800000#32) = 1#1 := Host.reduce_andi_all _ _ hr hu j e i
  have h2 := olt_one h
  rw [lit_top] at h2
  refine Layer.isR_of (fun z => ?_) (fun z => ?_)
  · rw [z] at h2; exact absurd h2 (by simp)
  · rw [z] at h2; exact absurd h2 (by simp)

/-- An array whose values are all below `+∞`. -/
theorem ne_top_of {s : Shape} {axes : List (Fin s.rank)} (x : FVec Ideal s .f32) (hb : S_.BroadcastsInDim s (![] : Fin 0 → Fin s.rank)) (hr : s.ReducesTo axes S_) (hu : 0 < S_.numel)
    (j : S_.Idx) (e : Host.reduce IntOp.andi (cmpf (F := Ideal) .olt x (broadcastInDim s ![] hb (constant S_ .f32 0x7F800000#32))) (constantI S_ 1 1#1) hr hu j = 1#1)
    (i : s.Idx) : x i ≠ ⊤ := by
  have h : FloatOps.cmpf (F := Ideal) (φ := .f32) .olt (x i) (Ideal.ofBits .f32 0x7F800000#32) = 1#1 := Host.reduce_andi_all _ _ hr hu j e i
  have h2 := olt_one h
  rw [lit_top] at h2
  exact h2.ne

variable [hF : Cert.Pre_tame.Facts]

/-- What the precondition says. -/
theorem tame_says (x0 : FVec Ideal S8x2048x1024 .f32) (x1 : FVec Ideal S16x1280 .f32) (x2 : FVec Ideal S2x8x128x256 .f32) (x3 x4 : FVec Ideal S1024 .f32)
    (x5 : FVec Ideal S1x1024x1280 .f32) (x6 : FVec Ideal S1x4x128x128 .f32) (x7 : FVec Ideal S1x512 .f32) (x8 : FVec Ideal S1x8 .f32)
    (h : Cert.Pre_tame.fn (F := Ideal) x0 x1 x2 x3 x4 x5 x6 x7 x8 = fun _ => 1#1) :
    (∀ i, Layer.isR (x0 i)) ∧ (∀ i, Layer.isR (x1 i)) ∧ (∀ i, x2 i ≠ ⊤) ∧ (∀ i, Layer.isR (x3 i)) ∧ (∀ i, Layer.isR (x4 i)) ∧ (∀ i, Layer.isR (x5 i)) ∧ (∀ i, Layer.isR (x8 i)) := by
  have e := congrFun h ((fun a => a.elim0) : S_.Idx)
  unfold Cert.Pre_tame.fn Cert.Pre_tame.fn_part1 at e
  obtain ⟨e, e8⟩ := and_one e
  obtain ⟨e, e5⟩ := and_one e
  obtain ⟨e, e4⟩ := and_one e
  obtain ⟨e, e3⟩ := and_one e
  obtain ⟨e, e1⟩ := and_one e
  obtain ⟨e2, e0⟩ := and_one e
  exact ⟨real_of x0 _ _ _ _ e0, real_of x1 _ _ _ _ e1, ne_top_of x2 _ _ _ _ e2, real_of x3 _ _ _ _ e3, real_of x4 _ _ _ _ e4, real_of x5 _ _ _ _ e5, real_of x8 _ _ _ _ e8⟩

end Cert.Pre_tame.Facts'
-- ==== Proof.FrontClaim.lean ====
module

public import proofs.«01_k».proof.Defs
public import proofs.«01_k».proof.Proof.FrontVal
public import proofs.«01_k».proof.Proof.FrontRun
public import proofs.«01_k».proof.Proof.FrontPre
public import Idealize.ShloMosaic.Lib.Claim

@[expose] public section

set_option maxRecDepth 16384

noncomputable section

namespace Cert.Layer

open Idealize.ShloMosaic Idealize.ShloMosaic.TcCoe Idealize.SL.Sem

section
variable (x0 : FVec Ideal Cert.FrontIdeal.S8x2048x1024 .f32) (x1 : FVec Ideal Cert.FrontIdeal.S16x1280 .f32) (x2 : FVec Ideal Cert.FrontIdeal.S2x8x128x256 .f32)
  (x3 x4 : FVec Ideal Cert.FrontIdeal.S1024 .f32) (x5 : FVec Ideal Cert.FrontIdeal.S1x1024x1280 .f32) (x6 : FVec Ideal Cert.FrontIdeal.S1x4x128x128 .f32)
  (x7 : FVec Ideal Cert.FrontIdeal.S1x512 .f32) (x8 : FVec Ideal Cert.FrontIdeal.S1x8 .f32)

/-- The mixer's output over tame arguments: the reference's is the kernel's. -/
theorem mix_whole [hF : Cert.Pre_tame.Facts] (h : Cert.Pre_tame.fn (F := Ideal) x0 x1 x2 x3 x4 x5 x6 x7 x8 = fun _ => 1#1) :
    Cert.FrontRefIdeal.Read.val_main_v179 (F := Ideal) x0 x1 x2 x3 x4 x5 x6 x7 x8
      = fun i => mixS (Cert.FrontRefIdeal.Rows.PR x0 x1 x3 x4 x5 (i 0)) (fun z h r s => x2 (ix4 z h r s)) (fun h => x8 (ix2 0 h))
          (Cert.FrontRefIdeal.Rows.WW x6) (fun e => x7 (ix2 0 e)) (i 1) (i 2) := by
  obtain ⟨h0, h1, h2, h3, h4, h5, h8⟩ := Cert.Pre_tame.Facts'.tame_says x0 x1 x2 x3 x4 x5 x6 x7 x8 h
  funext i
  obtain ⟨b, R, c, rfl⟩ : ∃ (b : Fin 8) (R : Fin 2048) (c : Fin 1024), i = ix3 b R c := ⟨i 0, i 1, i 2, eq_ix3 i⟩
  refine (Cert.FrontRefIdeal.Rows.mix_at x0 x1 x2 x3 x4 x5 x6 x7 x8 b R c).trans (mix_ref _ _ ?_ (fun z h r s => h2 _) (fun h => h8 _) R c).symm
  exact fun n e => isR_projr (fun _ _ => h1 _) (fun _ _ => h0 _) (fun _ => h3 _) (fun _ => h4 _) (fun _ _ => h5 _) n e

/-- The other results are rows of the projections. -/
theorem nk_whole : Cert.FrontRefIdeal.Read.val_main_v180 (F := Ideal) x0 x1 x3 x4 x5
    = fun i : Cert.FrontIdeal.S8x128x128.Idx => Cert.FrontRefIdeal.Rows.PR x0 x1 x3 x4 x5 (i 0) ⟨1936 + (i 1).val, by have h : (i 1).val < 128 := (i 1).isLt; omega⟩ ⟨1024 + (i 2).val, by have h : (i 2).val < 128 := (i 2).isLt; omega⟩ := by
  funext i
  obtain ⟨b, r, e, rfl⟩ : ∃ (b : Fin 8) (r : Fin 128) (e : Fin 128), i = ix3 b r e := ⟨i 0, i 1, i 2, eq_ix3 i⟩
  exact Cert.FrontRefIdeal.Rows.nk_at x0 x1 x3 x4 x5 b r e
theorem nv_whole : Cert.FrontRefIdeal.Read.val_main_v181 (F := Ideal) x0 x1 x3 x4 x5
    = fun i : Cert.FrontIdeal.S8x128x128.Idx => Cert.FrontRefIdeal.Rows.PR x0 x1 x3 x4 x5 (i 0) ⟨1936 + (i 1).val, by have h : (i 1).val < 128 := (i 1).isLt; omega⟩ ⟨1152 + (i 2).val, by have h : (i 2).val < 128 := (i 2).isLt; omega⟩ := by
  funext i
  obtain ⟨b, r, e, rfl⟩ : ∃ (b : Fin 8) (r : Fin 128) (e : Fin 128), i = ix3 b r e := ⟨i 0, i 1, i 2, eq_ix3 i⟩
  exact Cert.FrontRefIdeal.Rows.nv_at x0 x1 x3 x4 x5 b r e
theorem np_whole : Cert.FrontRefIdeal.Read.val_main_v182 (F := Ideal) x0 x1 x3 x4 x5
    = fun i : Cert.FrontIdeal.S8x16x512.Idx => Cert.FrontRefIdeal.Rows.PR x0 x1 x3 x4 x5 (i 0) ⟨2048 + (i 1).val, by have h : (i 1).val < 16 := (i 1).isLt; omega⟩ ⟨(i 2).val, by have h : (i 2).val < 512 := (i 2).isLt; omega⟩ := by
  funext i
  obtain ⟨b, r, e, rfl⟩ : ∃ (b : Fin 8) (r : Fin 16) (e : Fin 512), i = ix3 b r e := ⟨i 0, i 1, i 2, eq_ix3 i⟩
  exact Cert.FrontRefIdeal.Rows.np_at x0 x1 x3 x4 x5 b r e
end

/-- The kernel's run leaves result 0's window. -/
theorem run_out0 (m : (ℓ : Loc Cert.FrontIdeal.nD Cert.FrontIdeal.τ Cert.FrontIdeal.sig) → Buf (Elt Ideal) ℓ) (g : Dev Cert.FrontIdeal.nD → PrngReg) :
    θ_run (Cert.FrontIdeal.defs (F := Ideal)) (onTc (τ := Cert.FrontIdeal.τ) (Cert.FrontIdeal.main (F := Ideal))) ⟨m, fun _ => 0, g⟩ (fun r => ∀ c : Dev Cert.FrontIdeal.nD, r.2.mem ((c.tc : Thread Cert.FrontIdeal.nD Cert.FrontIdeal.τ).loc Cert.FrontIdeal.main_v10_0) = Cert.FrontIdeal.Out.mixW m c) := by
  run_from Cert.FrontIdeal.Gen.run_main m g
  exact Cert.FrontIdeal.Out.final9 m c

/-- The kernel's run leaves result 1's window. -/
theorem run_out1 (m : (ℓ : Loc Cert.FrontIdeal.nD Cert.FrontIdeal.τ Cert.FrontIdeal.sig) → Buf (Elt Ideal) ℓ) (g : Dev Cert.FrontIdeal.nD → PrngReg) :
    θ_run (Cert.FrontIdeal.defs (F := Ideal)) (onTc (τ := Cert.FrontIdeal.τ) (Cert.FrontIdeal.main (F := Ideal))) ⟨m, fun _ => 0, g⟩ (fun r => ∀ c : Dev Cert.FrontIdeal.nD, r.2.mem ((c.tc : Thread Cert.FrontIdeal.nD Cert.FrontIdeal.τ).loc Cert.FrontIdeal.main_v10_1) = Cert.FrontIdeal.Out.nkW m c) := by
  run_from Cert.FrontIdeal.Gen.run_main m g
  exact Cert.FrontIdeal.Out.final10 m c

/-- The kernel's run leaves result 2's window. -/
theorem run_out2 (m : (ℓ : Loc Cert.FrontIdeal.nD Cert.FrontIdeal.τ Cert.FrontIdeal.sig) → Buf (Elt Ideal) ℓ) (g : Dev Cert.FrontIdeal.nD → PrngReg) :
    θ_run (Cert.FrontIdeal.defs (F := Ideal)) (onTc (τ := Cert.FrontIdeal.τ) (Cert.FrontIdeal.main (F := Ideal))) ⟨m, fun _ => 0, g⟩ (fun r => ∀ c : Dev Cert.FrontIdeal.nD, r.2.mem ((c.tc : Thread Cert.FrontIdeal.nD Cert.FrontIdeal.τ).loc Cert.FrontIdeal.main_v10_2) = Cert.FrontIdeal.Out.nvW m c) := by
  run_from Cert.FrontIdeal.Gen.run_main m g
  exact Cert.FrontIdeal.Out.final11 m c

/-- The kernel's run leaves result 3's window. -/
theorem run_out3 (m : (ℓ : Loc Cert.FrontIdeal.nD Cert.FrontIdeal.τ Cert.FrontIdeal.sig) → Buf (Elt Ideal) ℓ) (g : Dev Cert.FrontIdeal.nD → PrngReg) :
    θ_run (Cert.FrontIdeal.defs (F := Ideal)) (onTc (τ := Cert.FrontIdeal.τ) (Cert.FrontIdeal.main (F := Ideal))) ⟨m, fun _ => 0, g⟩ (fun r => ∀ c : Dev Cert.FrontIdeal.nD, r.2.mem ((c.tc : Thread Cert.FrontIdeal.nD Cert.FrontIdeal.τ).loc Cert.FrontIdeal.main_v10_3) = Cert.FrontIdeal.Out.npW m c) := by
  run_from Cert.FrontIdeal.Gen.run_main m g
  exact Cert.FrontIdeal.Out.final12 m c

/-- The kernel's run: its results as the whole arrays of its arguments, its arguments unchanged. -/
theorem run_kernel (m : (ℓ : Loc Cert.FrontIdeal.nD Cert.FrontIdeal.τ Cert.FrontIdeal.sig) → Buf (Elt Ideal) ℓ) (g : Dev Cert.FrontIdeal.nD → PrngReg) :
    θ_run (Cert.FrontIdeal.defs (F := Ideal)) (onTc (τ := Cert.FrontIdeal.τ) (Cert.FrontIdeal.main (F := Ideal))) ⟨m, fun _ => 0, g⟩ (fun r => ∀ c : Dev Cert.FrontIdeal.nD,
      r.2.mem ((c.tc : Thread Cert.FrontIdeal.nD Cert.FrontIdeal.τ).loc Cert.FrontIdeal.main_v10_0) = Cert.FrontIdeal.Out.mixW m c
      ∧ r.2.mem ((c.tc : Thread Cert.FrontIdeal.nD Cert.FrontIdeal.τ).loc Cert.FrontIdeal.main_v10_1) = Cert.FrontIdeal.Out.nkW m c
      ∧ r.2.mem ((c.tc : Thread Cert.FrontIdeal.nD Cert.FrontIdeal.τ).loc Cert.FrontIdeal.main_v10_2) = Cert.FrontIdeal.Out.nvW m c
      ∧ r.2.mem ((c.tc : Thread Cert.FrontIdeal.nD Cert.FrontIdeal.τ).loc Cert.FrontIdeal.main_v10_3) = Cert.FrontIdeal.Out.npW m c
      ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)) :=
  (θ_run _ _ _).mono (fun r h c => ⟨h.1 c, h.2.1 c, h.2.2.1 c, h.2.2.2.1 c, h.2.2.2.2 c⟩)
    (θ_run_and (run_out0 m g) (θ_run_and (run_out1 m g) (θ_run_and (run_out2 m g) (θ_run_and (run_out3 m g) (Cert.FrontIdeal.Gen.unchanged m g)))))

/-- The reference's stage over the kernel's arguments. -/
theorem st0 (m : (ℓ : Loc Cert.FrontIdeal.nD Cert.FrontIdeal.τ Cert.FrontIdeal.sig) → Buf (Elt Ideal) ℓ) (c : Dev Cert.FrontIdeal.nD) (hpre : Cert.Pre_FrontIdeal_tame (hPre_tame := Cert.Pre_tame.Facts'.facts) m) :
    Cert.FrontRefIdeal.Read.val_main_v179 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) = Cert.FrontIdeal.Out.mixW m c :=
  @mix_whole _ _ _ _ _ _ _ _ _ Cert.Pre_tame.Facts'.facts (hpre c)

/-- The reference's stage over the kernel's arguments. -/
theorem st1 (m : (ℓ : Loc Cert.FrontIdeal.nD Cert.FrontIdeal.τ Cert.FrontIdeal.sig) → Buf (Elt Ideal) ℓ) (c : Dev Cert.FrontIdeal.nD) :
    Cert.FrontRefIdeal.Read.val_main_v180 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) = Cert.FrontIdeal.Out.nkW m c :=
  nk_whole _ _ _ _ _

/-- The reference's stage over the kernel's arguments. -/
theorem st2 (m : (ℓ : Loc Cert.FrontIdeal.nD Cert.FrontIdeal.τ Cert.FrontIdeal.sig) → Buf (Elt Ideal) ℓ) (c : Dev Cert.FrontIdeal.nD) :
    Cert.FrontRefIdeal.Read.val_main_v181 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) = Cert.FrontIdeal.Out.nvW m c :=
  nv_whole _ _ _ _ _

/-- The reference's stage over the kernel's arguments. -/
theorem st3 (m : (ℓ : Loc Cert.FrontIdeal.nD Cert.FrontIdeal.τ Cert.FrontIdeal.sig) → Buf (Elt Ideal) ℓ) (c : Dev Cert.FrontIdeal.nD) :
    Cert.FrontRefIdeal.Read.val_main_v182 (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) = Cert.FrontIdeal.Out.npW m c :=
  np_whole _ _ _ _ _

/-- The front call and its reference compute the same results over tame arguments. -/
theorem algebraic_front : Cert.algebraic_FrontIdeal_FrontRefIdeal_pre_tame
    (hFrontIdeal := Cert.FrontIdeal.Gen.facts) (hFrontRefIdeal := Cert.FrontRefIdeal.Gen.facts) (hPre_tame := Cert.Pre_tame.Facts'.facts) := by
  intro m g m' g' hpre hagree
  refine ⟨fun c => Cert.FrontIdeal.Out.mixW m c, fun c => Cert.FrontIdeal.Out.nkW m c, fun c => Cert.FrontIdeal.Out.nvW m c, fun c => Cert.FrontIdeal.Out.npW m c, run_kernel m g, ?_⟩
  refine (θ_run _ _ _).mono (fun r h c => ?_) (Cert.FrontRefIdeal.Rows.run_stage m' g')
  obtain ⟨a0, a1, a2, a3, a4, a5, a6, a7, a8⟩ := hagree c
  obtain ⟨r0, r1, r2, r3, h⟩ := h c
  refine ⟨r0.trans ?_, r1.trans ?_, r2.trans ?_, r3.trans ?_, h⟩
  · rw [a0, a1, a2, a3, a4, a5, a6, a7, a8]; exact st0 m c hpre
  · rw [a0, a1, a3, a4, a5]; exact st1 m c
  · rw [a0, a1, a3, a4, a5]; exact st2 m c
  · rw [a0, a1, a3, a4, a5]; exact st3 m c

end Cert.Layer
-- ==== Proof.lean ====
module

public import proofs.«01_k».proof.Defs
public import proofs.«01_k».proof.Proof.Gen.Front
public import proofs.«01_k».proof.Proof.Gen.Front.Frame
public import proofs.«01_k».proof.Proof.Gen.FrontIdeal
public import proofs.«01_k».proof.Proof.Gen.FrontIdeal.Frame
public import proofs.«01_k».proof.Proof.Gen.FrontRefIdeal
public import proofs.«01_k».proof.Proof.Gen.FrontRefIdeal.Run
public import proofs.«01_k».proof.Proof.Gen.FrontRefIdeal.Read
public import proofs.«01_k».proof.Proof.Gen.FinishRefIdeal.Read
public import proofs.«01_k».proof.Proof.Gen.Finish
public import proofs.«01_k».proof.Proof.Gen.Finish.Frame
public import proofs.«01_k».proof.Proof.Gen.FinishIdeal
public import proofs.«01_k».proof.Proof.Gen.FinishIdeal.Frame
public import proofs.«01_k».proof.Proof.Gen.FinishRefIdeal
public import proofs.«01_k».proof.Proof.Gen.FinishRefIdeal.Run
public import proofs.«01_k».proof.Proof.Gen.Sample
public import proofs.«01_k».proof.Proof.Gen.Sample.Frame
public import proofs.«01_k».proof.Proof.Gen.SampleIdeal
public import proofs.«01_k».proof.Proof.Gen.SampleIdeal.Frame
public import proofs.«01_k».proof.Proof.Gen.SampleRefIdeal
public import proofs.«01_k».proof.Proof.Gen.SampleRefIdeal.Run
public import proofs.«01_k».proof.Proof.Gen.SampleRefIdeal.Read
public import proofs.«01_k».proof.Proof.FinishClaim
public import proofs.«01_k».proof.Proof.SampleClaim
public import proofs.«01_k».proof.Proof.FrontClaim
public import Idealize.ShloMosaic.Adequacy
public import Idealize.ShloMosaic.Init

@[expose] public section

noncomputable section

namespace Cert.Proof

open Idealize.ShloMosaic Idealize.SL.Sem

/-- The front call's reference runs, leaves its arguments unchanged, and ends with every semaphore at zero. -/
theorem frame_FrontRef : Cert.quiescent_FrontRefIdeal (hFrontRefIdeal := Cert.FrontRefIdeal.Gen.facts) := fun m ρ _ =>
  (θ_run _ _ _).mono (fun r h => ⟨fun c => (h c).2.2.2.2, Idealize.ShloMosaic.sem_eq_zero_of_no_sems (by decide) r.2⟩) (Cert.FrontRefIdeal.Value.run m ρ)

/-- The finishing call's reference runs, leaves its arguments unchanged, and ends with every semaphore at zero. -/
theorem frame_FinishRef : Cert.quiescent_FinishRefIdeal (hFinishRefIdeal := Cert.FinishRefIdeal.Gen.facts) := fun m ρ _ =>
  (θ_run _ _ _).mono (fun r h => ⟨fun c => (h c).2, Idealize.ShloMosaic.sem_eq_zero_of_no_sems (by decide) r.2⟩) (Cert.FinishRefIdeal.Value.run m ρ)

/-- The sample group's reference runs, leaves its arguments unchanged, and ends with every semaphore at zero. -/
theorem frame_SampleRef : Cert.quiescent_SampleRefIdeal (hSampleRefIdeal := Cert.SampleRefIdeal.Gen.facts) := fun m ρ _ =>
  (θ_run _ _ _).mono (fun r h => ⟨fun c => (h c).2, Idealize.ShloMosaic.sem_eq_zero_of_no_sems (by decide) r.2⟩) (Cert.SampleRefIdeal.Value.run m ρ)

/-- Everything claimed of the front call and the two finishing calls. -/
theorem claim : Cert.Claim := ⟨Cert.Front.Gen.facts, Cert.FrontIdeal.Gen.facts, Cert.FrontRefIdeal.Gen.facts, Cert.Finish.Gen.facts, Cert.FinishIdeal.Gen.facts, Cert.FinishRefIdeal.Gen.facts, Cert.Sample.Gen.facts, Cert.SampleIdeal.Gen.facts, Cert.SampleRefIdeal.Gen.facts, Cert.Pre_tame.Facts'.facts,
  fun m ρ _ => Cert.Front.Gen.frame m ρ, fun m ρ _ => Cert.FrontIdeal.Gen.frame m ρ, fun m ρ _ => Cert.FrontIdeal.Gen.frame m ρ,
  frame_FrontRef, fun m ρ _ => frame_FrontRef m ρ trivial,
  fun m ρ _ => Cert.Finish.Gen.frame m ρ, fun m ρ _ => Cert.FinishIdeal.Gen.frame m ρ, frame_FinishRef,
  fun m ρ _ => Cert.Sample.Gen.frame m ρ, fun m ρ _ => Cert.SampleIdeal.Gen.frame m ρ, frame_SampleRef,
  trivial, Cert.Layer.algebraic_front, trivial, Cert.Layer.algebraic_finish, trivial, Cert.Layer.algebraic_sample⟩

end Cert.Proof

end
